-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_KvDown (m : (ℓ : Loc Cert.KvDown.nD Cert.KvDown.τ Cert.KvDown.sig) → Buf (Elt Bits) ℓ) : Prop :=
  True

def Pre_KvDownIdeal (m : (ℓ : Loc Cert.KvDownIdeal.nD Cert.KvDownIdeal.τ Cert.KvDownIdeal.sig) → Buf (Elt Ideal) ℓ) : Prop :=
  True

def Pre_KvDownRefIdeal (m : (ℓ : Loc Cert.KvDownRefIdeal.nD Cert.KvDownRefIdeal.τ Cert.KvDownRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemA (m : (ℓ : Loc Cert.MemA.nD Cert.MemA.τ Cert.MemA.sig) → Buf (Elt Bits) ℓ) : Prop :=
  True

def Pre_MemAIdeal (m : (ℓ : Loc Cert.MemAIdeal.nD Cert.MemAIdeal.τ Cert.MemAIdeal.sig) → Buf (Elt Ideal) ℓ) : Prop :=
  True

def Pre_MemAIdeal_finite_a [hPre_finite_a : Cert.Pre_finite_a.Facts] (m : (ℓ : Loc Cert.MemAIdeal.nD Cert.MemAIdeal.τ Cert.MemAIdeal.sig) → Buf (Elt Ideal) ℓ) : Prop :=
  ∀ c : Dev Cert.MemAIdeal.nD,
    (Cert.Pre_finite_a.fn (F := Ideal) (m ((c.tc : Thread Cert.MemAIdeal.nD Cert.MemAIdeal.τ).loc Cert.MemAIdeal.main_arg0)) (m ((c.tc : Thread Cert.MemAIdeal.nD Cert.MemAIdeal.τ).loc Cert.MemAIdeal.main_arg1)) (m ((c.tc : Thread Cert.MemAIdeal.nD Cert.MemAIdeal.τ).loc Cert.MemAIdeal.main_arg2))) = (fun _ => 1#1)

def Pre_MemARefIdeal (m : (ℓ : Loc Cert.MemARefIdeal.nD Cert.MemARefIdeal.τ Cert.MemARefIdeal.sig) → Buf (Elt Ideal) ℓ) : Prop :=
  True

def Pre_MemARefIdeal_finite_a [hPre_finite_a : Cert.Pre_finite_a.Facts] (m : (ℓ : Loc Cert.MemARefIdeal.nD Cert.MemARefIdeal.τ Cert.MemARefIdeal.sig) → Buf (Elt Ideal) ℓ) : Prop :=
  ∀ c : Dev Cert.MemARefIdeal.nD,
    (Cert.Pre_finite_a.fn (F := Ideal) (m ((c.tc : Thread Cert.MemARefIdeal.nD Cert.MemARefIdeal.τ).loc Cert.MemARefIdeal.main_arg0)) (m ((c.tc : Thread Cert.MemARefIdeal.nD Cert.MemARefIdeal.τ).loc Cert.MemARefIdeal.main_arg1)) (m ((c.tc : Thread Cert.MemARefIdeal.nD Cert.MemARefIdeal.τ).loc Cert.MemARefIdeal.main_arg2))) = (fun _ => 1#1)

def Pre_MemB (m : (ℓ : Loc Cert.MemB.nD Cert.MemB.τ Cert.MemB.sig) → Buf (Elt Bits) ℓ) : Prop :=
  True

def Pre_MemBIdeal (m : (ℓ : Loc Cert.MemBIdeal.nD Cert.MemBIdeal.τ Cert.MemBIdeal.sig) → Buf (Elt Ideal) ℓ) : Prop :=
  True

def Pre_MemBIdeal_finite_b [hPre_finite_b : Cert.Pre_finite_b.Facts] (m : (ℓ : Loc Cert.MemBIdeal.nD Cert.MemBIdeal.τ Cert.MemBIdeal.sig) → Buf (Elt Ideal) ℓ) : Prop :=
  ∀ c : Dev Cert.MemBIdeal.nD,
    (Cert.Pre_finite_b.fn (F := Ideal) (m ((c.tc : Thread Cert.MemBIdeal.nD Cert.MemBIdeal.τ).loc Cert.MemBIdeal.main_arg0)) (m ((c.tc : Thread Cert.MemBIdeal.nD Cert.MemBIdeal.τ).loc Cert.MemBIdeal.main_arg1)) (m ((c.tc : Thread Cert.MemBIdeal.nD Cert.MemBIdeal.τ).loc Cert.MemBIdeal.main_arg2))) = (fun _ => 1#1)

def Pre_MemBRefIdeal (m : (ℓ : Loc Cert.MemBRefIdeal.nD Cert.MemBRefIdeal.τ Cert.MemBRefIdeal.sig) → Buf (Elt Ideal) ℓ) : Prop :=
  True

def Pre_MemBRefIdeal_finite_b [hPre_finite_b : Cert.Pre_finite_b.Facts] (m : (ℓ : Loc Cert.MemBRefIdeal.nD Cert.MemBRefIdeal.τ Cert.MemBRefIdeal.sig) → Buf (Elt Ideal) ℓ) : Prop :=
  ∀ c : Dev Cert.MemBRefIdeal.nD,
    (Cert.Pre_finite_b.fn (F := Ideal) (m ((c.tc : Thread Cert.MemBRefIdeal.nD Cert.MemBRefIdeal.τ).loc Cert.MemBRefIdeal.main_arg0)) (m ((c.tc : Thread Cert.MemBRefIdeal.nD Cert.MemBRefIdeal.τ).loc Cert.MemBRefIdeal.main_arg1)) (m ((c.tc : Thread Cert.MemBRefIdeal.nD Cert.MemBRefIdeal.τ).loc Cert.MemBRefIdeal.main_arg2))) = (fun _ => 1#1)

def Pre_NormOne (m : (ℓ : Loc Cert.NormOne.nD Cert.NormOne.τ Cert.NormOne.sig) → Buf (Elt Bits) ℓ) : Prop :=
  True

def Pre_NormOneIdeal (m : (ℓ : Loc Cert.NormOneIdeal.nD Cert.NormOneIdeal.τ Cert.NormOneIdeal.sig) → Buf (Elt Ideal) ℓ) : Prop :=
  True

def Pre_NormOneRefIdeal (m : (ℓ : Loc Cert.NormOneRefIdeal.nD Cert.NormOneRefIdeal.τ Cert.NormOneRefIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoRefIdeal (m : (ℓ : Loc Cert.NormTwoRefIdeal.nD Cert.NormTwoRefIdeal.τ Cert.NormTwoRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3)
      ∧ r.2.mem ((c.tc : Thread Cert.QProj.nD Cert.QProj.τ).loc Cert.QProj.main_arg4) = m ((c.tc : Thread Cert.QProj.nD Cert.QProj.τ).loc Cert.QProj.main_arg4)
      ∧ r.2.mem ((c.tc : Thread Cert.QProj.nD Cert.QProj.τ).loc Cert.QProj.main_arg5) = m ((c.tc : Thread Cert.QProj.nD Cert.QProj.τ).loc Cert.QProj.main_arg5))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
      ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4)
      ∧ r.2.mem ((c.tc : Thread Cert.QProjIdeal.nD Cert.QProjIdeal.τ).loc Cert.QProjIdeal.main_arg5) = m ((c.tc : Thread Cert.QProjIdeal.nD Cert.QProjIdeal.τ).loc Cert.QProjIdeal.main_arg5))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3)
      ∧ r.2.mem ((c.tc : Thread Cert.QProjRefIdeal.nD Cert.QProjRefIdeal.τ).loc Cert.QProjRefIdeal.main_arg4) = m ((c.tc : Thread Cert.QProjRefIdeal.nD Cert.QProjRefIdeal.τ).loc Cert.QProjRefIdeal.main_arg4)
      ∧ r.2.mem ((c.tc : Thread Cert.QProjRefIdeal.nD Cert.QProjRefIdeal.τ).loc Cert.QProjRefIdeal.main_arg5) = m ((c.tc : Thread Cert.QProjRefIdeal.nD Cert.QProjRefIdeal.τ).loc Cert.QProjRefIdeal.main_arg5))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2)
      ∧ r.2.mem ((c.tc : Thread Cert.KvUp.nD Cert.KvUp.τ).loc Cert.KvUp.main_arg3) = m ((c.tc : Thread Cert.KvUp.nD Cert.KvUp.τ).loc Cert.KvUp.main_arg3))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
      ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2)
      ∧ r.2.mem ((c.tc : Thread Cert.KvUpRefIdeal.nD Cert.KvUpRefIdeal.τ).loc Cert.KvUpRefIdeal.main_arg3) = m ((c.tc : Thread Cert.KvUpRefIdeal.nD Cert.KvUpRefIdeal.τ).loc Cert.KvUpRefIdeal.main_arg3))
      ∧ r.2.sem = fun _ => 0)

def quiescent_KvDown [hKvDown : Cert.KvDown.Facts] : Prop :=
  ∀ (m : (ℓ : Loc Cert.KvDown.nD Cert.KvDown.τ Cert.KvDown.sig) → Buf (Elt Bits) ℓ) (g : Dev Cert.KvDown.nD → PrngReg), Pre_KvDown m →
    θ_run (Cert.KvDown.defs (F := Bits)) (onTc (τ := Cert.KvDown.τ) (Cert.KvDown.main (F := Bits))) ⟨m, fun _ => 0, g⟩ (fun r => (∀ c : Dev Cert.KvDown.nD,
      r.2.mem ((c.tc : Thread Cert.KvDown.nD Cert.KvDown.τ).loc Cert.KvDown.main_arg0) = m ((c.tc : Thread Cert.KvDown.nD Cert.KvDown.τ).loc Cert.KvDown.main_arg0)
      ∧ r.2.mem ((c.tc : Thread Cert.KvDown.nD Cert.KvDown.τ).loc Cert.KvDown.main_arg1) = m ((c.tc : Thread Cert.KvDown.nD Cert.KvDown.τ).loc Cert.KvDown.main_arg1)
      ∧ r.2.mem ((c.tc : Thread Cert.KvDown.nD Cert.KvDown.τ).loc Cert.KvDown.main_arg2) = m ((c.tc : Thread Cert.KvDown.nD Cert.KvDown.τ).loc Cert.KvDown.main_arg2)
      ∧ r.2.mem ((c.tc : Thread Cert.KvDown.nD Cert.KvDown.τ).loc Cert.KvDown.main_arg3) = m ((c.tc : Thread Cert.KvDown.nD Cert.KvDown.τ).loc Cert.KvDown.main_arg3)
      ∧ r.2.mem ((c.tc : Thread Cert.KvDown.nD Cert.KvDown.τ).loc Cert.KvDown.main_arg4) = m ((c.tc : Thread Cert.KvDown.nD Cert.KvDown.τ).loc Cert.KvDown.main_arg4))
      ∧ r.2.sem = fun _ => 0)

def quiescent_KvDownIdeal [hKvDownIdeal : Cert.KvDownIdeal.Facts] : Prop :=
  ∀ (m : (ℓ : Loc Cert.KvDownIdeal.nD Cert.KvDownIdeal.τ Cert.KvDownIdeal.sig) → Buf (Elt Ideal) ℓ) (g : Dev Cert.KvDownIdeal.nD → PrngReg), Pre_KvDownIdeal m →
    θ_run (Cert.KvDownIdeal.defs (F := Ideal)) (onTc (τ := Cert.KvDownIdeal.τ) (Cert.KvDownIdeal.main (F := Ideal))) ⟨m, fun _ => 0, g⟩ (fun r => (∀ c : Dev Cert.KvDownIdeal.nD,
      r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
      ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
      ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
      ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3)
      ∧ r.2.mem ((c.tc : Thread Cert.KvDownIdeal.nD Cert.KvDownIdeal.τ).loc Cert.KvDownIdeal.main_arg4) = m ((c.tc : Thread Cert.KvDownIdeal.nD Cert.KvDownIdeal.τ).loc Cert.KvDownIdeal.main_arg4))
      ∧ r.2.sem = fun _ => 0)

def quiescent_KvDownRefIdeal [hKvDownRefIdeal : Cert.KvDownRefIdeal.Facts] : Prop :=
  ∀ (m : (ℓ : Loc Cert.KvDownRefIdeal.nD Cert.KvDownRefIdeal.τ Cert.KvDownRefIdeal.sig) → Buf (Elt Ideal) ℓ) (g : Dev Cert.KvDownRefIdeal.nD → PrngReg), Pre_KvDownRefIdeal m →
    θ_run (Cert.KvDownRefIdeal.defs (F := Ideal)) (onTc (τ := Cert.KvDownRefIdeal.τ) (Cert.KvDownRefIdeal.main (F := Ideal))) ⟨m, fun _ => 0, g⟩ (fun r => (∀ c : Dev Cert.KvDownRefIdeal.nD,
      r.2.mem ((c.tc : Thread Cert.KvDownRefIdeal.nD Cert.KvDownRefIdeal.τ).loc Cert.KvDownRefIdeal.main_arg0) = m ((c.tc : Thread Cert.KvDownRefIdeal.nD Cert.KvDownRefIdeal.τ).loc Cert.KvDownRefIdeal.main_arg0)
      ∧ r.2.mem ((c.tc : Thread Cert.KvDownRefIdeal.nD Cert.KvDownRefIdeal.τ).loc Cert.KvDownRefIdeal.main_arg1) = m ((c.tc : Thread Cert.KvDownRefIdeal.nD Cert.KvDownRefIdeal.τ).loc Cert.KvDownRefIdeal.main_arg1)
      ∧ r.2.mem ((c.tc : Thread Cert.KvDownRefIdeal.nD Cert.KvDownRefIdeal.τ).loc Cert.KvDownRefIdeal.main_arg2) = m ((c.tc : Thread Cert.KvDownRefIdeal.nD Cert.KvDownRefIdeal.τ).loc Cert.KvDownRefIdeal.main_arg2)
      ∧ r.2.mem ((c.tc : Thread Cert.KvDownRefIdeal.nD Cert.KvDownRefIdeal.τ).loc Cert.KvDownRefIdeal.main_arg3) = m ((c.tc : Thread Cert.KvDownRefIdeal.nD Cert.KvDownRefIdeal.τ).loc Cert.KvDownRefIdeal.main_arg3)
      ∧ r.2.mem ((c.tc : Thread Cert.KvDownRefIdeal.nD Cert.KvDownRefIdeal.τ).loc Cert.KvDownRefIdeal.main_arg4) = m ((c.tc : Thread Cert.KvDownRefIdeal.nD Cert.KvDownRefIdeal.τ).loc Cert.KvDownRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemA [hMemA : Cert.MemA.Facts] : Prop :=
  ∀ (m : (ℓ : Loc Cert.MemA.nD Cert.MemA.τ Cert.MemA.sig) → Buf (Elt Bits) ℓ) (g : Dev Cert.MemA.nD → PrngReg), Pre_MemA m →
    θ_run (Cert.MemA.defs (F := Bits)) (onTc (τ := Cert.MemA.τ) (Cert.MemA.main (F := Bits))) ⟨m, fun _ => 0, g⟩ (fun r => (∀ c : Dev Cert.MemA.nD,
      r.2.mem ((c.tc : Thread Cert.MemA.nD Cert.MemA.τ).loc Cert.MemA.main_arg0) = m ((c.tc : Thread Cert.MemA.nD Cert.MemA.τ).loc Cert.MemA.main_arg0)
      ∧ r.2.mem ((c.tc : Thread Cert.MemA.nD Cert.MemA.τ).loc Cert.MemA.main_arg1) = m ((c.tc : Thread Cert.MemA.nD Cert.MemA.τ).loc Cert.MemA.main_arg1)
      ∧ r.2.mem ((c.tc : Thread Cert.MemA.nD Cert.MemA.τ).loc Cert.MemA.main_arg2) = m ((c.tc : Thread Cert.MemA.nD Cert.MemA.τ).loc Cert.MemA.main_arg2))
      ∧ r.2.sem = fun _ => 0)

def quiescent_MemAIdeal [hMemAIdeal : Cert.MemAIdeal.Facts] : Prop :=
  ∀ (m : (ℓ : Loc Cert.MemAIdeal.nD Cert.MemAIdeal.τ Cert.MemAIdeal.sig) → Buf (Elt Ideal) ℓ) (g : Dev Cert.MemAIdeal.nD → PrngReg), Pre_MemAIdeal m →
    θ_run (Cert.MemAIdeal.defs (F := Ideal)) (onTc (τ := Cert.MemAIdeal.τ) (Cert.MemAIdeal.main (F := Ideal))) ⟨m, fun _ => 0, g⟩ (fun r => (∀ c : Dev Cert.MemAIdeal.nD,
      r.2.mem ((c.tc : Thread Cert.MemAIdeal.nD Cert.MemAIdeal.τ).loc Cert.MemAIdeal.main_arg0) = m ((c.tc : Thread Cert.MemAIdeal.nD Cert.MemAIdeal.τ).loc Cert.MemAIdeal.main_arg0)
      ∧ r.2.mem ((c.tc : Thread Cert.MemAIdeal.nD Cert.MemAIdeal.τ).loc Cert.MemAIdeal.main_arg1) = m ((c.tc : Thread Cert.MemAIdeal.nD Cert.MemAIdeal.τ).loc Cert.MemAIdeal.main_arg1)
      ∧ r.2.mem ((c.tc : Thread Cert.MemAIdeal.nD Cert.MemAIdeal.τ).loc Cert.MemAIdeal.main_arg2) = m ((c.tc : Thread Cert.MemAIdeal.nD Cert.MemAIdeal.τ).loc Cert.MemAIdeal.main_arg2))
      ∧ r.2.sem = fun _ => 0)

def quiescent_MemAIdeal_pre_finite_a [hMemAIdeal : Cert.MemAIdeal.Facts] [hPre_finite_a : Cert.Pre_finite_a.Facts] : Prop :=
  ∀ (m : (ℓ : Loc Cert.MemAIdeal.nD Cert.MemAIdeal.τ Cert.MemAIdeal.sig) → Buf (Elt Ideal) ℓ) (g : Dev Cert.MemAIdeal.nD → PrngReg), Pre_MemAIdeal_finite_a m →
    θ_run (Cert.MemAIdeal.defs (F := Ideal)) (onTc (τ := Cert.MemAIdeal.τ) (Cert.MemAIdeal.main (F := Ideal))) ⟨m, fun _ => 0, g⟩ (fun r => (∀ c : Dev Cert.MemAIdeal.nD,
      r.2.mem ((c.tc : Thread Cert.MemAIdeal.nD Cert.MemAIdeal.τ).loc Cert.MemAIdeal.main_arg0) = m ((c.tc : Thread Cert.MemAIdeal.nD Cert.MemAIdeal.τ).loc Cert.MemAIdeal.main_arg0)
      ∧ r.2.mem ((c.tc : Thread Cert.MemAIdeal.nD Cert.MemAIdeal.τ).loc Cert.MemAIdeal.main_arg1) = m ((c.tc : Thread Cert.MemAIdeal.nD Cert.MemAIdeal.τ).loc Cert.MemAIdeal.main_arg1)
      ∧ r.2.mem ((c.tc : Thread Cert.MemAIdeal.nD Cert.MemAIdeal.τ).loc Cert.MemAIdeal.main_arg2) = m ((c.tc : Thread Cert.MemAIdeal.nD Cert.MemAIdeal.τ).loc Cert.MemAIdeal.main_arg2))
      ∧ r.2.sem = fun _ => 0)

def quiescent_MemARefIdeal [hMemARefIdeal : Cert.MemARefIdeal.Facts] : Prop :=
  ∀ (m : (ℓ : Loc Cert.MemARefIdeal.nD Cert.MemARefIdeal.τ Cert.MemARefIdeal.sig) → Buf (Elt Ideal) ℓ) (g : Dev Cert.MemARefIdeal.nD → PrngReg), Pre_MemARefIdeal m →
    θ_run (Cert.MemARefIdeal.defs (F := Ideal)) (onTc (τ := Cert.MemARefIdeal.τ) (Cert.MemARefIdeal.main (F := Ideal))) ⟨m, fun _ => 0, g⟩ (fun r => (∀ c : Dev Cert.MemARefIdeal.nD,
      r.2.mem ((c.tc : Thread Cert.MemARefIdeal.nD Cert.MemARefIdeal.τ).loc Cert.MemARefIdeal.main_arg0) = m ((c.tc : Thread Cert.MemARefIdeal.nD Cert.MemARefIdeal.τ).loc Cert.MemARefIdeal.main_arg0)
      ∧ r.2.mem ((c.tc : Thread Cert.MemARefIdeal.nD Cert.MemARefIdeal.τ).loc Cert.MemARefIdeal.main_arg1) = m ((c.tc : Thread Cert.MemARefIdeal.nD Cert.MemARefIdeal.τ).loc Cert.MemARefIdeal.main_arg1)
      ∧ r.2.mem ((c.tc : Thread Cert.MemARefIdeal.nD Cert.MemARefIdeal.τ).loc Cert.MemARefIdeal.main_arg2) = m ((c.tc : Thread Cert.MemARefIdeal.nD Cert.MemARefIdeal.τ).loc Cert.MemARefIdeal.main_arg2))
      ∧ r.2.sem = fun _ => 0)

def quiescent_MemARefIdeal_pre_finite_a [hMemARefIdeal : Cert.MemARefIdeal.Facts] [hPre_finite_a : Cert.Pre_finite_a.Facts] : Prop :=
  ∀ (m : (ℓ : Loc Cert.MemARefIdeal.nD Cert.MemARefIdeal.τ Cert.MemARefIdeal.sig) → Buf (Elt Ideal) ℓ) (g : Dev Cert.MemARefIdeal.nD → PrngReg), Pre_MemARefIdeal_finite_a m →
    θ_run (Cert.MemARefIdeal.defs (F := Ideal)) (onTc (τ := Cert.MemARefIdeal.τ) (Cert.MemARefIdeal.main (F := Ideal))) ⟨m, fun _ => 0, g⟩ (fun r => (∀ c : Dev Cert.MemARefIdeal.nD,
      r.2.mem ((c.tc : Thread Cert.MemARefIdeal.nD Cert.MemARefIdeal.τ).loc Cert.MemARefIdeal.main_arg0) = m ((c.tc : Thread Cert.MemARefIdeal.nD Cert.MemARefIdeal.τ).loc Cert.MemARefIdeal.main_arg0)
      ∧ r.2.mem ((c.tc : Thread Cert.MemARefIdeal.nD Cert.MemARefIdeal.τ).loc Cert.MemARefIdeal.main_arg1) = m ((c.tc : Thread Cert.MemARefIdeal.nD Cert.MemARefIdeal.τ).loc Cert.MemARefIdeal.main_arg1)
      ∧ r.2.mem ((c.tc : Thread Cert.MemARefIdeal.nD Cert.MemARefIdeal.τ).loc Cert.MemARefIdeal.main_arg2) = m ((c.tc : Thread Cert.MemARefIdeal.nD Cert.MemARefIdeal.τ).loc Cert.MemARefIdeal.main_arg2))
      ∧ r.2.sem = fun _ => 0)

def quiescent_MemB [hMemB : Cert.MemB.Facts] : Prop :=
  ∀ (m : (ℓ : Loc Cert.MemB.nD Cert.MemB.τ Cert.MemB.sig) → Buf (Elt Bits) ℓ) (g : Dev Cert.MemB.nD → PrngReg), Pre_MemB m →
    θ_run (Cert.MemB.defs (F := Bits)) (onTc (τ := Cert.MemB.τ) (Cert.MemB.main (F := Bits))) ⟨m, fun _ => 0, g⟩ (fun r => (∀ c : Dev Cert.MemB.nD,
      r.2.mem ((c.tc : Thread Cert.MemB.nD Cert.MemB.τ).loc Cert.MemB.main_arg0) = m ((c.tc : Thread Cert.MemB.nD Cert.MemB.τ).loc Cert.MemB.main_arg0)
      ∧ r.2.mem ((c.tc : Thread Cert.MemB.nD Cert.MemB.τ).loc Cert.MemB.main_arg1) = m ((c.tc : Thread Cert.MemB.nD Cert.MemB.τ).loc Cert.MemB.main_arg1)
      ∧ r.2.mem ((c.tc : Thread Cert.MemB.nD Cert.MemB.τ).loc Cert.MemB.main_arg2) = m ((c.tc : Thread Cert.MemB.nD Cert.MemB.τ).loc Cert.MemB.main_arg2))
      ∧ r.2.sem = fun _ => 0)

def quiescent_MemBIdeal [hMemBIdeal : Cert.MemBIdeal.Facts] : Prop :=
  ∀ (m : (ℓ : Loc Cert.MemBIdeal.nD Cert.MemBIdeal.τ Cert.MemBIdeal.sig) → Buf (Elt Ideal) ℓ) (g : Dev Cert.MemBIdeal.nD → PrngReg), Pre_MemBIdeal m →
    θ_run (Cert.MemBIdeal.defs (F := Ideal)) (onTc (τ := Cert.MemBIdeal.τ) (Cert.MemBIdeal.main (F := Ideal))) ⟨m, fun _ => 0, g⟩ (fun r => (∀ c : Dev Cert.MemBIdeal.nD,
      r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
      ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
      ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2))
      ∧ r.2.sem = fun _ => 0)

def quiescent_MemBIdeal_pre_finite_b [hMemBIdeal : Cert.MemBIdeal.Facts] [hPre_finite_b : Cert.Pre_finite_b.Facts] : Prop :=
  ∀ (m : (ℓ : Loc Cert.MemBIdeal.nD Cert.MemBIdeal.τ Cert.MemBIdeal.sig) → Buf (Elt Ideal) ℓ) (g : Dev Cert.MemBIdeal.nD → PrngReg), Pre_MemBIdeal_finite_b m →
    θ_run (Cert.MemBIdeal.defs (F := Ideal)) (onTc (τ := Cert.MemBIdeal.τ) (Cert.MemBIdeal.main (F := Ideal))) ⟨m, fun _ => 0, g⟩ (fun r => (∀ c : Dev Cert.MemBIdeal.nD,
      r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
      ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
      ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2))
      ∧ r.2.sem = fun _ => 0)

def quiescent_MemBRefIdeal [hMemBRefIdeal : Cert.MemBRefIdeal.Facts] : Prop :=
  ∀ (m : (ℓ : Loc Cert.MemBRefIdeal.nD Cert.MemBRefIdeal.τ Cert.MemBRefIdeal.sig) → Buf (Elt Ideal) ℓ) (g : Dev Cert.MemBRefIdeal.nD → PrngReg), Pre_MemBRefIdeal m →
    θ_run (Cert.MemBRefIdeal.defs (F := Ideal)) (onTc (τ := Cert.MemBRefIdeal.τ) (Cert.MemBRefIdeal.main (F := Ideal))) ⟨m, fun _ => 0, g⟩ (fun r => (∀ c : Dev Cert.MemBRefIdeal.nD,
      r.2.mem ((c.tc : Thread Cert.MemBRefIdeal.nD Cert.MemBRefIdeal.τ).loc Cert.MemBRefIdeal.main_arg0) = m ((c.tc : Thread Cert.MemBRefIdeal.nD Cert.MemBRefIdeal.τ).loc Cert.MemBRefIdeal.main_arg0)
      ∧ r.2.mem ((c.tc : Thread Cert.MemBRefIdeal.nD Cert.MemBRefIdeal.τ).loc Cert.MemBRefIdeal.main_arg1) = m ((c.tc : Thread Cert.MemBRefIdeal.nD Cert.MemBRefIdeal.τ).loc Cert.MemBRefIdeal.main_arg1)
      ∧ r.2.mem ((c.tc : Thread Cert.MemBRefIdeal.nD Cert.MemBRefIdeal.τ).loc Cert.MemBRefIdeal.main_arg2) = m ((c.tc : Thread Cert.MemBRefIdeal.nD Cert.MemBRefIdeal.τ).loc Cert.MemBRefIdeal.main_arg2))
      ∧ r.2.sem = fun _ => 0)

def quiescent_MemBRefIdeal_pre_finite_b [hMemBRefIdeal : Cert.MemBRefIdeal.Facts] [hPre_finite_b : Cert.Pre_finite_b.Facts] : Prop :=
  ∀ (m : (ℓ : Loc Cert.MemBRefIdeal.nD Cert.MemBRefIdeal.τ Cert.MemBRefIdeal.sig) → Buf (Elt Ideal) ℓ) (g : Dev Cert.MemBRefIdeal.nD → PrngReg), Pre_MemBRefIdeal_finite_b m →
    θ_run (Cert.MemBRefIdeal.defs (F := Ideal)) (onTc (τ := Cert.MemBRefIdeal.τ) (Cert.MemBRefIdeal.main (F := Ideal))) ⟨m, fun _ => 0, g⟩ (fun r => (∀ c : Dev Cert.MemBRefIdeal.nD,
      r.2.mem ((c.tc : Thread Cert.MemBRefIdeal.nD Cert.MemBRefIdeal.τ).loc Cert.MemBRefIdeal.main_arg0) = m ((c.tc : Thread Cert.MemBRefIdeal.nD Cert.MemBRefIdeal.τ).loc Cert.MemBRefIdeal.main_arg0)
      ∧ r.2.mem ((c.tc : Thread Cert.MemBRefIdeal.nD Cert.MemBRefIdeal.τ).loc Cert.MemBRefIdeal.main_arg1) = m ((c.tc : Thread Cert.MemBRefIdeal.nD Cert.MemBRefIdeal.τ).loc Cert.MemBRefIdeal.main_arg1)
      ∧ r.2.mem ((c.tc : Thread Cert.MemBRefIdeal.nD Cert.MemBRefIdeal.τ).loc Cert.MemBRefIdeal.main_arg2) = m ((c.tc : Thread Cert.MemBRefIdeal.nD Cert.MemBRefIdeal.τ).loc Cert.MemBRefIdeal.main_arg2))
      ∧ r.2.sem = fun _ => 0)

def quiescent_NormOne [hNormOne : Cert.NormOne.Facts] : Prop :=
  ∀ (m : (ℓ : Loc Cert.NormOne.nD Cert.NormOne.τ Cert.NormOne.sig) → Buf (Elt Bits) ℓ) (g : Dev Cert.NormOne.nD → PrngReg), Pre_NormOne m →
    θ_run (Cert.NormOne.defs (F := Bits)) (onTc (τ := Cert.NormOne.τ) (Cert.NormOne.main (F := Bits))) ⟨m, fun _ => 0, g⟩ (fun r => (∀ c : Dev Cert.NormOne.nD,
      r.2.mem ((c.tc : Thread Cert.NormOne.nD Cert.NormOne.τ).loc Cert.NormOne.main_arg0) = m ((c.tc : Thread Cert.NormOne.nD Cert.NormOne.τ).loc Cert.NormOne.main_arg0)
      ∧ r.2.mem ((c.tc : Thread Cert.NormOne.nD Cert.NormOne.τ).loc Cert.NormOne.main_arg1) = m ((c.tc : Thread Cert.NormOne.nD Cert.NormOne.τ).loc Cert.NormOne.main_arg1))
      ∧ r.2.sem = fun _ => 0)

def quiescent_NormOneIdeal [hNormOneIdeal : Cert.NormOneIdeal.Facts] : Prop :=
  ∀ (m : (ℓ : Loc Cert.NormOneIdeal.nD Cert.NormOneIdeal.τ Cert.NormOneIdeal.sig) → Buf (Elt Ideal) ℓ) (g : Dev Cert.NormOneIdeal.nD → PrngReg), Pre_NormOneIdeal m →
    θ_run (Cert.NormOneIdeal.defs (F := Ideal)) (onTc (τ := Cert.NormOneIdeal.τ) (Cert.NormOneIdeal.main (F := Ideal))) ⟨m, fun _ => 0, g⟩ (fun r => (∀ c : Dev Cert.NormOneIdeal.nD,
      r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
      ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1))
      ∧ r.2.sem = fun _ => 0)

def quiescent_NormOneRefIdeal [hNormOneRefIdeal : Cert.NormOneRefIdeal.Facts] : Prop :=
  ∀ (m : (ℓ : Loc Cert.NormOneRefIdeal.nD Cert.NormOneRefIdeal.τ Cert.NormOneRefIdeal.sig) → Buf (Elt Ideal) ℓ) (g : Dev Cert.NormOneRefIdeal.nD → PrngReg), Pre_NormOneRefIdeal m →
    θ_run (Cert.NormOneRefIdeal.defs (F := Ideal)) (onTc (τ := Cert.NormOneRefIdeal.τ) (Cert.NormOneRefIdeal.main (F := Ideal))) ⟨m, fun _ => 0, g⟩ (fun r => (∀ c : Dev Cert.NormOneRefIdeal.nD,
      r.2.mem ((c.tc : Thread Cert.NormOneRefIdeal.nD Cert.NormOneRefIdeal.τ).loc Cert.NormOneRefIdeal.main_arg0) = m ((c.tc : Thread Cert.NormOneRefIdeal.nD Cert.NormOneRefIdeal.τ).loc Cert.NormOneRefIdeal.main_arg0)
      ∧ r.2.mem ((c.tc : Thread Cert.NormOneRefIdeal.nD Cert.NormOneRefIdeal.τ).loc Cert.NormOneRefIdeal.main_arg1) = m ((c.tc : Thread Cert.NormOneRefIdeal.nD Cert.NormOneRefIdeal.τ).loc Cert.NormOneRefIdeal.main_arg1))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ r.2.sem = fun _ => 0)

def quiescent_NormTwoRefIdeal [hNormTwoRefIdeal : Cert.NormTwoRefIdeal.Facts] : Prop :=
  ∀ (m : (ℓ : Loc Cert.NormTwoRefIdeal.nD Cert.NormTwoRefIdeal.τ Cert.NormTwoRefIdeal.sig) → Buf (Elt Ideal) ℓ) (g : Dev Cert.NormTwoRefIdeal.nD → PrngReg), Pre_NormTwoRefIdeal m →
    θ_run (Cert.NormTwoRefIdeal.defs (F := Ideal)) (onTc (τ := Cert.NormTwoRefIdeal.τ) (Cert.NormTwoRefIdeal.main (F := Ideal))) ⟨m, fun _ => 0, g⟩ (fun r => (∀ c : Dev Cert.NormTwoRefIdeal.nD,
      r.2.mem ((c.tc : Thread Cert.NormTwoRefIdeal.nD Cert.NormTwoRefIdeal.τ).loc Cert.NormTwoRefIdeal.main_arg0) = m ((c.tc : Thread Cert.NormTwoRefIdeal.nD Cert.NormTwoRefIdeal.τ).loc Cert.NormTwoRefIdeal.main_arg0)
      ∧ r.2.mem ((c.tc : Thread Cert.NormTwoRefIdeal.nD Cert.NormTwoRefIdeal.τ).loc Cert.NormTwoRefIdeal.main_arg1) = m ((c.tc : Thread Cert.NormTwoRefIdeal.nD Cert.NormTwoRefIdeal.τ).loc Cert.NormTwoRefIdeal.main_arg1)
      ∧ r.2.mem ((c.tc : Thread Cert.NormTwoRefIdeal.nD Cert.NormTwoRefIdeal.τ).loc Cert.NormTwoRefIdeal.main_arg2) = m ((c.tc : Thread Cert.NormTwoRefIdeal.nD Cert.NormTwoRefIdeal.τ).loc Cert.NormTwoRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0) = v0 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v5) = v0 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v3) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v2) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v0)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v0) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v2) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)
      ∧ m' ((c.tc : Thread Cert.QProjRefIdeal.nD Cert.QProjRefIdeal.τ).loc Cert.QProjRefIdeal.main_arg4) = m ((c.tc : Thread Cert.QProjIdeal.nD Cert.QProjIdeal.τ).loc Cert.QProjIdeal.main_arg4)
      ∧ m' ((c.tc : Thread Cert.QProjRefIdeal.nD Cert.QProjRefIdeal.τ).loc Cert.QProjRefIdeal.main_arg5) = m ((c.tc : Thread Cert.QProjIdeal.nD Cert.QProjIdeal.τ).loc Cert.QProjIdeal.main_arg5)) →
    ∃ (v0 : (c : Dev Cert.QProjIdeal.nD) → Buf (Elt Ideal) ((c.tc : Thread Cert.QProjIdeal.nD Cert.QProjIdeal.τ).loc Cert.QProjIdeal.main_v32)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v32) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3)
          ∧ r.2.mem ((c.tc : Thread Cert.QProjIdeal.nD Cert.QProjIdeal.τ).loc Cert.QProjIdeal.main_arg4) = m ((c.tc : Thread Cert.QProjIdeal.nD Cert.QProjIdeal.τ).loc Cert.QProjIdeal.main_arg4)
          ∧ r.2.mem ((c.tc : Thread Cert.QProjIdeal.nD Cert.QProjIdeal.τ).loc Cert.QProjIdeal.main_arg5) = m ((c.tc : Thread Cert.QProjIdeal.nD Cert.QProjIdeal.τ).loc Cert.QProjIdeal.main_arg5))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v82) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3)
          ∧ r.2.mem ((c.tc : Thread Cert.QProjRefIdeal.nD Cert.QProjRefIdeal.τ).loc Cert.QProjRefIdeal.main_arg4) = m' ((c.tc : Thread Cert.QProjRefIdeal.nD Cert.QProjRefIdeal.τ).loc Cert.QProjRefIdeal.main_arg4)
          ∧ r.2.mem ((c.tc : Thread Cert.QProjRefIdeal.nD Cert.QProjRefIdeal.τ).loc Cert.QProjRefIdeal.main_arg5) = m' ((c.tc : Thread Cert.QProjRefIdeal.nD Cert.QProjRefIdeal.τ).loc Cert.QProjRefIdeal.main_arg5))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)
      ∧ m' ((c.tc : Thread Cert.KvUpRefIdeal.nD Cert.KvUpRefIdeal.τ).loc Cert.KvUpRefIdeal.main_arg3) = m ((c.tc : Thread Cert.KvUpIdeal.nD Cert.KvUpIdeal.τ).loc Cert.KvUpIdeal.main_arg3)) →
    ∃ (v0 : (c : Dev Cert.KvUpIdeal.nD) → Buf (Elt Ideal) ((c.tc : Thread Cert.KvUpIdeal.nD Cert.KvUpIdeal.τ).loc Cert.KvUpIdeal.main_v8_0)) (v1 : (c : Dev Cert.KvUpIdeal.nD) → Buf (Elt Ideal) ((c.tc : Thread Cert.KvUpIdeal.nD Cert.KvUpIdeal.τ).loc Cert.KvUpIdeal.main_v8_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v8_0) = v0 c
          ∧ r.2.mem ((c.tc : Thread Cert.KvUpIdeal.nD Cert.KvUpIdeal.τ).loc Cert.KvUpIdeal.main_v8_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
          ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v22) = v0 c
          ∧ r.2.mem ((c.tc : Thread Cert.KvUpRefIdeal.nD Cert.KvUpRefIdeal.τ).loc Cert.KvUpRefIdeal.main_v25) = v1 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2)
          ∧ r.2.mem ((c.tc : Thread Cert.KvUpRefIdeal.nD Cert.KvUpRefIdeal.τ).loc Cert.KvUpRefIdeal.main_arg3) = m' ((c.tc : Thread Cert.KvUpRefIdeal.nD Cert.KvUpRefIdeal.τ).loc Cert.KvUpRefIdeal.main_arg3))

def preserves_KvDown_KvDownIdeal : Prop :=
  True

def algebraic_KvDownIdeal_KvDownRefIdeal [hKvDownIdeal : Cert.KvDownIdeal.Facts] [hKvDownRefIdeal : Cert.KvDownRefIdeal.Facts] : Prop :=
  ∀ (m : (ℓ : Loc Cert.KvDownIdeal.nD Cert.KvDownIdeal.τ Cert.KvDownIdeal.sig) → Buf (Elt Ideal) ℓ) (g : Dev Cert.KvDownIdeal.nD → PrngReg)
    (m' : (ℓ : Loc Cert.KvDownRefIdeal.nD Cert.KvDownRefIdeal.τ Cert.KvDownRefIdeal.sig) → Buf (Elt Ideal) ℓ) (g' : Dev Cert.KvDownRefIdeal.nD → PrngReg), Pre_KvDownIdeal m →
    (∀ c : Dev Cert.KvDownIdeal.nD,
      m' ((c.tc : Thread Cert.KvDownRefIdeal.nD Cert.KvDownRefIdeal.τ).loc Cert.KvDownRefIdeal.main_arg0) = m ((c.tc : Thread Cert.KvDownIdeal.nD Cert.KvDownIdeal.τ).loc Cert.KvDownIdeal.main_arg0)
      ∧ m' ((c.tc : Thread Cert.KvDownRefIdeal.nD Cert.KvDownRefIdeal.τ).loc Cert.KvDownRefIdeal.main_arg1) = m ((c.tc : Thread Cert.KvDownIdeal.nD Cert.KvDownIdeal.τ).loc Cert.KvDownIdeal.main_arg1)
      ∧ m' ((c.tc : Thread Cert.KvDownRefIdeal.nD Cert.KvDownRefIdeal.τ).loc Cert.KvDownRefIdeal.main_arg2) = m ((c.tc : Thread Cert.KvDownIdeal.nD Cert.KvDownIdeal.τ).loc Cert.KvDownIdeal.main_arg2)
      ∧ m' ((c.tc : Thread Cert.KvDownRefIdeal.nD Cert.KvDownRefIdeal.τ).loc Cert.KvDownRefIdeal.main_arg3) = m ((c.tc : Thread Cert.KvDownIdeal.nD Cert.KvDownIdeal.τ).loc Cert.KvDownIdeal.main_arg3)
      ∧ m' ((c.tc : Thread Cert.KvDownRefIdeal.nD Cert.KvDownRefIdeal.τ).loc Cert.KvDownRefIdeal.main_arg4) = m ((c.tc : Thread Cert.KvDownIdeal.nD Cert.KvDownIdeal.τ).loc Cert.KvDownIdeal.main_arg4)) →
    ∃ (v0 : (c : Dev Cert.KvDownIdeal.nD) → Buf (Elt Ideal) ((c.tc : Thread Cert.KvDownIdeal.nD Cert.KvDownIdeal.τ).loc Cert.KvDownIdeal.main_v29_0)) (v1 : (c : Dev Cert.KvDownIdeal.nD) → Buf (Elt Ideal) ((c.tc : Thread Cert.KvDownIdeal.nD Cert.KvDownIdeal.τ).loc Cert.KvDownIdeal.main_v29_1)),
      θ_run (Cert.KvDownIdeal.defs (F := Ideal)) (onTc (τ := Cert.KvDownIdeal.τ) (Cert.KvDownIdeal.main (F := Ideal))) ⟨m, fun _ => 0, g⟩ (fun r => ∀ c : Dev Cert.KvDownIdeal.nD,
          r.2.mem ((c.tc : Thread Cert.KvDownIdeal.nD Cert.KvDownIdeal.τ).loc Cert.KvDownIdeal.main_v29_0) = v0 c
          ∧ r.2.mem ((c.tc : Thread Cert.KvDownIdeal.nD Cert.KvDownIdeal.τ).loc Cert.KvDownIdeal.main_v29_1) = v1 c
          ∧ r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
          ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1)
          ∧ r.2.mem ((c.tc : Thread Cert.KvDownIdeal.nD Cert.KvDownIdeal.τ).loc Cert.KvDownIdeal.main_arg2) = m ((c.tc : Thread Cert.KvDownIdeal.nD Cert.KvDownIdeal.τ).loc Cert.KvDownIdeal.main_arg2)
          ∧ r.2.mem ((c.tc : Thread Cert.KvDownIdeal.nD Cert.KvDownIdeal.τ).loc Cert.KvDownIdeal.main_arg3) = m ((c.tc : Thread Cert.KvDownIdeal.nD Cert.KvDownIdeal.τ).loc Cert.KvDownIdeal.main_arg3)
          ∧ r.2.mem ((c.tc : Thread Cert.KvDownIdeal.nD Cert.KvDownIdeal.τ).loc Cert.KvDownIdeal.main_arg4) = m ((c.tc : Thread Cert.KvDownIdeal.nD Cert.KvDownIdeal.τ).loc Cert.KvDownIdeal.main_arg4))
      ∧ θ_run (Cert.KvDownRefIdeal.defs (F := Ideal)) (onTc (τ := Cert.KvDownRefIdeal.τ) (Cert.KvDownRefIdeal.main (F := Ideal))) ⟨m', fun _ => 0, g'⟩ (fun r => ∀ c : Dev Cert.KvDownRefIdeal.nD,
          r.2.mem ((c.tc : Thread Cert.KvDownRefIdeal.nD Cert.KvDownRefIdeal.τ).loc Cert.KvDownRefIdeal.main_v57) = v0 c
          ∧ r.2.mem ((c.tc : Thread Cert.KvDownRefIdeal.nD Cert.KvDownRefIdeal.τ).loc Cert.KvDownRefIdeal.main_v59) = v1 c
          ∧ r.2.mem ((c.tc : Thread Cert.KvDownRefIdeal.nD Cert.KvDownRefIdeal.τ).loc Cert.KvDownRefIdeal.main_arg0) = m' ((c.tc : Thread Cert.KvDownRefIdeal.nD Cert.KvDownRefIdeal.τ).loc Cert.KvDownRefIdeal.main_arg0)
          ∧ r.2.mem ((c.tc : Thread Cert.KvDownRefIdeal.nD Cert.KvDownRefIdeal.τ).loc Cert.KvDownRefIdeal.main_arg1) = m' ((c.tc : Thread Cert.KvDownRefIdeal.nD Cert.KvDownRefIdeal.τ).loc Cert.KvDownRefIdeal.main_arg1)
          ∧ r.2.mem ((c.tc : Thread Cert.KvDownRefIdeal.nD Cert.KvDownRefIdeal.τ).loc Cert.KvDownRefIdeal.main_arg2) = m' ((c.tc : Thread Cert.KvDownRefIdeal.nD Cert.KvDownRefIdeal.τ).loc Cert.KvDownRefIdeal.main_arg2)
          ∧ r.2.mem ((c.tc : Thread Cert.KvDownRefIdeal.nD Cert.KvDownRefIdeal.τ).loc Cert.KvDownRefIdeal.main_arg3) = m' ((c.tc : Thread Cert.KvDownRefIdeal.nD Cert.KvDownRefIdeal.τ).loc Cert.KvDownRefIdeal.main_arg3)
          ∧ r.2.mem ((c.tc : Thread Cert.KvDownRefIdeal.nD Cert.KvDownRefIdeal.τ).loc Cert.KvDownRefIdeal.main_arg4) = m' ((c.tc : Thread Cert.KvDownRefIdeal.nD Cert.KvDownRefIdeal.τ).loc Cert.KvDownRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v34) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_MemA_MemAIdeal : Prop :=
  True

def algebraic_MemAIdeal_MemARefIdeal_pre_finite_a [hMemAIdeal : Cert.MemAIdeal.Facts] [hMemARefIdeal : Cert.MemARefIdeal.Facts] [hPre_finite_a : Cert.Pre_finite_a.Facts] : Prop :=
  ∀ (m : (ℓ : Loc Cert.MemAIdeal.nD Cert.MemAIdeal.τ Cert.MemAIdeal.sig) → Buf (Elt Ideal) ℓ) (g : Dev Cert.MemAIdeal.nD → PrngReg)
    (m' : (ℓ : Loc Cert.MemARefIdeal.nD Cert.MemARefIdeal.τ Cert.MemARefIdeal.sig) → Buf (Elt Ideal) ℓ) (g' : Dev Cert.MemARefIdeal.nD → PrngReg), Pre_MemAIdeal_finite_a m →
    (∀ c : Dev Cert.MemAIdeal.nD,
      m' ((c.tc : Thread Cert.MemARefIdeal.nD Cert.MemARefIdeal.τ).loc Cert.MemARefIdeal.main_arg0) = m ((c.tc : Thread Cert.MemAIdeal.nD Cert.MemAIdeal.τ).loc Cert.MemAIdeal.main_arg0)
      ∧ m' ((c.tc : Thread Cert.MemARefIdeal.nD Cert.MemARefIdeal.τ).loc Cert.MemARefIdeal.main_arg1) = m ((c.tc : Thread Cert.MemAIdeal.nD Cert.MemAIdeal.τ).loc Cert.MemAIdeal.main_arg1)
      ∧ m' ((c.tc : Thread Cert.MemARefIdeal.nD Cert.MemARefIdeal.τ).loc Cert.MemARefIdeal.main_arg2) = m ((c.tc : Thread Cert.MemAIdeal.nD Cert.MemAIdeal.τ).loc Cert.MemAIdeal.main_arg2)) →
    ∃ (v0 : (c : Dev Cert.MemAIdeal.nD) → Buf (Elt Ideal) ((c.tc : Thread Cert.MemAIdeal.nD Cert.MemAIdeal.τ).loc Cert.MemAIdeal.main_v1)),
      θ_run (Cert.MemAIdeal.defs (F := Ideal)) (onTc (τ := Cert.MemAIdeal.τ) (Cert.MemAIdeal.main (F := Ideal))) ⟨m, fun _ => 0, g⟩ (fun r => ∀ c : Dev Cert.MemAIdeal.nD,
          r.2.mem ((c.tc : Thread Cert.MemAIdeal.nD Cert.MemAIdeal.τ).loc Cert.MemAIdeal.main_v1) = v0 c
          ∧ r.2.mem ((c.tc : Thread Cert.MemAIdeal.nD Cert.MemAIdeal.τ).loc Cert.MemAIdeal.main_arg0) = m ((c.tc : Thread Cert.MemAIdeal.nD Cert.MemAIdeal.τ).loc Cert.MemAIdeal.main_arg0)
          ∧ r.2.mem ((c.tc : Thread Cert.MemAIdeal.nD Cert.MemAIdeal.τ).loc Cert.MemAIdeal.main_arg1) = m ((c.tc : Thread Cert.MemAIdeal.nD Cert.MemAIdeal.τ).loc Cert.MemAIdeal.main_arg1)
          ∧ r.2.mem ((c.tc : Thread Cert.MemAIdeal.nD Cert.MemAIdeal.τ).loc Cert.MemAIdeal.main_arg2) = m ((c.tc : Thread Cert.MemAIdeal.nD Cert.MemAIdeal.τ).loc Cert.MemAIdeal.main_arg2))
      ∧ θ_run (Cert.MemARefIdeal.defs (F := Ideal)) (onTc (τ := Cert.MemARefIdeal.τ) (Cert.MemARefIdeal.main (F := Ideal))) ⟨m', fun _ => 0, g'⟩ (fun r => ∀ c : Dev Cert.MemARefIdeal.nD,
          r.2.mem ((c.tc : Thread Cert.MemARefIdeal.nD Cert.MemARefIdeal.τ).loc Cert.MemARefIdeal.main_v40) = v0 c
          ∧ r.2.mem ((c.tc : Thread Cert.MemARefIdeal.nD Cert.MemARefIdeal.τ).loc Cert.MemARefIdeal.main_arg0) = m' ((c.tc : Thread Cert.MemARefIdeal.nD Cert.MemARefIdeal.τ).loc Cert.MemARefIdeal.main_arg0)
          ∧ r.2.mem ((c.tc : Thread Cert.MemARefIdeal.nD Cert.MemARefIdeal.τ).loc Cert.MemARefIdeal.main_arg1) = m' ((c.tc : Thread Cert.MemARefIdeal.nD Cert.MemARefIdeal.τ).loc Cert.MemARefIdeal.main_arg1)
          ∧ r.2.mem ((c.tc : Thread Cert.MemARefIdeal.nD Cert.MemARefIdeal.τ).loc Cert.MemARefIdeal.main_arg2) = m' ((c.tc : Thread Cert.MemARefIdeal.nD Cert.MemARefIdeal.τ).loc Cert.MemARefIdeal.main_arg2))

def preserves_MemB_MemBIdeal : Prop :=
  True

def algebraic_MemBIdeal_MemBRefIdeal_pre_finite_b [hMemBIdeal : Cert.MemBIdeal.Facts] [hMemBRefIdeal : Cert.MemBRefIdeal.Facts] [hPre_finite_b : Cert.Pre_finite_b.Facts] : Prop :=
  ∀ (m : (ℓ : Loc Cert.MemBIdeal.nD Cert.MemBIdeal.τ Cert.MemBIdeal.sig) → Buf (Elt Ideal) ℓ) (g : Dev Cert.MemBIdeal.nD → PrngReg)
    (m' : (ℓ : Loc Cert.MemBRefIdeal.nD Cert.MemBRefIdeal.τ Cert.MemBRefIdeal.sig) → Buf (Elt Ideal) ℓ) (g' : Dev Cert.MemBRefIdeal.nD → PrngReg), Pre_MemBIdeal_finite_b m →
    (∀ c : Dev Cert.MemBIdeal.nD,
      m' ((c.tc : Thread Cert.MemBRefIdeal.nD Cert.MemBRefIdeal.τ).loc Cert.MemBRefIdeal.main_arg0) = m ((c.tc : Thread Cert.MemBIdeal.nD Cert.MemBIdeal.τ).loc Cert.MemBIdeal.main_arg0)
      ∧ m' ((c.tc : Thread Cert.MemBRefIdeal.nD Cert.MemBRefIdeal.τ).loc Cert.MemBRefIdeal.main_arg1) = m ((c.tc : Thread Cert.MemBIdeal.nD Cert.MemBIdeal.τ).loc Cert.MemBIdeal.main_arg1)
      ∧ m' ((c.tc : Thread Cert.MemBRefIdeal.nD Cert.MemBRefIdeal.τ).loc Cert.MemBRefIdeal.main_arg2) = m ((c.tc : Thread Cert.MemBIdeal.nD Cert.MemBIdeal.τ).loc Cert.MemBIdeal.main_arg2)) →
    ∃ (v0 : (c : Dev Cert.MemBIdeal.nD) → Buf (Elt Ideal) ((c.tc : Thread Cert.MemBIdeal.nD Cert.MemBIdeal.τ).loc Cert.MemBIdeal.main_v1)),
      θ_run (Cert.MemBIdeal.defs (F := Ideal)) (onTc (τ := Cert.MemBIdeal.τ) (Cert.MemBIdeal.main (F := Ideal))) ⟨m, fun _ => 0, g⟩ (fun r => ∀ c : Dev Cert.MemBIdeal.nD,
          r.2.mem ((c.tc : Thread Cert.MemBIdeal.nD Cert.MemBIdeal.τ).loc Cert.MemBIdeal.main_v1) = v0 c
          ∧ r.2.mem ((c.tc : Thread Cert.MemBIdeal.nD Cert.MemBIdeal.τ).loc Cert.MemBIdeal.main_arg0) = m ((c.tc : Thread Cert.MemBIdeal.nD Cert.MemBIdeal.τ).loc Cert.MemBIdeal.main_arg0)
          ∧ r.2.mem ((c.tc : Thread Cert.MemBIdeal.nD Cert.MemBIdeal.τ).loc Cert.MemBIdeal.main_arg1) = m ((c.tc : Thread Cert.MemBIdeal.nD Cert.MemBIdeal.τ).loc Cert.MemBIdeal.main_arg1)
          ∧ r.2.mem ((c.tc : Thread Cert.MemBIdeal.nD Cert.MemBIdeal.τ).loc Cert.MemBIdeal.main_arg2) = m ((c.tc : Thread Cert.MemBIdeal.nD Cert.MemBIdeal.τ).loc Cert.MemBIdeal.main_arg2))
      ∧ θ_run (Cert.MemBRefIdeal.defs (F := Ideal)) (onTc (τ := Cert.MemBRefIdeal.τ) (Cert.MemBRefIdeal.main (F := Ideal))) ⟨m', fun _ => 0, g'⟩ (fun r => ∀ c : Dev Cert.MemBRefIdeal.nD,
          r.2.mem ((c.tc : Thread Cert.MemBRefIdeal.nD Cert.MemBRefIdeal.τ).loc Cert.MemBRefIdeal.main_v40) = v0 c
          ∧ r.2.mem ((c.tc : Thread Cert.MemBRefIdeal.nD Cert.MemBRefIdeal.τ).loc Cert.MemBRefIdeal.main_arg0) = m' ((c.tc : Thread Cert.MemBRefIdeal.nD Cert.MemBRefIdeal.τ).loc Cert.MemBRefIdeal.main_arg0)
          ∧ r.2.mem ((c.tc : Thread Cert.MemBRefIdeal.nD Cert.MemBRefIdeal.τ).loc Cert.MemBRefIdeal.main_arg1) = m' ((c.tc : Thread Cert.MemBRefIdeal.nD Cert.MemBRefIdeal.τ).loc Cert.MemBRefIdeal.main_arg1)
          ∧ r.2.mem ((c.tc : Thread Cert.MemBRefIdeal.nD Cert.MemBRefIdeal.τ).loc Cert.MemBRefIdeal.main_arg2) = m' ((c.tc : Thread Cert.MemBRefIdeal.nD Cert.MemBRefIdeal.τ).loc Cert.MemBRefIdeal.main_arg2))

def preserves_NormOne_NormOneIdeal : Prop :=
  True

def algebraic_NormOneIdeal_NormOneRefIdeal [hNormOneIdeal : Cert.NormOneIdeal.Facts] [hNormOneRefIdeal : Cert.NormOneRefIdeal.Facts] : Prop :=
  ∀ (m : (ℓ : Loc Cert.NormOneIdeal.nD Cert.NormOneIdeal.τ Cert.NormOneIdeal.sig) → Buf (Elt Ideal) ℓ) (g : Dev Cert.NormOneIdeal.nD → PrngReg)
    (m' : (ℓ : Loc Cert.NormOneRefIdeal.nD Cert.NormOneRefIdeal.τ Cert.NormOneRefIdeal.sig) → Buf (Elt Ideal) ℓ) (g' : Dev Cert.NormOneRefIdeal.nD → PrngReg), Pre_NormOneIdeal m →
    (∀ c : Dev Cert.NormOneIdeal.nD,
      m' ((c.tc : Thread Cert.NormOneRefIdeal.nD Cert.NormOneRefIdeal.τ).loc Cert.NormOneRefIdeal.main_arg0) = m ((c.tc : Thread Cert.NormOneIdeal.nD Cert.NormOneIdeal.τ).loc Cert.NormOneIdeal.main_arg0)
      ∧ m' ((c.tc : Thread Cert.NormOneRefIdeal.nD Cert.NormOneRefIdeal.τ).loc Cert.NormOneRefIdeal.main_arg1) = m ((c.tc : Thread Cert.NormOneIdeal.nD Cert.NormOneIdeal.τ).loc Cert.NormOneIdeal.main_arg1)) →
    ∃ (v0 : (c : Dev Cert.NormOneIdeal.nD) → Buf (Elt Ideal) ((c.tc : Thread Cert.NormOneIdeal.nD Cert.NormOneIdeal.τ).loc Cert.NormOneIdeal.main_v1)),
      θ_run (Cert.NormOneIdeal.defs (F := Ideal)) (onTc (τ := Cert.NormOneIdeal.τ) (Cert.NormOneIdeal.main (F := Ideal))) ⟨m, fun _ => 0, g⟩ (fun r => ∀ c : Dev Cert.NormOneIdeal.nD,
          r.2.mem ((c.tc : Thread Cert.NormOneIdeal.nD Cert.NormOneIdeal.τ).loc Cert.NormOneIdeal.main_v1) = v0 c
          ∧ r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
          ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1))
      ∧ θ_run (Cert.NormOneRefIdeal.defs (F := Ideal)) (onTc (τ := Cert.NormOneRefIdeal.τ) (Cert.NormOneRefIdeal.main (F := Ideal))) ⟨m', fun _ => 0, g'⟩ (fun r => ∀ c : Dev Cert.NormOneRefIdeal.nD,
          r.2.mem ((c.tc : Thread Cert.NormOneRefIdeal.nD Cert.NormOneRefIdeal.τ).loc Cert.NormOneRefIdeal.main_v13) = v0 c
          ∧ r.2.mem ((c.tc : Thread Cert.NormOneRefIdeal.nD Cert.NormOneRefIdeal.τ).loc Cert.NormOneRefIdeal.main_arg0) = m' ((c.tc : Thread Cert.NormOneRefIdeal.nD Cert.NormOneRefIdeal.τ).loc Cert.NormOneRefIdeal.main_arg0)
          ∧ r.2.mem ((c.tc : Thread Cert.NormOneRefIdeal.nD Cert.NormOneRefIdeal.τ).loc Cert.NormOneRefIdeal.main_arg1) = m' ((c.tc : Thread Cert.NormOneRefIdeal.nD Cert.NormOneRefIdeal.τ).loc Cert.NormOneRefIdeal.main_arg1))

def preserves_NormTwo_NormTwoIdeal : Prop :=
  True

def algebraic_NormTwoIdeal_NormTwoRefIdeal [hNormTwoIdeal : Cert.NormTwoIdeal.Facts] [hNormTwoRefIdeal : Cert.NormTwoRefIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoRefIdeal.nD Cert.NormTwoRefIdeal.τ Cert.NormTwoRefIdeal.sig) → Buf (Elt Ideal) ℓ) (g' : Dev Cert.NormTwoRefIdeal.nD → PrngReg), Pre_NormTwoIdeal m →
    (∀ c : Dev Cert.NormTwoIdeal.nD,
      m' ((c.tc : Thread Cert.NormTwoRefIdeal.nD Cert.NormTwoRefIdeal.τ).loc Cert.NormTwoRefIdeal.main_arg0) = m ((c.tc : Thread Cert.NormTwoIdeal.nD Cert.NormTwoIdeal.τ).loc Cert.NormTwoIdeal.main_arg0)
      ∧ m' ((c.tc : Thread Cert.NormTwoRefIdeal.nD Cert.NormTwoRefIdeal.τ).loc Cert.NormTwoRefIdeal.main_arg1) = m ((c.tc : Thread Cert.NormTwoIdeal.nD Cert.NormTwoIdeal.τ).loc Cert.NormTwoIdeal.main_arg1)
      ∧ m' ((c.tc : Thread Cert.NormTwoRefIdeal.nD Cert.NormTwoRefIdeal.τ).loc Cert.NormTwoRefIdeal.main_arg2) = m ((c.tc : Thread Cert.NormTwoIdeal.nD Cert.NormTwoIdeal.τ).loc Cert.NormTwoIdeal.main_arg2)) →
    ∃ (v0 : (c : Dev Cert.NormTwoIdeal.nD) → Buf (Elt Ideal) ((c.tc : Thread Cert.NormTwoIdeal.nD Cert.NormTwoIdeal.τ).loc Cert.NormTwoIdeal.main_v3_0)) (v1 : (c : Dev Cert.NormTwoIdeal.nD) → Buf (Elt Ideal) ((c.tc : Thread Cert.NormTwoIdeal.nD Cert.NormTwoIdeal.τ).loc Cert.NormTwoIdeal.main_v3_1)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v3_0) = v0 c
          ∧ r.2.mem ((c.tc : Thread Cert.NormTwoIdeal.nD Cert.NormTwoIdeal.τ).loc Cert.NormTwoIdeal.main_v3_1) = v1 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2))
      ∧ θ_run (Cert.NormTwoRefIdeal.defs (F := Ideal)) (onTc (τ := Cert.NormTwoRefIdeal.τ) (Cert.NormTwoRefIdeal.main (F := Ideal))) ⟨m', fun _ => 0, g'⟩ (fun r => ∀ c : Dev Cert.NormTwoRefIdeal.nD,
          r.2.mem ((c.tc : Thread Cert.NormTwoRefIdeal.nD Cert.NormTwoRefIdeal.τ).loc Cert.NormTwoRefIdeal.main_v13) = v0 c
          ∧ r.2.mem ((c.tc : Thread Cert.NormTwoRefIdeal.nD Cert.NormTwoRefIdeal.τ).loc Cert.NormTwoRefIdeal.main_v27) = v1 c
          ∧ r.2.mem ((c.tc : Thread Cert.NormTwoRefIdeal.nD Cert.NormTwoRefIdeal.τ).loc Cert.NormTwoRefIdeal.main_arg0) = m' ((c.tc : Thread Cert.NormTwoRefIdeal.nD Cert.NormTwoRefIdeal.τ).loc Cert.NormTwoRefIdeal.main_arg0)
          ∧ r.2.mem ((c.tc : Thread Cert.NormTwoRefIdeal.nD Cert.NormTwoRefIdeal.τ).loc Cert.NormTwoRefIdeal.main_arg1) = m' ((c.tc : Thread Cert.NormTwoRefIdeal.nD Cert.NormTwoRefIdeal.τ).loc Cert.NormTwoRefIdeal.main_arg1)
          ∧ r.2.mem ((c.tc : Thread Cert.NormTwoRefIdeal.nD Cert.NormTwoRefIdeal.τ).loc Cert.NormTwoRefIdeal.main_arg2) = m' ((c.tc : Thread Cert.NormTwoRefIdeal.nD Cert.NormTwoRefIdeal.τ).loc Cert.NormTwoRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v259) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hKernel : Cert.Kernel.Facts) (hKernelIdeal : Cert.KernelIdeal.Facts) (hReferenceIdeal : Cert.ReferenceIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hOutProj : Cert.OutProj.Facts) (hOutProjIdeal : Cert.OutProjIdeal.Facts) (hOutProjRefIdeal : Cert.OutProjRefIdeal.Facts) (hAIn : Cert.AIn.Facts) (hAInIdeal : Cert.AInIdeal.Facts) (hAInRefIdeal : Cert.AInRefIdeal.Facts) (hBIn : Cert.BIn.Facts) (hBInIdeal : Cert.BInIdeal.Facts) (hBInRefIdeal : Cert.BInRefIdeal.Facts) (hQProj : Cert.QProj.Facts) (hQProjIdeal : Cert.QProjIdeal.Facts) (hQProjRefIdeal : Cert.QProjRefIdeal.Facts) (hKvUp : Cert.KvUp.Facts) (hKvUpIdeal : Cert.KvUpIdeal.Facts) (hKvUpRefIdeal : Cert.KvUpRefIdeal.Facts) (hKvDown : Cert.KvDown.Facts) (hKvDownIdeal : Cert.KvDownIdeal.Facts) (hKvDownRefIdeal : Cert.KvDownRefIdeal.Facts) (hMemKv : Cert.MemKv.Facts) (hMemKvIdeal : Cert.MemKvIdeal.Facts) (hMemKvRefIdeal : Cert.MemKvRefIdeal.Facts) (hMemA : Cert.MemA.Facts) (hMemAIdeal : Cert.MemAIdeal.Facts) (hMemARefIdeal : Cert.MemARefIdeal.Facts) (hMemB : Cert.MemB.Facts) (hMemBIdeal : Cert.MemBIdeal.Facts) (hMemBRefIdeal : Cert.MemBRefIdeal.Facts) (hNormOne : Cert.NormOne.Facts) (hNormOneIdeal : Cert.NormOneIdeal.Facts) (hNormOneRefIdeal : Cert.NormOneRefIdeal.Facts) (hNormTwo : Cert.NormTwo.Facts) (hNormTwoIdeal : Cert.NormTwoIdeal.Facts) (hNormTwoRefIdeal : Cert.NormTwoRefIdeal.Facts) (hConv : Cert.Conv.Facts) (hConvIdeal : Cert.ConvIdeal.Facts) (hConvRefIdeal : Cert.ConvRefIdeal.Facts) (hPre_finite : Cert.Pre_finite.Facts) (hPre_finite_a : Cert.Pre_finite_a.Facts) (hPre_finite_b : Cert.Pre_finite_b.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AIn (hAIn := hAIn)
    ∧ quiescent_AInIdeal (hAInIdeal := hAInIdeal)
    ∧ quiescent_AInRefIdeal (hAInRefIdeal := hAInRefIdeal)
    ∧ quiescent_BIn (hBIn := hBIn)
    ∧ quiescent_BInIdeal (hBInIdeal := hBInIdeal)
    ∧ quiescent_BInRefIdeal (hBInRefIdeal := hBInRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_KvDown (hKvDown := hKvDown)
    ∧ quiescent_KvDownIdeal (hKvDownIdeal := hKvDownIdeal)
    ∧ quiescent_KvDownRefIdeal (hKvDownRefIdeal := hKvDownRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemA (hMemA := hMemA)
    ∧ quiescent_MemAIdeal (hMemAIdeal := hMemAIdeal)
    ∧ quiescent_MemAIdeal_pre_finite_a (hMemAIdeal := hMemAIdeal) (hPre_finite_a := hPre_finite_a)
    ∧ quiescent_MemARefIdeal (hMemARefIdeal := hMemARefIdeal)
    ∧ quiescent_MemARefIdeal_pre_finite_a (hMemARefIdeal := hMemARefIdeal) (hPre_finite_a := hPre_finite_a)
    ∧ quiescent_MemB (hMemB := hMemB)
    ∧ quiescent_MemBIdeal (hMemBIdeal := hMemBIdeal)
    ∧ quiescent_MemBIdeal_pre_finite_b (hMemBIdeal := hMemBIdeal) (hPre_finite_b := hPre_finite_b)
    ∧ quiescent_MemBRefIdeal (hMemBRefIdeal := hMemBRefIdeal)
    ∧ quiescent_MemBRefIdeal_pre_finite_b (hMemBRefIdeal := hMemBRefIdeal) (hPre_finite_b := hPre_finite_b)
    ∧ quiescent_NormOne (hNormOne := hNormOne)
    ∧ quiescent_NormOneIdeal (hNormOneIdeal := hNormOneIdeal)
    ∧ quiescent_NormOneRefIdeal (hNormOneRefIdeal := hNormOneRefIdeal)
    ∧ quiescent_NormTwo (hNormTwo := hNormTwo)
    ∧ quiescent_NormTwoIdeal (hNormTwoIdeal := hNormTwoIdeal)
    ∧ quiescent_NormTwoRefIdeal (hNormTwoRefIdeal := hNormTwoRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_OutProj_OutProjIdeal
    ∧ algebraic_OutProjIdeal_OutProjRefIdeal (hOutProjIdeal := hOutProjIdeal) (hOutProjRefIdeal := hOutProjRefIdeal)
    ∧ preserves_AIn_AInIdeal
    ∧ algebraic_AInIdeal_AInRefIdeal (hAInIdeal := hAInIdeal) (hAInRefIdeal := hAInRefIdeal)
    ∧ preserves_BIn_BInIdeal
    ∧ algebraic_BInIdeal_BInRefIdeal (hBInIdeal := hBInIdeal) (hBInRefIdeal := hBInRefIdeal)
    ∧ preserves_QProj_QProjIdeal
    ∧ algebraic_QProjIdeal_QProjRefIdeal (hQProjIdeal := hQProjIdeal) (hQProjRefIdeal := hQProjRefIdeal)
    ∧ preserves_KvUp_KvUpIdeal
    ∧ algebraic_KvUpIdeal_KvUpRefIdeal (hKvUpIdeal := hKvUpIdeal) (hKvUpRefIdeal := hKvUpRefIdeal)
    ∧ preserves_KvDown_KvDownIdeal
    ∧ algebraic_KvDownIdeal_KvDownRefIdeal (hKvDownIdeal := hKvDownIdeal) (hKvDownRefIdeal := hKvDownRefIdeal)
    ∧ preserves_MemKv_MemKvIdeal
    ∧ algebraic_MemKvIdeal_MemKvRefIdeal (hMemKvIdeal := hMemKvIdeal) (hMemKvRefIdeal := hMemKvRefIdeal)
    ∧ preserves_MemA_MemAIdeal
    ∧ algebraic_MemAIdeal_MemARefIdeal_pre_finite_a (hMemAIdeal := hMemAIdeal) (hMemARefIdeal := hMemARefIdeal) (hPre_finite_a := hPre_finite_a)
    ∧ preserves_MemB_MemBIdeal
    ∧ algebraic_MemBIdeal_MemBRefIdeal_pre_finite_b (hMemBIdeal := hMemBIdeal) (hMemBRefIdeal := hMemBRefIdeal) (hPre_finite_b := hPre_finite_b)
    ∧ preserves_NormOne_NormOneIdeal
    ∧ algebraic_NormOneIdeal_NormOneRefIdeal (hNormOneIdeal := hNormOneIdeal) (hNormOneRefIdeal := hNormOneRefIdeal)
    ∧ preserves_NormTwo_NormTwoIdeal
    ∧ algebraic_NormTwoIdeal_NormTwoRefIdeal (hNormTwoIdeal := hNormTwoIdeal) (hNormTwoRefIdeal := hNormTwoRefIdeal)
    ∧ preserves_Conv_ConvIdeal
    ∧ algebraic_ConvIdeal_ConvRefIdeal (hConvIdeal := hConvIdeal) (hConvRefIdeal := hConvRefIdeal)
-- ==== Pre_finite.lean ====
abbrev S16384x6144 : Shape := ⟨2, ![16384, 6144]⟩
abbrev S16384x3072 : Shape := ⟨2, ![16384, 3072]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel

variable [Facts]

def fn {F : FTy → Type} [FloatOps F] (main_arg0 : FVec F S16384x6144 .bf16) (main_arg1 : FVec F S16384x6144 .bf16) (main_arg2 : FVec F S16384x3072 .bf16) : IVec S_ 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  let main_c : IVec S_ 1 := constantI S_ 1 1#1
  let main_v4 : IVec S_ 1 := (fun x v => Host.reduce IntOp.andi x v reducesTo_S16384x6144_S_d0_1 h_S_) main_v3 main_c
  let main_v5 : FVec F S16384x6144 .f32 := (extf .f32 · bitsLt_bf16_f32) main_arg1
  let main_v6 : FVec F S16384x6144 .f32 := Host.absf main_v5
  let main_cst_0 : FVec F S_ .f32 := constant S_ .f32 0x7F800000#32
  let main_v7 : FVec F S16384x6144 .f32 := broadcastInDim S16384x6144 ![] bcast_S_S16384x6144 main_cst_0
  let main_v8 : IVec S16384x6144 1 := cmpf .olt main_v6 main_v7
  let main_c_1 : IVec S_ 1 := constantI S_ 1 1#1
  let main_v9 : IVec S_ 1 := (fun x v => Host.reduce IntOp.andi x v reducesTo_S16384x6144_S_d0_1 h_S_) main_v8 main_c_1
  let main_v10 : IVec S_ 1 := andi main_v4 main_v9
  main_v10
-- ==== Pre_finite_a.lean ====
abbrev S16384x7168 : Shape := ⟨2, ![16384, 7168]⟩
abbrev S2x512x2048 : Shape := ⟨3, ![2, 512, 2048]⟩
abbrev S256 : Shape := ⟨1, ![256]⟩
abbrev S1x512x1024 : Shape := ⟨3, ![1, 512, 1024]⟩
abbrev S512x1024 : Shape := ⟨2, ![512, 1024]⟩
abbrev S_ : Shape := ⟨0, ![]⟩

class Facts : Prop where
  slices_S2x512x2048_S1x512x1024_0_0_0 : S2x512x2048.Slices ![0, 0, 0] S1x512x1024
  shapeCasts_S1x512x1024_S512x1024 : S1x512x1024.ShapeCasts S512x1024
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S16384x7168 .f32) (main_arg1 : FVec F S2x512x2048 .bf16) (main_arg2 : FVec F S256 .f32) : IVec S_ 1 :=
  let main_v0 : FVec F S1x512x1024 .bf16 := (extractStridedSlice S1x512x1024 ![0, 0, 0] · slices_S2x512x2048_S1x512x1024_0_0_0) main_arg1
  let main_v1 : FVec F S512x1024 .bf16 := shapeCast S512x1024 main_v0 shapeCasts_S1x512x1024_S512x1024
  let main_v2 : FVec F S512x1024 .f32 := (extf .f32 · bitsLt_bf16_f32) main_v1
  let main_v3 : FVec F S512x1024 .f32 := Host.absf main_v2
  let main_cst : FVec F S_ .f32 := constant S_ .f32 0x7F800000#32
  let main_v4 : FVec F S512x1024 .f32 := broadcastInDim S512x1024 ![] bcast_S_S512x1024 main_cst
  let main_v5 : IVec S512x1024 1 := cmpf .olt main_v3 main_v4
  let main_c : IVec S_ 1 := constantI S_ 1 1#1
  let main_v6 : IVec S_ 1 := (fun x v => Host.reduce IntOp.andi x v reducesTo_S512x1024_S_d0_1 h_S_) main_v5 main_c
  let main_v7 : FVec F S256 .f32 := Host.absf main_arg2
  let main_cst_0 : FVec F S_ .f32 := constant S_ .f32 0x7F800000#32
  let main_v8 : FVec F S256 .f32 := broadcastInDim S256 ![] bcast_S_S256 main_cst_0
  let main_v9 : IVec S256 1 := cmpf .olt main_v7 main_v8
  let main_c_1 : IVec S_ 1 := constantI S_ 1 1#1
  let main_v10 : IVec S_ 1 := (fun x v => Host.reduce IntOp.andi x v reducesTo_S256_S_d0 h_S_) main_v9 main_c_1
  let main_v11 : IVec S_ 1 := andi main_v6 main_v10
  main_v11
-- ==== Pre_finite_b.lean ====
abbrev S16384x2048 : Shape := ⟨2, ![16384, 2048]⟩
abbrev S2x512x2048 : Shape := ⟨3, ![2, 512, 2048]⟩
abbrev S256 : Shape := ⟨1, ![256]⟩
abbrev S1x512x1024 : Shape := ⟨3, ![1, 512, 1024]⟩
abbrev S512x1024 : Shape := ⟨2, ![512, 1024]⟩
abbrev S_ : Shape := ⟨0, ![]⟩

class Facts : Prop where
  slices_S2x512x2048_S1x512x1024_1_0_0 : S2x512x2048.Slices ![1, 0, 0] S1x512x1024
  shapeCasts_S1x512x1024_S512x1024 : S1x512x1024.ShapeCasts S512x1024
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S16384x2048 .f32) (main_arg1 : FVec F S2x512x2048 .bf16) (main_arg2 : FVec F S256 .f32) : IVec S_ 1 :=
  let main_v0 : FVec F S1x512x1024 .bf16 := (extractStridedSlice S1x512x1024 ![1, 0, 0] · slices_S2x512x2048_S1x512x1024_1_0_0) main_arg1
  let main_v1 : FVec F S512x1024 .bf16 := shapeCast S512x1024 main_v0 shapeCasts_S1x512x1024_S512x1024
  let main_v2 : FVec F S512x1024 .f32 := (extf .f32 · bitsLt_bf16_f32) main_v1
  let main_v3 : FVec F S512x1024 .f32 := Host.absf main_v2
  let main_cst : FVec F S_ .f32 := constant S_ .f32 0x7F800000#32
  let main_v4 : FVec F S512x1024 .f32 := broadcastInDim S512x1024 ![] bcast_S_S512x1024 main_cst
  let main_v5 : IVec S512x1024 1 := cmpf .olt main_v3 main_v4
  let main_c : IVec S_ 1 := constantI S_ 1 1#1
  let main_v6 : IVec S_ 1 := (fun x v => Host.reduce IntOp.andi x v reducesTo_S512x1024_S_d0_1 h_S_) main_v5 main_c
  let main_v7 : FVec F S256 .f32 := Host.absf main_arg2
  let main_cst_0 : FVec F S_ .f32 := constant S_ .f32 0x7F800000#32
  let main_v8 : FVec F S256 .f32 := broadcastInDim S256 ![] bcast_S_S256 main_cst_0
  let main_v9 : IVec S256 1 := cmpf .olt main_v7 main_v8
  let main_c_1 : IVec S_ 1 := constantI S_ 1 1#1
  let main_v10 : IVec S_ 1 := (fun x v => Host.reduce IntOp.andi x v reducesTo_S256_S_d0 h_S_) main_v9 main_c_1
  let main_v11 : IVec S_ 1 := andi main_v6 main_v10
  main_v11
-- ==== Kernel.lean ====
abbrev S16384x6144 : Shape := ⟨2, ![16384, 6144]⟩
abbrev S16384x3072 : Shape := ⟨2, ![16384, 3072]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16384x6144, .bf16⟩
  | .hbm, ⟨1, _⟩ => ⟨S16384x6144, .bf16⟩
  | .hbm, ⟨2, _⟩ => ⟨S16384x3072, .bf16⟩
  | .hbm, ⟨3, _⟩ => ⟨S16384x3072, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 24, 16], ![false, false, false]⟩

@[reducible] def k0_t1_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c512_i32_37 : BitVec 32 := 512#32
  let v65 : BitVec 32 := Scalar.muli arg10 c512_i32_37
  v65
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_37 : BitVec 32 := 512#32
  let v65 : BitVec 32 := Scalar.muli arg10 c512_i32_37
  let v66 : BitVec 32 := v65
  let v67 : Index := Scalar.indexCast v66
  let c0_38 : Index := 0#32
  ![v67.toNat, 0]
def k0_off2 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_37 : BitVec 32 := 512#32
  let v65 : BitVec 32 := Scalar.muli arg10 c512_i32_37
  let v66 : BitVec 32 := v65
  let v91 : Index := Scalar.indexCast v66
  let c0_50 : Index := 0#32
  ![v91.toNat, 0]
@[reducible] def k0_t2_loop (i : grid0.Coords) : Scf.Loop 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_37 : BitVec 32 := 512#32
  let v65 : BitVec 32 := Scalar.muli arg10 c512_i32_37
  v65
def k0_off3 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_37 : BitVec 32 := 512#32
  let v65 : BitVec 32 := Scalar.muli arg10 c512_i32_37
  let v66 : BitVec 32 := v65
  let v67 : Index := Scalar.indexCast v66
  let c0_38 : Index := 0#32
  ![v67.toNat, 0]
def k0_off4 (i : grid0.Coords) (k0_t2 : Fin (k0_t2_loop i).trips) : Fin 2 → Nat :=
  let c0_i32_9 : BitVec 32 := 0#32
  let arg2 : BitVec 32 := BitVec.ofNat 32 (i 2).val
  let v13 : BitVec 32 := Scalar.subi arg2 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg10 : BitVec 32 := Scf.iv v17 c1_i32_11 k0_t2
  let c512_i32_37 : BitVec 32 := 512#32
  let v65 : BitVec 32 := Scalar.muli arg10 c512_i32_37
  let v66 : BitVec 32 := v65
  let v91 : Index := Scalar.indexCast v66
  let c0_50 : Index := 0#32
  ![v91.toNat, 0]
def k0_mult3 (i : grid0.Coords) : BitVec 32 :=
  let arg2 : BitVec 32 := BitVec.ofNat 32 (i 2).val
  let c512_i32 : BitVec 32 := 512#32
  let v18 : BitVec 32 := Scalar.muli arg2 c512_i32
  v18
def k0_off5 (i : grid0.Coords) : Fin 2 → Nat :=
  let arg2 : BitVec 32 := BitVec.ofNat 32 (i 2).val
  let c512_i32 : BitVec 32 := 512#32
  let v18 : BitVec 32 := Scalar.muli arg2 c512_i32
  let v19 : BitVec 32 := v18
  let v20 : Index := Scalar.indexCast v19
  let c0_12 : Index := 0#32
  ![v20.toNat, 0]
def k0_off6 (i : grid0.Coords) : Fin 2 → Nat :=
  let arg2 : BitVec 32 := BitVec.ofNat 32 (i 2).val
  let c512_i32 : BitVec 32 := 512#32
  let v18 : BitVec 32 := Scalar.muli arg2 c512_i32
  let v19 : BitVec 32 := v18
  let v49 : Index := Scalar.indexCast v19
  let c0_25 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x6144 : Shape := ⟨2, ![16384, 6144]⟩
abbrev S16384x3072 : Shape := ⟨2, ![16384, 3072]⟩
abbrev S2x8192x24x256 : Shape := ⟨4, ![2, 8192, 24, 256]⟩
abbrev S2x24x8192x8192 : Shape := ⟨4, ![2, 24, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x24x8192 : Shape := ⟨3, ![2, 24, 8192]⟩
abbrev S2x24x8192x1 : Shape := ⟨4, ![2, 24, 8192, 1]⟩
abbrev S2x8192x24x128 : Shape := ⟨4, ![2, 8192, 24, 128]⟩
abbrev S2x24x128x8192 : Shape := ⟨4, ![2, 24, 128, 8192]⟩

abbrev nBuf : Space → Nat
  | .hbm => 39
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x6144, .bf16⟩
  | .hbm, ⟨2, _⟩ => ⟨S16384x3072, .bf16⟩
  | .hbm, ⟨3, _⟩ => ⟨S16384x6144, .f32⟩
  | .hbm, ⟨4, _⟩ => ⟨S2x8192x24x256, .f32⟩
  | .hbm, ⟨5, _⟩ => ⟨S16384x6144, .f32⟩
  | .hbm, ⟨6, _⟩ => ⟨S2x8192x24x256, .f32⟩
  | .hbm, ⟨7, _⟩ => ⟨S2x24x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x24x8192x8192, .i1⟩
  | .hbm, ⟨17, _⟩ => ⟨S2x24x8192x8192, .f32⟩
  | .hbm, ⟨18, _⟩ => ⟨S2x24x8192x8192, .f32⟩
  | .hbm, ⟨19, _⟩ => ⟨S_, .f32⟩
  | .hbm, ⟨20, _⟩ => ⟨S2x24x8192, .f32⟩
  | .hbm, ⟨21, _⟩ => ⟨S_, .f32⟩
  | .hbm, ⟨22, _⟩ => ⟨S2x24x8192, .f32⟩
  | .hbm, ⟨23, _⟩ => ⟨S2x24x8192, .f32⟩
  | .hbm, ⟨24, _⟩ => ⟨S2x24x8192x1, .f32⟩
  | .hbm, ⟨25, _⟩ => ⟨S2x24x8192x8192, .f32⟩
  | .hbm, ⟨26, _⟩ => ⟨S2x24x8192x8192, .f32⟩
  | .hbm, ⟨27, _⟩ => ⟨S2x24x8192x8192, .f32⟩
  | .hbm, ⟨28, _⟩ => ⟨S_, .f32⟩
  | .hbm, ⟨29, _⟩ => ⟨S2x24x8192, .f32⟩
  | .hbm, ⟨30, _⟩ => ⟨S2x24x8192x1, .f32⟩
  | .hbm, ⟨31, _⟩ => ⟨S2x24x8192x8192, .f32⟩
  | .hbm, ⟨32, _⟩ => ⟨S2x24x8192x8192, .f32⟩
  | .hbm, ⟨33, _⟩ => ⟨S16384x3072, .f32⟩
  | .hbm, ⟨34, _⟩ => ⟨S2x8192x24x128, .f32⟩
  | .hbm, ⟨35, _⟩ => ⟨S2x24x128x8192, .f32⟩
  | .hbm, ⟨36, _⟩ => ⟨S2x8192x24x128, .f32⟩
  | .hbm, ⟨37, _⟩ => ⟨S16384x3072, .f32⟩
  | .hbm, ⟨38, _⟩ => ⟨S16384x3072, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MlpIn.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInRefIdeal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S_, .f32⟩
  | .hbm, ⟨6, _⟩ => ⟨S16384x16384, .f32⟩
  | .hbm, ⟨7, _⟩ => ⟨S16384x16384, .f32⟩
  | .hbm, ⟨8, _⟩ => ⟨S16384x16384, .f32⟩
  | .hbm, ⟨9, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpOut.lean ====
abbrev S16384x16384 : Shape := ⟨2, ![16384, 16384]⟩
abbrev S16384x4096 : Shape := ⟨2, ![16384, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutRefIdeal.lean ====
abbrev S16384x16384 : Shape := ⟨2, ![16384, 16384]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x16384, .f32⟩
  | .hbm, ⟨4, _⟩ => ⟨S16384x4096, .f32⟩
  | .hbm, ⟨5, _⟩ => ⟨S16384x4096, .f32⟩
  | .hbm, ⟨6, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S16384x4096 : Shape := ⟨2, ![16384, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AIn.lean ====
abbrev S16384x4096 : Shape := ⟨2, ![16384, 4096]⟩
abbrev S4096x7168 : Shape := ⟨2, ![4096, 7168]⟩
abbrev S16384x7168 : Shape := ⟨2, ![16384, 7168]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x7168, .bf16⟩
  | .hbm, ⟨2, _⟩ => ⟨S16384x7168, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S16384x4096 : Shape := ⟨2, ![16384, 4096]⟩
abbrev S4096x7168 : Shape := ⟨2, ![4096, 7168]⟩
abbrev S16384x7168 : Shape := ⟨2, ![16384, 7168]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x7168, .bf16⟩
  | .hbm, ⟨2, _⟩ => ⟨S16384x4096, .f32⟩
  | .hbm, ⟨3, _⟩ => ⟨S4096x7168, .f32⟩
  | .hbm, ⟨4, _⟩ => ⟨S16384x7168, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BIn.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x4096, .f32⟩
  | .hbm, ⟨3, _⟩ => ⟨S4096x2048, .f32⟩
  | .hbm, ⟨4, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QProj.lean ====
abbrev S16384x2048 : Shape := ⟨2, ![16384, 2048]⟩
abbrev S1024 : Shape := ⟨1, ![1024]⟩
abbrev S1024x4608 : Shape := ⟨2, ![1024, 4608]⟩
abbrev S128 : Shape := ⟨1, ![128]⟩
abbrev S64 : Shape := ⟨1, ![64]⟩
abbrev S2x8192 : Shape := ⟨2, ![2, 8192]⟩
abbrev S1024x24x192 : Shape := ⟨3, ![1024, 24, 192]⟩
abbrev S_ : Shape := ⟨0, ![]⟩
abbrev S1024x24x256 : Shape := ⟨3, ![1024, 24, 256]⟩
abbrev S1024x6144 : Shape := ⟨2, ![1024, 6144]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x64 : Shape := ⟨2, ![1, 64]⟩
abbrev S1x128 : Shape := ⟨2, ![1, 128]⟩
abbrev S1x1024 : Shape := ⟨2, ![1, 1024]⟩
abbrev S16384x6144 : Shape := ⟨2, ![16384, 6144]⟩
abbrev S1024x1024 : Shape := ⟨2, ![1024, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 48
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x4608, .f32⟩
  | .hbm, ⟨3, _⟩ => ⟨S128, .f32⟩
  | .hbm, ⟨4, _⟩ => ⟨S64, .f32⟩
  | .hbm, ⟨5, _⟩ => ⟨S2x8192, .i32⟩
  | .hbm, ⟨6, _⟩ => ⟨S1024x24x192, .f32⟩
  | .hbm, ⟨7, _⟩ => ⟨S_, .i32⟩
  | .hbm, ⟨8, _⟩ => ⟨S_, .f32⟩
  | .hbm, ⟨9, _⟩ => ⟨S1024x24x256, .f32⟩
  | .hbm, ⟨10, _⟩ => ⟨S1024x6144, .f32⟩
  | .hbm, ⟨11, _⟩ => ⟨S1024x6144, .bf16⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2x8192, .f32⟩
  | .hbm, ⟨27, _⟩ => ⟨S16384x1, .f32⟩
  | .hbm, ⟨28, _⟩ => ⟨S1x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S_, .f32⟩
  | .hbm, ⟨33, _⟩ => ⟨S16384x64, .f32⟩
  | .hbm, ⟨34, _⟩ => ⟨S16384x32, .f32⟩
  | .hbm, ⟨35, _⟩ => ⟨S16384x32, .f32⟩
  | .hbm, ⟨36, _⟩ => ⟨S16384x128, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x128, .f32⟩
  | .hbm, ⟨41, _⟩ => ⟨S1x64, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S1x1024, .f32⟩
  | .hbm, ⟨46, _⟩ => ⟨S1x128, .f32⟩
  | .hbm, ⟨47, _⟩ => ⟨S16384x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QProjRefIdeal.lean ====
abbrev S16384x2048 : Shape := ⟨2, ![16384, 2048]⟩
abbrev S1024 : Shape := ⟨1, ![1024]⟩
abbrev S1024x4608 : Shape := ⟨2, ![1024, 4608]⟩
abbrev S128 : Shape := ⟨1, ![128]⟩
abbrev S64 : Shape := ⟨1, ![64]⟩
abbrev S2x8192 : Shape := ⟨2, ![2, 8192]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1024 : Shape := ⟨2, ![16384, 1024]⟩
abbrev S16384 : Shape := ⟨1, ![16384]⟩
abbrev S1x1024 : Shape := ⟨2, ![1, 1024]⟩
abbrev S16384x4608 : Shape := ⟨2, ![16384, 4608]⟩
abbrev S16384x24x192 : Shape := ⟨3, ![16384, 24, 192]⟩
abbrev S16384x24x128 : Shape := ⟨3, ![16384, 24, 128]⟩
abbrev S16384x24 : Shape := ⟨2, ![16384, 24]⟩
abbrev S16384x24x1 : Shape := ⟨3, ![16384, 24, 1]⟩
abbrev S1x1x128 : Shape := ⟨3, ![1, 1, 128]⟩
abbrev S16384x24x64 : Shape := ⟨3, ![16384, 24, 64]⟩
abbrev S1x1x64 : Shape := ⟨3, ![1, 1, 64]⟩
abbrev S16384x1x32 : Shape := ⟨3, ![16384, 1, 32]⟩
abbrev S16384x24x32 : Shape := ⟨3, ![16384, 24, 32]⟩
abbrev S16384x24x256 : Shape := ⟨3, ![16384, 24, 256]⟩
abbrev S16384x6144 : Shape := ⟨2, ![16384, 6144]⟩

abbrev nBuf : Space → Nat
  | .hbm => 104
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x4608, .f32⟩
  | .hbm, ⟨3, _⟩ => ⟨S128, .f32⟩
  | .hbm, ⟨4, _⟩ => ⟨S64, .f32⟩
  | .hbm, ⟨5, _⟩ => ⟨S2x8192, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2x8192, .f32⟩
  | .hbm, ⟨21, _⟩ => ⟨S16384x1, .f32⟩
  | .hbm, ⟨22, _⟩ => ⟨S1x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x4608, .f32⟩
  | .hbm, ⟨46, _⟩ => ⟨S16384x24x192, .f32⟩
  | .hbm, ⟨47, _⟩ => ⟨S16384x24x128, .f32⟩
  | .hbm, ⟨48, _⟩ => ⟨S16384x24x128, .f32⟩
  | .hbm, ⟨49, _⟩ => ⟨S_, .f32⟩
  | .hbm, ⟨50, _⟩ => ⟨S16384x24, .f32⟩
  | .hbm, ⟨51, _⟩ => ⟨S16384x24x1, .f32⟩
  | .hbm, ⟨52, _⟩ => ⟨S_, .f32⟩
  | .hbm, ⟨53, _⟩ => ⟨S16384x24x1, .f32⟩
  | .hbm, ⟨54, _⟩ => ⟨S16384x24x1, .f32⟩
  | .hbm, ⟨55, _⟩ => ⟨S_, .f32⟩
  | .hbm, ⟨56, _⟩ => ⟨S16384x24x1, .f32⟩
  | .hbm, ⟨57, _⟩ => ⟨S16384x24x1, .f32⟩
  | .hbm, ⟨58, _⟩ => ⟨S16384x24x1, .f32⟩
  | .hbm, ⟨59, _⟩ => ⟨S16384x24x128, .f32⟩
  | .hbm, ⟨60, _⟩ => ⟨S16384x24x128, .f32⟩
  | .hbm, ⟨61, _⟩ => ⟨S1x1x128, .f32⟩
  | .hbm, ⟨62, _⟩ => ⟨S16384x24x128, .f32⟩
  | .hbm, ⟨63, _⟩ => ⟨S16384x24x128, .f32⟩
  | .hbm, ⟨64, _⟩ => ⟨S16384x24x64, .f32⟩
  | .hbm, ⟨65, _⟩ => ⟨S16384x24x64, .f32⟩
  | .hbm, ⟨66, _⟩ => ⟨S_, .f32⟩
  | .hbm, ⟨67, _⟩ => ⟨S16384x24, .f32⟩
  | .hbm, ⟨68, _⟩ => ⟨S16384x24x1, .f32⟩
  | .hbm, ⟨69, _⟩ => ⟨S_, .f32⟩
  | .hbm, ⟨70, _⟩ => ⟨S16384x24x1, .f32⟩
  | .hbm, ⟨71, _⟩ => ⟨S16384x24x1, .f32⟩
  | .hbm, ⟨72, _⟩ => ⟨S_, .f32⟩
  | .hbm, ⟨73, _⟩ => ⟨S16384x24x1, .f32⟩
  | .hbm, ⟨74, _⟩ => ⟨S16384x24x1, .f32⟩
  | .hbm, ⟨75, _⟩ => ⟨S16384x24x1, .f32⟩
  | .hbm, ⟨76, _⟩ => ⟨S16384x24x64, .f32⟩
  | .hbm, ⟨77, _⟩ => ⟨S16384x24x64, .f32⟩
  | .hbm, ⟨78, _⟩ => ⟨S1x1x64, .f32⟩
  | .hbm, ⟨79, _⟩ => ⟨S16384x24x64, .f32⟩
  | .hbm, ⟨80, _⟩ => ⟨S16384x24x64, .f32⟩
  | .hbm, ⟨81, _⟩ => ⟨S16384x1x32, .f32⟩
  | .hbm, ⟨82, _⟩ => ⟨S16384x1x32, .f32⟩
  | .hbm, ⟨83, _⟩ => ⟨S16384x24x32, .f32⟩
  | .hbm, ⟨84, _⟩ => ⟨S16384x24x32, .f32⟩
  | .hbm, ⟨85, _⟩ => ⟨S16384x24x32, .f32⟩
  | .hbm, ⟨86, _⟩ => ⟨S16384x24x32, .f32⟩
  | .hbm, ⟨87, _⟩ => ⟨S16384x24x32, .f32⟩
  | .hbm, ⟨88, _⟩ => ⟨S16384x24x32, .f32⟩
  | .hbm, ⟨89, _⟩ => ⟨S16384x24x32, .f32⟩
  | .hbm, ⟨90, _⟩ => ⟨S16384x24x32, .f32⟩
  | .hbm, ⟨91, _⟩ => ⟨S16384x24x32, .f32⟩
  | .hbm, ⟨92, _⟩ => ⟨S16384x24x32, .f32⟩
  | .hbm, ⟨93, _⟩ => ⟨S16384x24x32, .f32⟩
  | .hbm, ⟨94, _⟩ => ⟨S16384x24x32, .f32⟩
  | .hbm, ⟨95, _⟩ => ⟨S16384x24x64, .f32⟩
  | .hbm, ⟨96, _⟩ => ⟨S_, .f32⟩
  | .hbm, ⟨97, _⟩ => ⟨S16384x24x64, .f32⟩
  | .hbm, ⟨98, _⟩ => ⟨S16384x24x256, .f32⟩
  | .hbm, ⟨99, _⟩ => ⟨S_, .f32⟩
  | .hbm, ⟨100, _⟩ => ⟨S16384x24x256, .f32⟩
  | .hbm, ⟨101, _⟩ => ⟨S16384x24x256, .f32⟩
  | .hbm, ⟨102, _⟩ => ⟨S16384x6144, .f32⟩
  | .hbm, ⟨103, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== KvUp.lean ====
abbrev S16384x512 : Shape := ⟨2, ![16384, 512]⟩
abbrev S512x6144 : Shape := ⟨2, ![512, 6144]⟩
abbrev S16384x128 : Shape := ⟨2, ![16384, 128]⟩
abbrev S128 : Shape := ⟨1, ![128]⟩
abbrev S512x24x256 : Shape := ⟨3, ![512, 24, 256]⟩
abbrev S512x24x128 : Shape := ⟨3, ![512, 24, 128]⟩
abbrev S512x3072 : Shape := ⟨2, ![512, 3072]⟩
abbrev S1x128 : Shape := ⟨2, ![1, 128]⟩
abbrev S16384x6144 : Shape := ⟨2, ![16384, 6144]⟩
abbrev S16384x3072 : Shape := ⟨2, ![16384, 3072]⟩
abbrev S1024x512 : Shape := ⟨2, ![1024, 512]⟩
abbrev S512x256 : Shape := ⟨2, ![512, 256]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S512x6144, .f32⟩
  | .hbm, ⟨2, _⟩ => ⟨S16384x128, .bf16⟩
  | .hbm, ⟨3, _⟩ => ⟨S128, .f32⟩
  | .hbm, ⟨4, _⟩ => ⟨S512x24x256, .f32⟩
  | .hbm, ⟨5, _⟩ => ⟨S512x24x128, .f32⟩
  | .hbm, ⟨6, _⟩ => ⟨S512x3072, .f32⟩
  | .hbm, ⟨7, _⟩ => ⟨S512x3072, .bf16⟩
  | .hbm, ⟨8, _⟩ => ⟨S512x24x128, .f32⟩
  | .hbm, ⟨9, _⟩ => ⟨S512x3072, .f32⟩
  | .hbm, ⟨10, _⟩ => ⟨S512x3072, .bf16⟩
  | .hbm, ⟨11, _⟩ => ⟨S1x128, .f32⟩
  | .hbm, ⟨12, _⟩ => ⟨S16384x6144, .bf16⟩
  | .hbm, ⟨13, _⟩ => ⟨S16384x3072, .bf16⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S1024x512, .bf16⟩
  | .local _ .vmem, ⟨10, _⟩ => ⟨S1024x512, .bf16⟩
  | .local _ .vmem, ⟨11, _⟩ => ⟨S1024x256, .bf16⟩
  | .local _ .vmem, ⟨12, _⟩ => ⟨S1024x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KvUpRefIdeal.lean ====
abbrev S16384x512 : Shape := ⟨2, ![16384, 512]⟩
abbrev S512x6144 : Shape := ⟨2, ![512, 6144]⟩
abbrev S16384x128 : Shape := ⟨2, ![16384, 128]⟩
abbrev S128 : Shape := ⟨1, ![128]⟩
abbrev S16384x6144 : Shape := ⟨2, ![16384, 6144]⟩
abbrev S16384x24x256 : Shape := ⟨3, ![16384, 24, 256]⟩
abbrev S16384x1x128 : Shape := ⟨3, ![16384, 1, 128]⟩
abbrev S16384x24x128 : Shape := ⟨3, ![16384, 24, 128]⟩
abbrev S_ : Shape := ⟨0, ![]⟩
abbrev S16384x24 : Shape := ⟨2, ![16384, 24]⟩
abbrev S16384x24x1 : Shape := ⟨3, ![16384, 24, 1]⟩
abbrev S1x1x128 : Shape := ⟨3, ![1, 1, 128]⟩
abbrev S16384x3072 : Shape := ⟨2, ![16384, 3072]⟩

abbrev nBuf : Space → Nat
  | .hbm => 33
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x6144, .f32⟩
  | .hbm, ⟨2, _⟩ => ⟨S16384x128, .bf16⟩
  | .hbm, ⟨3, _⟩ => ⟨S128, .f32⟩
  | .hbm, ⟨4, _⟩ => ⟨S16384x512, .f32⟩
  | .hbm, ⟨5, _⟩ => ⟨S16384x6144, .f32⟩
  | .hbm, ⟨6, _⟩ => ⟨S16384x24x256, .f32⟩
  | .hbm, ⟨7, _⟩ => ⟨S16384x128, .f32⟩
  | .hbm, ⟨8, _⟩ => ⟨S16384x1x128, .f32⟩
  | .hbm, ⟨9, _⟩ => ⟨S16384x24x128, .f32⟩
  | .hbm, ⟨10, _⟩ => ⟨S16384x24x128, .f32⟩
  | .hbm, ⟨11, _⟩ => ⟨S16384x24x128, .f32⟩
  | .hbm, ⟨12, _⟩ => ⟨S_, .f32⟩
  | .hbm, ⟨13, _⟩ => ⟨S16384x24, .f32⟩
  | .hbm, ⟨14, _⟩ => ⟨S16384x24x1, .f32⟩
  | .hbm, ⟨15, _⟩ => ⟨S_, .f32⟩
  | .hbm, ⟨16, _⟩ => ⟨S16384x24x1, .f32⟩
  | .hbm, ⟨17, _⟩ => ⟨S16384x24x1, .f32⟩
  | .hbm, ⟨18, _⟩ => ⟨S_, .f32⟩
  | .hbm, ⟨19, _⟩ => ⟨S16384x24x1, .f32⟩
  | .hbm, ⟨20, _⟩ => ⟨S16384x24x1, .f32⟩
  | .hbm, ⟨21, _⟩ => ⟨S16384x24x1, .f32⟩
  | .hbm, ⟨22, _⟩ => ⟨S16384x24x128, .f32⟩
  | .hbm, ⟨23, _⟩ => ⟨S16384x24x128, .f32⟩
  | .hbm, ⟨24, _⟩ => ⟨S1x1x128, .f32⟩
  | .hbm, ⟨25, _⟩ => ⟨S16384x24x128, .f32⟩
  | .hbm, ⟨26, _⟩ => ⟨S16384x24x128, .f32⟩
  | .hbm, ⟨27, _⟩ => ⟨S16384x24x256, .f32⟩
  | .hbm, ⟨28, _⟩ => ⟨S16384x6144, .f32⟩
  | .hbm, ⟨29, _⟩ => ⟨S16384x6144, .bf16⟩
  | .hbm, ⟨30, _⟩ => ⟨S16384x24x128, .f32⟩
  | .hbm, ⟨31, _⟩ => ⟨S16384x3072, .f32⟩
  | .hbm, ⟨32, _⟩ => ⟨S16384x3072, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KvDown.lean ====
abbrev S16384x4096 : Shape := ⟨2, ![16384, 4096]⟩
abbrev S4096x576 : Shape := ⟨2, ![4096, 576]⟩
abbrev S512 : Shape := ⟨1, ![512]⟩
abbrev S64 : Shape := ⟨1, ![64]⟩
abbrev S2x8192 : Shape := ⟨2, ![2, 8192]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S4096x640 : Shape := ⟨2, ![4096, 640]⟩
abbrev S1x64 : Shape := ⟨2, ![1, 64]⟩
abbrev S1x128 : Shape := ⟨2, ![1, 128]⟩
abbrev S1x512 : Shape := ⟨2, ![1, 512]⟩
abbrev S16384x512 : Shape := ⟨2, ![16384, 512]⟩
abbrev S1024x4096 : Shape := ⟨2, ![1024, 4096]⟩
abbrev S1024x128 : Shape := ⟨2, ![1024, 128]⟩
abbrev S1024x512 : Shape := ⟨2, ![1024, 512]⟩
abbrev S1024x640 : Shape := ⟨2, ![1024, 640]⟩
abbrev S1024 : Shape := ⟨1, ![1024]⟩
abbrev S1024x1 : Shape := ⟨2, ![1024, 1]⟩

abbrev nBuf : Space → Nat
  | .hbm => 45
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x576, .f32⟩
  | .hbm, ⟨2, _⟩ => ⟨S512, .f32⟩
  | .hbm, ⟨3, _⟩ => ⟨S64, .f32⟩
  | .hbm, ⟨4, _⟩ => ⟨S2x8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x8192, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x64, .f32⟩
  | .hbm, ⟨27, _⟩ => ⟨S16384x32, .f32⟩
  | .hbm, ⟨28, _⟩ => ⟨S16384x32, .f32⟩
  | .hbm, ⟨29, _⟩ => ⟨S16384x128, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x128, .f32⟩
  | .hbm, ⟨34, _⟩ => ⟨S_, .i32⟩
  | .hbm, ⟨35, _⟩ => ⟨S_, .f32⟩
  | .hbm, ⟨36, _⟩ => ⟨S4096x640, .f32⟩
  | .hbm, ⟨37, _⟩ => ⟨S4096x640, .bf16⟩
  | .hbm, ⟨38, _⟩ => ⟨S1x64, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S1x512, .f32⟩
  | .hbm, ⟨43, _⟩ => ⟨S16384x512, .bf16⟩
  | .hbm, ⟨44, _⟩ => ⟨S16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S1x512, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x128, .bf16⟩
  | .local _ .vmem, ⟨12, _⟩ => ⟨S1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvDownRefIdeal.lean ====
abbrev S16384x4096 : Shape := ⟨2, ![16384, 4096]⟩
abbrev S4096x576 : Shape := ⟨2, ![4096, 576]⟩
abbrev S512 : Shape := ⟨1, ![512]⟩
abbrev S64 : Shape := ⟨1, ![64]⟩
abbrev S2x8192 : Shape := ⟨2, ![2, 8192]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x576 : Shape := ⟨2, ![16384, 576]⟩
abbrev S16384x64 : Shape := ⟨2, ![16384, 64]⟩
abbrev S16384 : Shape := ⟨1, ![16384]⟩
abbrev S1x64 : Shape := ⟨2, ![1, 64]⟩
abbrev S16384x512 : Shape := ⟨2, ![16384, 512]⟩
abbrev S1x512 : Shape := ⟨2, ![1, 512]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x576, .f32⟩
  | .hbm, ⟨2, _⟩ => ⟨S512, .f32⟩
  | .hbm, ⟨3, _⟩ => ⟨S64, .f32⟩
  | .hbm, ⟨4, _⟩ => ⟨S2x8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x8192, .f32⟩
  | .hbm, ⟨20, _⟩ => ⟨S16384x1, .f32⟩
  | .hbm, ⟨21, _⟩ => ⟨S1x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x4096, .f32⟩
  | .hbm, ⟨28, _⟩ => ⟨S16384x576, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x64, .f32⟩
  | .hbm, ⟨42, _⟩ => ⟨S16384x64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x64, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S16384x512, .bf16⟩
  | .hbm, ⟨73, _⟩ => ⟨S_, .i32⟩
  | .hbm, ⟨74, _⟩ => ⟨S_, .f32⟩
  | .hbm, ⟨75, _⟩ => ⟨S16384x128, .f32⟩
  | .hbm, ⟨76, _⟩ => ⟨S16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_call0_v0 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== MemKv.lean ====
abbrev S512x4096 : Shape := ⟨2, ![512, 4096]⟩
abbrev S2x4096 : Shape := ⟨2, ![2, 4096]⟩
abbrev S2x4096x2048 : Shape := ⟨3, ![2, 4096, 2048]⟩
abbrev S2x256 : Shape := ⟨2, ![2, 256]⟩
abbrev S2x1x4096 : Shape := ⟨3, ![2, 1, 4096]⟩
abbrev S2x1x256 : Shape := ⟨3, ![2, 1, 256]⟩
abbrev S2x512x2048 : Shape := ⟨3, ![2, 512, 2048]⟩
abbrev S1x1x4096 : Shape := ⟨3, ![1, 1, 4096]⟩
abbrev S1x4096x256 : Shape := ⟨3, ![1, 4096, 256]⟩
abbrev S1x1x256 : Shape := ⟨3, ![1, 1, 256]⟩
abbrev S1x512x256 : Shape := ⟨3, ![1, 512, 256]⟩
abbrev S512 : Shape := ⟨1, ![512]⟩
abbrev S512x1 : Shape := ⟨2, ![512, 1]⟩
abbrev S1x4096 : Shape := ⟨2, ![1, 4096]⟩
abbrev S4096x256 : Shape := ⟨2, ![4096, 256]⟩
abbrev S512x256 : Shape := ⟨2, ![512, 256]⟩
abbrev S1x256 : Shape := ⟨2, ![1, 256]⟩

abbrev nBuf : Space → Nat
  | .hbm => 8
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S2x4096, .f32⟩
  | .hbm, ⟨2, _⟩ => ⟨S2x4096x2048, .f32⟩
  | .hbm, ⟨3, _⟩ => ⟨S2x256, .f32⟩
  | .hbm, ⟨4, _⟩ => ⟨S2x4096x2048, .bf16⟩
  | .hbm, ⟨5, _⟩ => ⟨S2x1x4096, .f32⟩
  | .hbm, ⟨6, _⟩ => ⟨S2x1x256, .f32⟩
  | .hbm, ⟨7, _⟩ => ⟨S2x512x2048, .bf16⟩
  | .local _ .vmem, ⟨0, _⟩ => ⟨S512x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x4096x256, .bf16⟩
  | .local _ .vmem, ⟨4, _⟩ => ⟨S1x4096x256, .bf16⟩
  | .local _ .vmem, ⟨5, _⟩ => ⟨S1x1x256, .f32⟩
  | .local _ .vmem, ⟨6, _⟩ => ⟨S1x1x256, .f32⟩
  | .local _ .vmem, ⟨7, _⟩ => ⟨S1x512x256, .bf16⟩
  | .local _ .vmem, ⟨8, _⟩ => ⟨S1x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemKvRefIdeal.lean ====
abbrev S512x4096 : Shape := ⟨2, ![512, 4096]⟩
abbrev S2x4096 : Shape := ⟨2, ![2, 4096]⟩
abbrev S2x4096x2048 : Shape := ⟨3, ![2, 4096, 2048]⟩
abbrev S2x256 : Shape := ⟨2, ![2, 256]⟩
abbrev S1x512x4096 : Shape := ⟨3, ![1, 512, 4096]⟩
abbrev S2x1x4096 : Shape := ⟨3, ![2, 1, 4096]⟩
abbrev S_ : Shape := ⟨0, ![]⟩
abbrev S1x512 : Shape := ⟨2, ![1, 512]⟩
abbrev S1x512x1 : Shape := ⟨3, ![1, 512, 1]⟩
abbrev S2x512x4096 : Shape := ⟨3, ![2, 512, 4096]⟩
abbrev S2x512x2048 : Shape := ⟨3, ![2, 512, 2048]⟩
abbrev S2x512x1024 : Shape := ⟨3, ![2, 512, 1024]⟩
abbrev S2x512x4x256 : Shape := ⟨4, ![2, 512, 4, 256]⟩
abbrev S2x1x1x256 : Shape := ⟨4, ![2, 1, 1, 256]⟩
abbrev S2x512x4 : Shape := ⟨3, ![2, 512, 4]⟩
abbrev S2x512x4x1 : Shape := ⟨4, ![2, 512, 4, 1]⟩

abbrev nBuf : Space → Nat
  | .hbm => 45
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S2x4096, .f32⟩
  | .hbm, ⟨2, _⟩ => ⟨S2x4096x2048, .f32⟩
  | .hbm, ⟨3, _⟩ => ⟨S2x256, .f32⟩
  | .hbm, ⟨4, _⟩ => ⟨S1x512x4096, .f32⟩
  | .hbm, ⟨5, _⟩ => ⟨S2x1x4096, .f32⟩
  | .hbm, ⟨6, _⟩ => ⟨S1x512x4096, .f32⟩
  | .hbm, ⟨7, _⟩ => ⟨S_, .f32⟩
  | .hbm, ⟨8, _⟩ => ⟨S1x512, .f32⟩
  | .hbm, ⟨9, _⟩ => ⟨S1x512x1, .f32⟩
  | .hbm, ⟨10, _⟩ => ⟨S_, .f32⟩
  | .hbm, ⟨11, _⟩ => ⟨S1x512x1, .f32⟩
  | .hbm, ⟨12, _⟩ => ⟨S1x512x1, .f32⟩
  | .hbm, ⟨13, _⟩ => ⟨S_, .f32⟩
  | .hbm, ⟨14, _⟩ => ⟨S1x512x1, .f32⟩
  | .hbm, ⟨15, _⟩ => ⟨S1x512x1, .f32⟩
  | .hbm, ⟨16, _⟩ => ⟨S1x512x1, .f32⟩
  | .hbm, ⟨17, _⟩ => ⟨S1x512x4096, .f32⟩
  | .hbm, ⟨18, _⟩ => ⟨S1x512x4096, .f32⟩
  | .hbm, ⟨19, _⟩ => ⟨S2x512x4096, .f32⟩
  | .hbm, ⟨20, _⟩ => ⟨S2x512x4096, .f32⟩
  | .hbm, ⟨21, _⟩ => ⟨S2x512x4096, .f32⟩
  | .hbm, ⟨22, _⟩ => ⟨S2x512x2048, .f32⟩
  | .hbm, ⟨23, _⟩ => ⟨S2x512x1024, .f32⟩
  | .hbm, ⟨24, _⟩ => ⟨S2x512x4x256, .f32⟩
  | .hbm, ⟨25, _⟩ => ⟨S2x1x1x256, .f32⟩
  | .hbm, ⟨26, _⟩ => ⟨S2x512x4x256, .f32⟩
  | .hbm, ⟨27, _⟩ => ⟨S_, .f32⟩
  | .hbm, ⟨28, _⟩ => ⟨S2x512x4, .f32⟩
  | .hbm, ⟨29, _⟩ => ⟨S2x512x4x1, .f32⟩
  | .hbm, ⟨30, _⟩ => ⟨S_, .f32⟩
  | .hbm, ⟨31, _⟩ => ⟨S2x512x4x1, .f32⟩
  | .hbm, ⟨32, _⟩ => ⟨S2x512x4x1, .f32⟩
  | .hbm, ⟨33, _⟩ => ⟨S_, .f32⟩
  | .hbm, ⟨34, _⟩ => ⟨S2x512x4x1, .f32⟩
  | .hbm, ⟨35, _⟩ => ⟨S2x512x4x1, .f32⟩
  | .hbm, ⟨36, _⟩ => ⟨S2x512x4x1, .f32⟩
  | .hbm, ⟨37, _⟩ => ⟨S2x512x4x256, .f32⟩
  | .hbm, ⟨38, _⟩ => ⟨S2x512x4x256, .f32⟩
  | .hbm, ⟨39, _⟩ => ⟨S2x512x4x256, .f32⟩
  | .hbm, ⟨40, _⟩ => ⟨S2x512x4x256, .f32⟩
  | .hbm, ⟨41, _⟩ => ⟨S2x512x1024, .f32⟩
  | .hbm, ⟨42, _⟩ => ⟨S2x512x1024, .f32⟩
  | .hbm, ⟨43, _⟩ => ⟨S2x512x2048, .f32⟩
  | .hbm, ⟨44, _⟩ => ⟨S2x512x2048, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MemA.lean ====
abbrev S16384x7168 : Shape := ⟨2, ![16384, 7168]⟩
abbrev S2x512x2048 : Shape := ⟨3, ![2, 512, 2048]⟩
abbrev S256 : Shape := ⟨1, ![256]⟩
abbrev S1x256 : Shape := ⟨2, ![1, 256]⟩
abbrev S16384x1024 : Shape := ⟨2, ![16384, 1024]⟩
abbrev S512x1024 : Shape := ⟨2, ![512, 1024]⟩
abbrev S1x256x1024 : Shape := ⟨3, ![1, 256, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x7168, .f32⟩
  | .hbm, ⟨1, _⟩ => ⟨S2x512x2048, .bf16⟩
  | .hbm, ⟨2, _⟩ => ⟨S256, .f32⟩
  | .hbm, ⟨3, _⟩ => ⟨S1x256, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![c0_i32_4.toNat, v16.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemARefIdeal.lean ====
abbrev S16384x7168 : Shape := ⟨2, ![16384, 7168]⟩
abbrev S2x512x2048 : Shape := ⟨3, ![2, 512, 2048]⟩
abbrev S256 : Shape := ⟨1, ![256]⟩
abbrev S16384x1024 : Shape := ⟨2, ![16384, 1024]⟩
abbrev S1x512x2048 : Shape := ⟨3, ![1, 512, 2048]⟩
abbrev S512x2048 : Shape := ⟨2, ![512, 2048]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 51
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S2x512x2048, .bf16⟩
  | .hbm, ⟨2, _⟩ => ⟨S256, .f32⟩
  | .hbm, ⟨3, _⟩ => ⟨S16384x1024, .f32⟩
  | .hbm, ⟨4, _⟩ => ⟨S1x512x2048, .bf16⟩
  | .hbm, ⟨5, _⟩ => ⟨S512x2048, .bf16⟩
  | .hbm, ⟨6, _⟩ => ⟨S2x8192x4x256, .f32⟩
  | .hbm, ⟨7, _⟩ => ⟨S2x8192x4x256, .f32⟩
  | .hbm, ⟨8, _⟩ => ⟨S_, .f32⟩
  | .hbm, ⟨9, _⟩ => ⟨S2x8192x4, .f32⟩
  | .hbm, ⟨10, _⟩ => ⟨S2x8192x4x1, .f32⟩
  | .hbm, ⟨11, _⟩ => ⟨S_, .f32⟩
  | .hbm, ⟨12, _⟩ => ⟨S2x8192x4x1, .f32⟩
  | .hbm, ⟨13, _⟩ => ⟨S2x8192x4x1, .f32⟩
  | .hbm, ⟨14, _⟩ => ⟨S_, .f32⟩
  | .hbm, ⟨15, _⟩ => ⟨S2x8192x4x1, .f32⟩
  | .hbm, ⟨16, _⟩ => ⟨S2x8192x4x1, .f32⟩
  | .hbm, ⟨17, _⟩ => ⟨S2x8192x4x1, .f32⟩
  | .hbm, ⟨18, _⟩ => ⟨S2x8192x4x256, .f32⟩
  | .hbm, ⟨19, _⟩ => ⟨S2x8192x4x256, .f32⟩
  | .hbm, ⟨20, _⟩ => ⟨S1x1x1x256, .f32⟩
  | .hbm, ⟨21, _⟩ => ⟨S2x8192x4x256, .f32⟩
  | .hbm, ⟨22, _⟩ => ⟨S2x8192x4x256, .f32⟩
  | .hbm, ⟨23, _⟩ => ⟨S512x2048, .f32⟩
  | .hbm, ⟨24, _⟩ => ⟨S2x256x2x4x256, .f32⟩
  | .hbm, ⟨25, _⟩ => ⟨S2x256x1x4x256, .f32⟩
  | .hbm, ⟨26, _⟩ => ⟨S2x256x4x256, .f32⟩
  | .hbm, ⟨27, _⟩ => ⟨S2x4x8192x256, .f32⟩
  | .hbm, ⟨28, _⟩ => ⟨S_, .f32⟩
  | .hbm, ⟨29, _⟩ => ⟨S2x4x8192x256, .f32⟩
  | .hbm, ⟨30, _⟩ => ⟨S2x4x8192x256, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192x1, .f32⟩
  | .hbm, ⟨37, _⟩ => ⟨S2x4x8192x256, .f32⟩
  | .hbm, ⟨38, _⟩ => ⟨S2x4x8192x256, .f32⟩
  | .hbm, ⟨39, _⟩ => ⟨S2x4x8192x256, .f32⟩
  | .hbm, ⟨40, _⟩ => ⟨S_, .f32⟩
  | .hbm, ⟨41, _⟩ => ⟨S2x4x8192, .f32⟩
  | .hbm, ⟨42, _⟩ => ⟨S2x4x8192x1, .f32⟩
  | .hbm, ⟨43, _⟩ => ⟨S2x4x8192x256, .f32⟩
  | .hbm, ⟨44, _⟩ => ⟨S2x4x8192x256, .f32⟩
  | .hbm, ⟨45, _⟩ => ⟨S2x256x1x4x256, .f32⟩
  | .hbm, ⟨46, _⟩ => ⟨S2x256x4x256, .f32⟩
  | .hbm, ⟨47, _⟩ => ⟨S2x4x256x8192, .f32⟩
  | .hbm, ⟨48, _⟩ => ⟨S2x8192x4x256, .f32⟩
  | .hbm, ⟨49, _⟩ => ⟨S16384x1024, .f32⟩
  | .hbm, ⟨50, _⟩ => ⟨S16384x1024, .bf16⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== MemB.lean ====
abbrev S16384x2048 : Shape := ⟨2, ![16384, 2048]⟩
abbrev S2x512x2048 : Shape := ⟨3, ![2, 512, 2048]⟩
abbrev S256 : Shape := ⟨1, ![256]⟩
abbrev S1x256 : Shape := ⟨2, ![1, 256]⟩
abbrev S16384x1024 : Shape := ⟨2, ![16384, 1024]⟩
abbrev S512x1024 : Shape := ⟨2, ![512, 1024]⟩
abbrev S1x256x1024 : Shape := ⟨3, ![1, 256, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2x512x2048, .bf16⟩
  | .hbm, ⟨2, _⟩ => ⟨S256, .f32⟩
  | .hbm, ⟨3, _⟩ => ⟨S1x256, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, v16.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  ![c1_i32_4.toNat, v16.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemBRefIdeal.lean ====
abbrev S16384x2048 : Shape := ⟨2, ![16384, 2048]⟩
abbrev S2x512x2048 : Shape := ⟨3, ![2, 512, 2048]⟩
abbrev S256 : Shape := ⟨1, ![256]⟩
abbrev S16384x1024 : Shape := ⟨2, ![16384, 1024]⟩
abbrev S1x512x2048 : Shape := ⟨3, ![1, 512, 2048]⟩
abbrev S512x2048 : Shape := ⟨2, ![512, 2048]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x512x2048, .bf16⟩
  | .hbm, ⟨2, _⟩ => ⟨S256, .f32⟩
  | .hbm, ⟨3, _⟩ => ⟨S16384x1024, .f32⟩
  | .hbm, ⟨4, _⟩ => ⟨S1x512x2048, .bf16⟩
  | .hbm, ⟨5, _⟩ => ⟨S512x2048, .bf16⟩
  | .hbm, ⟨6, _⟩ => ⟨S2x8192x4x256, .f32⟩
  | .hbm, ⟨7, _⟩ => ⟨S2x8192x4x256, .f32⟩
  | .hbm, ⟨8, _⟩ => ⟨S_, .f32⟩
  | .hbm, ⟨9, _⟩ => ⟨S2x8192x4, .f32⟩
  | .hbm, ⟨10, _⟩ => ⟨S2x8192x4x1, .f32⟩
  | .hbm, ⟨11, _⟩ => ⟨S_, .f32⟩
  | .hbm, ⟨12, _⟩ => ⟨S2x8192x4x1, .f32⟩
  | .hbm, ⟨13, _⟩ => ⟨S2x8192x4x1, .f32⟩
  | .hbm, ⟨14, _⟩ => ⟨S_, .f32⟩
  | .hbm, ⟨15, _⟩ => ⟨S2x8192x4x1, .f32⟩
  | .hbm, ⟨16, _⟩ => ⟨S2x8192x4x1, .f32⟩
  | .hbm, ⟨17, _⟩ => ⟨S2x8192x4x1, .f32⟩
  | .hbm, ⟨18, _⟩ => ⟨S2x8192x4x256, .f32⟩
  | .hbm, ⟨19, _⟩ => ⟨S2x8192x4x256, .f32⟩
  | .hbm, ⟨20, _⟩ => ⟨S1x1x1x256, .f32⟩
  | .hbm, ⟨21, _⟩ => ⟨S2x8192x4x256, .f32⟩
  | .hbm, ⟨22, _⟩ => ⟨S2x8192x4x256, .f32⟩
  | .hbm, ⟨23, _⟩ => ⟨S512x2048, .f32⟩
  | .hbm, ⟨24, _⟩ => ⟨S2x256x2x4x256, .f32⟩
  | .hbm, ⟨25, _⟩ => ⟨S2x256x1x4x256, .f32⟩
  | .hbm, ⟨26, _⟩ => ⟨S2x256x4x256, .f32⟩
  | .hbm, ⟨27, _⟩ => ⟨S2x4x8192x256, .f32⟩
  | .hbm, ⟨28, _⟩ => ⟨S_, .f32⟩
  | .hbm, ⟨29, _⟩ => ⟨S2x4x8192x256, .f32⟩
  | .hbm, ⟨30, _⟩ => ⟨S2x4x8192x256, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192x1, .f32⟩
  | .hbm, ⟨37, _⟩ => ⟨S2x4x8192x256, .f32⟩
  | .hbm, ⟨38, _⟩ => ⟨S2x4x8192x256, .f32⟩
  | .hbm, ⟨39, _⟩ => ⟨S2x4x8192x256, .f32⟩
  | .hbm, ⟨40, _⟩ => ⟨S_, .f32⟩
  | .hbm, ⟨41, _⟩ => ⟨S2x4x8192, .f32⟩
  | .hbm, ⟨42, _⟩ => ⟨S2x4x8192x1, .f32⟩
  | .hbm, ⟨43, _⟩ => ⟨S2x4x8192x256, .f32⟩
  | .hbm, ⟨44, _⟩ => ⟨S2x4x8192x256, .f32⟩
  | .hbm, ⟨45, _⟩ => ⟨S2x256x1x4x256, .f32⟩
  | .hbm, ⟨46, _⟩ => ⟨S2x256x4x256, .f32⟩
  | .hbm, ⟨47, _⟩ => ⟨S2x4x256x8192, .f32⟩
  | .hbm, ⟨48, _⟩ => ⟨S2x8192x4x256, .f32⟩
  | .hbm, ⟨49, _⟩ => ⟨S16384x1024, .f32⟩
  | .hbm, ⟨50, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== NormOne.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormOneRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormTwo.lean ====
abbrev S16384x4096 : Shape := ⟨2, ![16384, 4096]⟩
abbrev S4096 : Shape := ⟨1, ![4096]⟩
abbrev S1x4096 : Shape := ⟨2, ![1, 4096]⟩
abbrev S2x4096 : Shape := ⟨2, ![2, 4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S2x4096, .f32⟩
  | .hbm, ⟨6, _⟩ => ⟨S16384x4096, .bf16⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S2x4096, .f32⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormTwoRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | .hbm, ⟨20, _⟩ => ⟨S16384x4096, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Conv.lean ====
abbrev S16384x7168 : Shape := ⟨2, ![16384, 7168]⟩
abbrev S31x3072 : Shape := ⟨2, ![31, 3072]⟩
abbrev S3072 : Shape := ⟨1, ![3072]⟩
abbrev S1x3072 : Shape := ⟨2, ![1, 3072]⟩
abbrev S16384x3072 : Shape := ⟨2, ![16384, 3072]⟩
abbrev S64x3072 : Shape := ⟨2, ![64, 3072]⟩
abbrev S32x3072 : Shape := ⟨2, ![32, 3072]⟩
abbrev S96x3072 : Shape := ⟨2, ![96, 3072]⟩
abbrev S16x3072 : Shape := ⟨2, ![16, 3072]⟩
abbrev S16 : Shape := ⟨1, ![16]⟩
abbrev S16x1 : Shape := ⟨2, ![16, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x7168, .f32⟩
  | .hbm, ⟨1, _⟩ => ⟨S31x3072, .f32⟩
  | .hbm, ⟨2, _⟩ => ⟨S3072, .f32⟩
  | .hbm, ⟨3, _⟩ => ⟨S3072, .f32⟩
  | .hbm, ⟨4, _⟩ => ⟨S3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S16384x3072, .bf16⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S32x3072, .f32⟩
  | .local _ .vmem, ⟨5, _⟩ => ⟨S32x3072, .f32⟩
  | .local _ .vmem, ⟨6, _⟩ => ⟨S32x3072, .f32⟩
  | .local _ .vmem, ⟨7, _⟩ => ⟨S32x3072, .f32⟩
  | .local _ .vmem, ⟨8, _⟩ => ⟨S31x3072, .f32⟩
  | .local _ .vmem, ⟨9, _⟩ => ⟨S1x3072, .f32⟩
  | .local _ .vmem, ⟨10, _⟩ => ⟨S1x3072, .f32⟩
  | .local _ .vmem, ⟨11, _⟩ => ⟨S1x3072, .f32⟩
  | .local _ .vmem, ⟨12, _⟩ => ⟨S64x3072, .bf16⟩
  | .local _ .vmem, ⟨13, _⟩ => ⟨S64x3072, .bf16⟩
  | .local _ .vmem, ⟨14, _⟩ => ⟨S96x3072, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S16384x7168 : Shape := ⟨2, ![16384, 7168]⟩
abbrev S31x3072 : Shape := ⟨2, ![31, 3072]⟩
abbrev S3072 : Shape := ⟨1, ![3072]⟩
abbrev S16384x3072 : Shape := ⟨2, ![16384, 3072]⟩
abbrev S2x8192x3072 : Shape := ⟨3, ![2, 8192, 3072]⟩
abbrev S_ : Shape := ⟨0, ![]⟩
abbrev S2x8222x3072 : Shape := ⟨3, ![2, 8222, 3072]⟩
abbrev S1x3072 : Shape := ⟨2, ![1, 3072]⟩
abbrev S1x1x3072 : Shape := ⟨3, ![1, 1, 3072]⟩
abbrev S2x8192 : Shape := ⟨2, ![2, 8192]⟩
abbrev S2x8192x1 : Shape := ⟨3, ![2, 8192, 1]⟩

abbrev nBuf : Space → Nat
  | .hbm => 283
  | .vmem => 0
  | .smem => 0
  | _ => 0

abbrev hbmTy0_0 (i : Nat) : BufTy := match i % 128 with
  | 0 => ⟨S16384x7168, .f32⟩
  | 1 => ⟨S31x3072, .f32⟩
  | 2 => ⟨S3072, .f32⟩
  | 3 => ⟨S3072, .f32⟩
  | 4 => ⟨S3072, .f32⟩
  | 5 => ⟨S16384x3072, .f32⟩
  | 6 => ⟨S2x8192x3072, .f32⟩
  | 7 => ⟨S16384x3072, .f32⟩
  | 8 => ⟨S2x8192x3072, .f32⟩
  | 9 => ⟨S2x8192x3072, .f32⟩
  | 10 => ⟨S2x8192x3072, .f32⟩
  | 11 => ⟨S_, .f32⟩
  | 12 => ⟨S2x8192x3072, .f32⟩
  | 13 => ⟨S2x8192x3072, .f32⟩
  | 14 => ⟨S_, .f32⟩
  | 15 => ⟨S2x8192x3072, .f32⟩
  | 16 => ⟨S2x8192x3072, .f32⟩
  | 17 => ⟨S2x8192x3072, .f32⟩
  | 18 => ⟨S_, .i32⟩
  | 19 => ⟨S_, .f32⟩
  | 20 => ⟨S2x8222x3072, .f32⟩
  | 21 => ⟨S2x8192x3072, .f32⟩
  | 22 => ⟨S1x3072, .f32⟩
  | 23 => ⟨S3072, .f32⟩
  | 24 => ⟨S1x1x3072, .f32⟩
  | 25 => ⟨S2x8192x3072, .f32⟩
  | 26 => ⟨S2x8192x3072, .f32⟩
  | 27 => ⟨S_, .f32⟩
  | 28 => ⟨S2x8192x3072, .f32⟩
  | 29 => ⟨S2x8192x3072, .f32⟩
  | 30 => ⟨S2x8192x3072, .f32⟩
  | 31 => ⟨S1x3072, .f32⟩
  | 32 => ⟨S3072, .f32⟩
  | 33 => ⟨S1x1x3072, .f32⟩
  | 34 => ⟨S2x8192x3072, .f32⟩
  | 35 => ⟨S2x8192x3072, .f32⟩
  | 36 => ⟨S2x8192x3072, .f32⟩
  | 37 => ⟨S2x8192x3072, .f32⟩
  | 38 => ⟨S1x3072, .f32⟩
  | 39 => ⟨S3072, .f32⟩
  | 40 => ⟨S1x1x3072, .f32⟩
  | 41 => ⟨S2x8192x3072, .f32⟩
  | 42 => ⟨S2x8192x3072, .f32⟩
  | 43 => ⟨S2x8192x3072, .f32⟩
  | 44 => ⟨S2x8192x3072, .f32⟩
  | 45 => ⟨S1x3072, .f32⟩
  | 46 => ⟨S3072, .f32⟩
  | 47 => ⟨S1x1x3072, .f32⟩
  | 48 => ⟨S2x8192x3072, .f32⟩
  | 49 => ⟨S2x8192x3072, .f32⟩
  | 50 => ⟨S2x8192x3072, .f32⟩
  | 51 => ⟨S2x8192x3072, .f32⟩
  | 52 => ⟨S1x3072, .f32⟩
  | 53 => ⟨S3072, .f32⟩
  | 54 => ⟨S1x1x3072, .f32⟩
  | 55 => ⟨S2x8192x3072, .f32⟩
  | 56 => ⟨S2x8192x3072, .f32⟩
  | 57 => ⟨S2x8192x3072, .f32⟩
  | 58 => ⟨S2x8192x3072, .f32⟩
  | 59 => ⟨S1x3072, .f32⟩
  | 60 => ⟨S3072, .f32⟩
  | 61 => ⟨S1x1x3072, .f32⟩
  | 62 => ⟨S2x8192x3072, .f32⟩
  | 63 => ⟨S2x8192x3072, .f32⟩
  | 64 => ⟨S2x8192x3072, .f32⟩
  | 65 => ⟨S2x8192x3072, .f32⟩
  | 66 => ⟨S1x3072, .f32⟩
  | 67 => ⟨S3072, .f32⟩
  | 68 => ⟨S1x1x3072, .f32⟩
  | 69 => ⟨S2x8192x3072, .f32⟩
  | 70 => ⟨S2x8192x3072, .f32⟩
  | 71 => ⟨S2x8192x3072, .f32⟩
  | 72 => ⟨S2x8192x3072, .f32⟩
  | 73 => ⟨S1x3072, .f32⟩
  | 74 => ⟨S3072, .f32⟩
  | 75 => ⟨S1x1x3072, .f32⟩
  | 76 => ⟨S2x8192x3072, .f32⟩
  | 77 => ⟨S2x8192x3072, .f32⟩
  | 78 => ⟨S2x8192x3072, .f32⟩
  | 79 => ⟨S2x8192x3072, .f32⟩
  | 80 => ⟨S1x3072, .f32⟩
  | 81 => ⟨S3072, .f32⟩
  | 82 => ⟨S1x1x3072, .f32⟩
  | 83 => ⟨S2x8192x3072, .f32⟩
  | 84 => ⟨S2x8192x3072, .f32⟩
  | 85 => ⟨S2x8192x3072, .f32⟩
  | 86 => ⟨S2x8192x3072, .f32⟩
  | 87 => ⟨S1x3072, .f32⟩
  | 88 => ⟨S3072, .f32⟩
  | 89 => ⟨S1x1x3072, .f32⟩
  | 90 => ⟨S2x8192x3072, .f32⟩
  | 91 => ⟨S2x8192x3072, .f32⟩
  | 92 => ⟨S2x8192x3072, .f32⟩
  | 93 => ⟨S2x8192x3072, .f32⟩
  | 94 => ⟨S1x3072, .f32⟩
  | 95 => ⟨S3072, .f32⟩
  | 96 => ⟨S1x1x3072, .f32⟩
  | 97 => ⟨S2x8192x3072, .f32⟩
  | 98 => ⟨S2x8192x3072, .f32⟩
  | 99 => ⟨S2x8192x3072, .f32⟩
  | 100 => ⟨S2x8192x3072, .f32⟩
  | 101 => ⟨S1x3072, .f32⟩
  | 102 => ⟨S3072, .f32⟩
  | 103 => ⟨S1x1x3072, .f32⟩
  | 104 => ⟨S2x8192x3072, .f32⟩
  | 105 => ⟨S2x8192x3072, .f32⟩
  | 106 => ⟨S2x8192x3072, .f32⟩
  | 107 => ⟨S2x8192x3072, .f32⟩
  | 108 => ⟨S1x3072, .f32⟩
  | 109 => ⟨S3072, .f32⟩
  | 110 => ⟨S1x1x3072, .f32⟩
  | 111 => ⟨S2x8192x3072, .f32⟩
  | 112 => ⟨S2x8192x3072, .f32⟩
  | 113 => ⟨S2x8192x3072, .f32⟩
  | 114 => ⟨S2x8192x3072, .f32⟩
  | 115 => ⟨S1x3072, .f32⟩
  | 116 => ⟨S3072, .f32⟩
  | 117 => ⟨S1x1x3072, .f32⟩
  | 118 => ⟨S2x8192x3072, .f32⟩
  | 119 => ⟨S2x8192x3072, .f32⟩
  | 120 => ⟨S2x8192x3072, .f32⟩
  | 121 => ⟨S2x8192x3072, .f32⟩
  | 122 => ⟨S1x3072, .f32⟩
  | 123 => ⟨S3072, .f32⟩
  | 124 => ⟨S1x1x3072, .f32⟩
  | 125 => ⟨S2x8192x3072, .f32⟩
  | 126 => ⟨S2x8192x3072, .f32⟩
  | 127 => ⟨S2x8192x3072, .f32⟩
  | _ => ⟨S16384x7168, .f32⟩

abbrev hbmTy0_1 (i : Nat) : BufTy := match i % 128 with
  | 0 => ⟨S2x8192x3072, .f32⟩
  | 1 => ⟨S1x3072, .f32⟩
  | 2 => ⟨S3072, .f32⟩
  | 3 => ⟨S1x1x3072, .f32⟩
  | 4 => ⟨S2x8192x3072, .f32⟩
  | 5 => ⟨S2x8192x3072, .f32⟩
  | 6 => ⟨S2x8192x3072, .f32⟩
  | 7 => ⟨S2x8192x3072, .f32⟩
  | 8 => ⟨S1x3072, .f32⟩
  | 9 => ⟨S3072, .f32⟩
  | 10 => ⟨S1x1x3072, .f32⟩
  | 11 => ⟨S2x8192x3072, .f32⟩
  | 12 => ⟨S2x8192x3072, .f32⟩
  | 13 => ⟨S2x8192x3072, .f32⟩
  | 14 => ⟨S2x8192x3072, .f32⟩
  | 15 => ⟨S1x3072, .f32⟩
  | 16 => ⟨S3072, .f32⟩
  | 17 => ⟨S1x1x3072, .f32⟩
  | 18 => ⟨S2x8192x3072, .f32⟩
  | 19 => ⟨S2x8192x3072, .f32⟩
  | 20 => ⟨S2x8192x3072, .f32⟩
  | 21 => ⟨S2x8192x3072, .f32⟩
  | 22 => ⟨S1x3072, .f32⟩
  | 23 => ⟨S3072, .f32⟩
  | 24 => ⟨S1x1x3072, .f32⟩
  | 25 => ⟨S2x8192x3072, .f32⟩
  | 26 => ⟨S2x8192x3072, .f32⟩
  | 27 => ⟨S2x8192x3072, .f32⟩
  | 28 => ⟨S2x8192x3072, .f32⟩
  | 29 => ⟨S1x3072, .f32⟩
  | 30 => ⟨S3072, .f32⟩
  | 31 => ⟨S1x1x3072, .f32⟩
  | 32 => ⟨S2x8192x3072, .f32⟩
  | 33 => ⟨S2x8192x3072, .f32⟩
  | 34 => ⟨S2x8192x3072, .f32⟩
  | 35 => ⟨S2x8192x3072, .f32⟩
  | 36 => ⟨S1x3072, .f32⟩
  | 37 => ⟨S3072, .f32⟩
  | 38 => ⟨S1x1x3072, .f32⟩
  | 39 => ⟨S2x8192x3072, .f32⟩
  | 40 => ⟨S2x8192x3072, .f32⟩
  | 41 => ⟨S2x8192x3072, .f32⟩
  | 42 => ⟨S2x8192x3072, .f32⟩
  | 43 => ⟨S1x3072, .f32⟩
  | 44 => ⟨S3072, .f32⟩
  | 45 => ⟨S1x1x3072, .f32⟩
  | 46 => ⟨S2x8192x3072, .f32⟩
  | 47 => ⟨S2x8192x3072, .f32⟩
  | 48 => ⟨S2x8192x3072, .f32⟩
  | 49 => ⟨S2x8192x3072, .f32⟩
  | 50 => ⟨S1x3072, .f32⟩
  | 51 => ⟨S3072, .f32⟩
  | 52 => ⟨S1x1x3072, .f32⟩
  | 53 => ⟨S2x8192x3072, .f32⟩
  | 54 => ⟨S2x8192x3072, .f32⟩
  | 55 => ⟨S2x8192x3072, .f32⟩
  | 56 => ⟨S2x8192x3072, .f32⟩
  | 57 => ⟨S1x3072, .f32⟩
  | 58 => ⟨S3072, .f32⟩
  | 59 => ⟨S1x1x3072, .f32⟩
  | 60 => ⟨S2x8192x3072, .f32⟩
  | 61 => ⟨S2x8192x3072, .f32⟩
  | 62 => ⟨S2x8192x3072, .f32⟩
  | 63 => ⟨S2x8192x3072, .f32⟩
  | 64 => ⟨S1x3072, .f32⟩
  | 65 => ⟨S3072, .f32⟩
  | 66 => ⟨S1x1x3072, .f32⟩
  | 67 => ⟨S2x8192x3072, .f32⟩
  | 68 => ⟨S2x8192x3072, .f32⟩
  | 69 => ⟨S2x8192x3072, .f32⟩
  | 70 => ⟨S2x8192x3072, .f32⟩
  | 71 => ⟨S1x3072, .f32⟩
  | 72 => ⟨S3072, .f32⟩
  | 73 => ⟨S1x1x3072, .f32⟩
  | 74 => ⟨S2x8192x3072, .f32⟩
  | 75 => ⟨S2x8192x3072, .f32⟩
  | 76 => ⟨S2x8192x3072, .f32⟩
  | 77 => ⟨S2x8192x3072, .f32⟩
  | 78 => ⟨S1x3072, .f32⟩
  | 79 => ⟨S3072, .f32⟩
  | 80 => ⟨S1x1x3072, .f32⟩
  | 81 => ⟨S2x8192x3072, .f32⟩
  | 82 => ⟨S2x8192x3072, .f32⟩
  | 83 => ⟨S2x8192x3072, .f32⟩
  | 84 => ⟨S2x8192x3072, .f32⟩
  | 85 => ⟨S1x3072, .f32⟩
  | 86 => ⟨S3072, .f32⟩
  | 87 => ⟨S1x1x3072, .f32⟩
  | 88 => ⟨S2x8192x3072, .f32⟩
  | 89 => ⟨S2x8192x3072, .f32⟩
  | 90 => ⟨S2x8192x3072, .f32⟩
  | 91 => ⟨S2x8192x3072, .f32⟩
  | 92 => ⟨S1x3072, .f32⟩
  | 93 => ⟨S3072, .f32⟩
  | 94 => ⟨S1x1x3072, .f32⟩
  | 95 => ⟨S2x8192x3072, .f32⟩
  | 96 => ⟨S2x8192x3072, .f32⟩
  | 97 => ⟨S2x8192x3072, .f32⟩
  | 98 => ⟨S2x8192x3072, .f32⟩
  | 99 => ⟨S1x3072, .f32⟩
  | 100 => ⟨S3072, .f32⟩
  | 101 => ⟨S1x1x3072, .f32⟩
  | 102 => ⟨S2x8192x3072, .f32⟩
  | 103 => ⟨S2x8192x3072, .f32⟩
  | 104 => ⟨S2x8192x3072, .f32⟩
  | 105 => ⟨S2x8192x3072, .f32⟩
  | 106 => ⟨S1x3072, .f32⟩
  | 107 => ⟨S3072, .f32⟩
  | 108 => ⟨S1x1x3072, .f32⟩
  | 109 => ⟨S2x8192x3072, .f32⟩
  | 110 => ⟨S2x8192x3072, .f32⟩
  | 111 => ⟨S2x8192x3072, .f32⟩
  | 112 => ⟨S1x1x3072, .f32⟩
  | 113 => ⟨S2x8192x3072, .f32⟩
  | 114 => ⟨S2x8192x3072, .f32⟩
  | 115 => ⟨S_, .f32⟩
  | 116 => ⟨S2x8192, .f32⟩
  | 117 => ⟨S2x8192x1, .f32⟩
  | 118 => ⟨S_, .f32⟩
  | 119 => ⟨S2x8192x1, .f32⟩
  | 120 => ⟨S2x8192x1, .f32⟩
  | 121 => ⟨S2x8192x3072, .f32⟩
  | 122 => ⟨S2x8192x3072, .f32⟩
  | 123 => ⟨S2x8192x3072, .f32⟩
  | 124 => ⟨S_, .f32⟩
  | 125 => ⟨S2x8192, .f32⟩
  | 126 => ⟨S2x8192x1, .f32⟩
  | 127 => ⟨S_, .f32⟩
  | _ => ⟨S16384x7168, .f32⟩

abbrev hbmTy0_2 (i : Nat) : BufTy := match i % 128 with
  | 0 => ⟨S2x8192x1, .f32⟩
  | 1 => ⟨S2x8192x1, .f32⟩
  | 2 => ⟨S2x8192x3072, .f32⟩
  | 3 => ⟨S2x8192x3072, .f32⟩
  | 4 => ⟨S_, .f32⟩
  | 5 => ⟨S2x8192x1, .f32⟩
  | 6 => ⟨S2x8192x1, .f32⟩
  | 7 => ⟨S2x8192x1, .f32⟩
  | 8 => ⟨S2x8192x3072, .f32⟩
  | 9 => ⟨S2x8192x3072, .f32⟩
  | 10 => ⟨S1x1x3072, .f32⟩
  | 11 => ⟨S2x8192x3072, .f32⟩
  | 12 => ⟨S2x8192x3072, .f32⟩
  | 13 => ⟨S1x1x3072, .f32⟩
  | 14 => ⟨S2x8192x3072, .f32⟩
  | 15 => ⟨S2x8192x3072, .f32⟩
  | 16 => ⟨S2x8192x3072, .f32⟩
  | 17 => ⟨S2x8192x3072, .f32⟩
  | 18 => ⟨S_, .f32⟩
  | 19 => ⟨S2x8192x3072, .f32⟩
  | 20 => ⟨S2x8192x3072, .f32⟩
  | 21 => ⟨S_, .f32⟩
  | 22 => ⟨S2x8192x3072, .f32⟩
  | 23 => ⟨S2x8192x3072, .f32⟩
  | 24 => ⟨S2x8192x3072, .f32⟩
  | 25 => ⟨S16384x3072, .f32⟩
  | 26 => ⟨S16384x3072, .bf16⟩
  | _ => ⟨S16384x7168, .f32⟩

abbrev hbmTy (i : Nat) : BufTy := match i / 128 with
  | 0 => hbmTy0_0 i
  | 1 => hbmTy0_1 i
  | 2 => hbmTy0_2 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_6 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_call1_v0 : Ref sig .tc := ⟨.hbm, 272, rfl⟩
abbrev main_call1_v1 : Ref sig .tc := ⟨.hbm, 273, rfl⟩
abbrev main_call1_cst : Ref sig .tc := ⟨.hbm, 274, rfl⟩
abbrev main_call1_v2 : Ref sig .tc := ⟨.hbm, 275, rfl⟩
abbrev main_call1_v3 : Ref sig .tc := ⟨.hbm, 276, rfl⟩
abbrev main_call1_cst_0 : Ref sig .tc := ⟨.hbm, 277, rfl⟩
abbrev main_call1_v4 : Ref sig .tc := ⟨.hbm, 278, rfl⟩
abbrev main_call1_v5 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩

abbrev nD : Nat := 1
abbrev τ : Topo := Topo.v7x

variable {F : FTy → Type} [FloatOps F]
-- ==== Proof.AttentionRun.lean ====
module

public import proofs.«01_k».proof.Proof.Gen.KernelIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.Proof.Attention

open Cert.KernelIdeal Cert.KernelIdeal.Gen Idealize.ShloMosaic Idealize.ShloMosaic.TcCoe Idealize.SL.Sem
open Idealize.ShloMosaic.Tactic

/-- What the three scratch buffers hold: running maximum, running denominator, running numerator. -/
abbrev St := Vec Ideal S512x1 .f32 × Vec Ideal S512x1 .f32 × Vec Ideal S512x128 .f32

/-- One unmasked step over a block of keys and values. -/
def upd (q kb : Vec Ideal S512x256 .bf16) (vb : Vec Ideal S512x128 .bf16) (s : St) : St :=
  (k0_pay10 q kb s.1, k0_pay8 q kb s.1 s.2.1, k0_pay9 q kb s.1 s.2.2 vb)

/-- The step over the block on the diagonal, its later keys masked. -/
def updMasked (q kb : Vec Ideal S512x256 .bf16) (vb : Vec Ideal S512x128 .bf16) (s : St) : St :=
  (k0_pay24 (k0_pay18 q kb) s.1, k0_pay22 (k0_pay18 q kb) s.1 s.2.1, k0_pay23 (k0_pay18 q kb) s.1 s.2.2 vb)

/-- Block `j` of 512 rows of keys. -/
def keys (x : Vec Ideal S8192x256 .bf16) (j : ℕ) : Vec Ideal S512x256 .bf16 :=
  fun y => x (ix2 ⟨(512 * j + (y 0 : ℕ)) % 8192, Nat.mod_lt _ (by decide)⟩ (y 1))

/-- Block `j` of 512 rows of values. -/
def vals (x : Vec Ideal S8192x128 .bf16) (j : ℕ) : Vec Ideal S512x128 .bf16 :=
  fun y => x (ix2 ⟨(512 * j + (y 0 : ℕ)) % 8192, Nat.mod_lt _ (by decide)⟩ (y 1))

/-- The scratch after the first `n` blocks. -/
def sweep (q : Vec Ideal S512x256 .bf16) (x1 : Vec Ideal S8192x256 .bf16) (x2 : Vec Ideal S8192x128 .bf16) : ℕ → St
  | 0 => (k0_pay1 (F := Ideal), k0_pay2 (F := Ideal), k0_pay3 (F := Ideal))
  | n + 1 => upd q (keys x1 n) (vals x2 n) (sweep q x1 x2 n)

variable (c : Dev nD) (i : grid0.Coords) (arg3 : Memref sig .tc .vmem S512x256 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)

/-- The query block at grid coordinate `i 2` sweeps that many blocks of keys without a mask. -/
theorem trips_one : (k0_t1_loop i).trips = (i 2).val :=
  (by decide +kernel : ∀ n : Fin 16, Scf.trips 0#32
      (Scalar.addi (0#32) (Scalar.muli (Scalar.divsi (Scalar.subi (BitVec.ofNat 32 n.val) 0#32) 1#32) 1#32)) 1#32 = n.val) (i 2)

/-- The loop over what is left of them after unrolling runs no trip. -/
theorem trips_two : (k0_t2_loop i).trips = 0 :=
  (by decide +kernel : ∀ n : Fin 16, Scf.trips
      (Scalar.addi (0#32) (Scalar.muli (Scalar.divsi (Scalar.subi (BitVec.ofNat 32 n.val) 0#32) 1#32) 1#32))
      (Scalar.addi (0#32) (Scalar.subi (BitVec.ofNat 32 n.val) 0#32)) 1#32 = 0) (i 2)

/-- A small number of rows times 512 does not wrap. -/
theorem rows_at : ∀ n : Fin 16, BitVec.toNat (Scalar.indexCast (Scalar.muli (BitVec.ofNat 32 n.val) 512#32)) = 512 * n.val := by
  decide +kernel

/-- The same with the row block counted by the loop. -/
theorem rows_iv : ∀ n : Fin 16, BitVec.toNat (Scalar.indexCast (Scalar.muli (Scf.iv 0#32 1#32 n.val) 512#32)) = 512 * n.val := by
  decide +kernel

theorem trip_lt (k : Fin (k0_t1_loop i).trips) : k.val < 16 :=
  lt_trans (lt_of_lt_of_eq k.isLt (trips_one i)) (i 2).isLt

theorem off1 (k : Fin (k0_t1_loop i).trips) : k0_off1 i k = ![512 * k.val, 0] :=
  congrArg (fun n => ![n, 0]) (rows_iv ⟨k.val, trip_lt i k⟩)
theorem off2 (k : Fin (k0_t1_loop i).trips) : k0_off2 i k = ![512 * k.val, 0] :=
  congrArg (fun n => ![n, 0]) (rows_iv ⟨k.val, trip_lt i k⟩)
theorem off5 : k0_off5 i = ![512 * (i 2).val, 0] := congrArg (fun n => ![n, 0]) (rows_at (i 2))
theorem off6 : k0_off6 i = ![512 * (i 2).val, 0] := congrArg (fun n => ![n, 0]) (rows_at (i 2))

/-- A load of 512 rows of the keys at row `512 j` is the block `j`. -/
theorem ld_keys (x : Vec Ideal S8192x256 .bf16) (off : Fin 2 → ℕ) (j : ℕ) (h : off = ![512 * j, 0]) (inb) :
    View.ld x (Rect.unit (s := S8192x256) off S512x256.size inb) = keys x j := by
  subst h
  funext y
  have h0 := inb 0
  have hy := (y 0).isLt
  refine View.ld_unit_apply_of x _ _ inb y _ fun a => ?_
  match a with
  | ⟨0, _⟩ =>
    refine Nat.mod_eq_of_lt ?_
    have : 512 * j + 512 ≤ 8192 := h0
    have : (y 0 : ℕ) < 512 := hy
    omega
  | ⟨1, _⟩ => exact (Nat.zero_add _).symm

/-- The same for the values. -/
theorem ld_vals (x : Vec Ideal S8192x128 .bf16) (off : Fin 2 → ℕ) (j : ℕ) (h : off = ![512 * j, 0]) (inb) :
    View.ld x (Rect.unit (s := S8192x128) off S512x128.size inb) = vals x j := by
  subst h
  funext y
  have h0 := inb 0
  have hy := (y 0).isLt
  refine View.ld_unit_apply_of x _ _ inb y _ fun a => ?_
  match a with
  | ⟨0, _⟩ =>
    refine Nat.mod_eq_of_lt ?_
    have : 512 * j + 512 ≤ 8192 := h0
    have : (y 0 : ℕ) < 512 := hy
    omega
  | ⟨1, _⟩ => exact (Nat.zero_add _).symm

theorem zero2 : (![0, 0] : Fin 2 → ℕ) = 0 := by decide

/-- What the three scratch buffers read after one trip of the loop: the step on what they read before. -/
theorem trip (v0 : Vec Ideal S512x256 .bf16) (x1) (x2) (k) (f7) (f8) (f9) :
    (arg7.view.read (Elt Ideal) (arg7.view.writes (Elt Ideal) f7 (tripL_k0_t1 (F := Ideal) Variants.none c none i arg3 harg3 arg4 harg4 arg5 harg5 arg6 harg6 arg7 harg7 arg8 harg8 arg9 harg9 v0 (harg4.unread x1) (harg5.unread x2) k f7 f8 f9).1),
     arg8.view.read (Elt Ideal) (arg8.view.writes (Elt Ideal) f8 (tripL_k0_t1 (F := Ideal) Variants.none c none i arg3 harg3 arg4 harg4 arg5 harg5 arg6 harg6 arg7 harg7 arg8 harg8 arg9 harg9 v0 (harg4.unread x1) (harg5.unread x2) k f7 f8 f9).2.1),
     arg9.view.read (Elt Ideal) (arg9.view.writes (Elt Ideal) f9 (tripL_k0_t1 (F := Ideal) Variants.none c none i arg3 harg3 arg4 harg4 arg5 harg5 arg6 harg6 arg7 harg7 arg8 harg8 arg9 harg9 v0 (harg4.unread x1) (harg5.unread x2) k f7 f8 f9).2.2))
      = upd v0 (keys x1 k.val) (vals x2 k.val)
          (arg7.view.read (Elt Ideal) f7, arg8.view.read (Elt Ideal) f8, arg9.view.read (Elt Ideal) f9) := by
  unfold tripL_k0_t1 trip_k0_t1 upd
  dsimp only
  sl_unfold_words
  have e1 := ld_keys x1 _ _ (off1 i k) (k0_off1_inb i k)
  have e2 := ld_vals x2 _ _ (off2 i k) (k0_off2_inb i k)
  refine Prod.ext ?_ (Prod.ext ?_ ?_)
  · refine (View.read_writes_full ..).trans ?_
    simp only [View.readAt_eq_ld, harg4.read_unread, View.ld_unit_zero (S := S512x1) zero2]
    exact congrArg (fun z => k0_pay10 v0 z _) e1
  · refine (View.read_writes_full ..).trans ?_
    simp only [View.readAt_eq_ld, harg4.read_unread, View.ld_unit_zero (S := S512x1) zero2]
    exact congrArg (fun z => k0_pay8 v0 z _ _) e1
  · refine (View.read_writes_full ..).trans ?_
    simp only [View.readAt_eq_ld, harg4.read_unread, harg5.read_unread, View.ld_unit_zero (S := S512x1) zero2, View.ld_unit_zero (S := S512x128) zero2]
    exact congrArg₂ (fun z w => k0_pay9 v0 z _ _ w) e1 e2

/-- What the three scratch buffers read after the first `n` trips: the sweep over the first `n` blocks. -/
theorem trips_read (v0 : Vec Ideal S512x256 .bf16) (x1) (x2) (G7) (G8) (G9)
    (h7 : arg7.view.read (Elt Ideal) G7 = k0_pay1 (F := Ideal)) (h8 : arg8.view.read (Elt Ideal) G8 = k0_pay2 (F := Ideal))
    (h9 : arg9.view.read (Elt Ideal) G9 = k0_pay3 (F := Ideal)) : ∀ n : ℕ, n ≤ (k0_t1_loop i).trips →
    (arg7.view.read (Elt Ideal) (arg7.view.writes (Elt Ideal) G7 (pb_k0_t1 (F := Ideal) Variants.none c none i arg3 harg3 arg4 harg4 arg5 harg5 arg6 harg6 arg7 harg7 arg8 harg8 arg9 harg9 v0 (harg4.unread x1) (harg5.unread x2) G7 G8 G9 n).1),
     arg8.view.read (Elt Ideal) (arg8.view.writes (Elt Ideal) G8 (pb_k0_t1 (F := Ideal) Variants.none c none i arg3 harg3 arg4 harg4 arg5 harg5 arg6 harg6 arg7 harg7 arg8 harg8 arg9 harg9 v0 (harg4.unread x1) (harg5.unread x2) G7 G8 G9 n).2.1),
     arg9.view.read (Elt Ideal) (arg9.view.writes (Elt Ideal) G9 (pb_k0_t1 (F := Ideal) Variants.none c none i arg3 harg3 arg4 harg4 arg5 harg5 arg6 harg6 arg7 harg7 arg8 harg8 arg9 harg9 v0 (harg4.unread x1) (harg5.unread x2) G7 G8 G9 n).2.2))
      = sweep v0 x1 x2 n
  | 0, _ => by
    rw [pb_k0_t1.eq_1]
    exact Prod.ext h7 (Prod.ext h8 h9)
  | n + 1, hn => by
    have IH := trips_read v0 x1 x2 G7 G8 G9 h7 h8 h9 n (Nat.le_of_succ_le hn)
    have T := trip c i arg3 harg3 arg4 harg4 arg5 harg5 arg6 harg6 arg7 harg7 arg8 harg8 arg9 harg9 v0 x1 x2 ⟨n, hn⟩
      (arg7.view.writes (Elt Ideal) G7 (pb_k0_t1 (F := Ideal) Variants.none c none i arg3 harg3 arg4 harg4 arg5 harg5 arg6 harg6 arg7 harg7 arg8 harg8 arg9 harg9 v0 (harg4.unread x1) (harg5.unread x2) G7 G8 G9 n).1)
      (arg8.view.writes (Elt Ideal) G8 (pb_k0_t1 (F := Ideal) Variants.none c none i arg3 harg3 arg4 harg4 arg5 harg5 arg6 harg6 arg7 harg7 arg8 harg8 arg9 harg9 v0 (harg4.unread x1) (harg5.unread x2) G7 G8 G9 n).2.1)
      (arg9.view.writes (Elt Ideal) G9 (pb_k0_t1 (F := Ideal) Variants.none c none i arg3 harg3 arg4 harg4 arg5 harg5 arg6 harg6 arg7 harg7 arg8 harg8 arg9 harg9 v0 (harg4.unread x1) (harg5.unread x2) G7 G8 G9 n).2.2)
    rw [IH] at T
    rw [pb_k0_t1_succ (k := ⟨n, hn⟩)]
    simp only [View.writes_append]
    exact T

/-- The last step divides the numerator by the denominator, both as the masked step leaves them. -/
def outVal (q : Vec Ideal S512x256 .bf16) (x1 : Vec Ideal S8192x256 .bf16) (x2 : Vec Ideal S8192x128 .bf16) (n : ℕ) : Vec Ideal S512x128 .bf16 :=
  k0_pay25 (updMasked q (keys x1 n) (vals x2 n) (sweep q x1 x2 n)).2.2 (updMasked q (keys x1 n) (vals x2 n) (sweep q x1 x2 n)).2.1

/-- A load of a whole buffer after some stores reads what the stores leave. -/
theorem readCov_whole {κ sp e} {S : Shape} (v : View sig κ sp S e) {off : Fin S.rank → ℕ} (h : off = 0) (inb) (L : List (View.Piece (Elt Ideal) S e)) :
    v.readCov L (Rect.unit off S.size inb).toLoadRect = v.read (Elt Ideal) (v.writes (Elt Ideal) v.junk L) := by
  subst h
  exact (View.readAt_eq_ld ..).trans (View.ld_unit_zero (S := S) rfl ..)

/-- The last step from the values it reads. -/
theorem outVal_of {q : Vec Ideal S512x256 .bf16} {x1 : Vec Ideal S8192x256 .bf16} {x2 : Vec Ideal S8192x128 .bf16} {n : ℕ}
    {q' : Vec Ideal S512x256 .bf16} {kd : Vec Ideal S512x256 .bf16} {vd : Vec Ideal S512x128 .bf16} {m l : Vec Ideal S512x1 .f32} {a : Vec Ideal S512x128 .f32}
    (hq : q' = q) (hk : kd = keys x1 n) (hv : vd = vals x2 n) (hm : m = (sweep q' x1 x2 n).1) (hl : l = (sweep q' x1 x2 n).2.1)
    (ha : a = (sweep q' x1 x2 n).2.2) :
    k0_pay25 (k0_pay23 (k0_pay18 q' kd) m a vd) (k0_pay22 (k0_pay18 q' kd) m l) = outVal q x1 x2 n := by
  subst hq hk hv hm hl ha
  rfl

/-- What the body leaves in the output block. -/
theorem out (x0 x1 x2) : out0_A_3 (F := Ideal) c i arg3 harg3 arg4 harg4 arg5 harg5 arg6 harg6 arg7 harg7 arg8 harg8 arg9 harg9 x0 x1 x2 = outVal x0 x1 x2 (i 2).val := by
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  sl_unfold_words
  have hq : View.readAt (Elt Ideal) arg3.view (Rect.unit ![0, 0] S512x256.size inb_S512x256_S512x256_0_0).toLoadRect (harg3.unread x0) = x0 := by
    rw [View.readAt_eq_ld, harg3.read_unread]
    exact View.ld_unit_zero (S := S512x256) zero2 ..
  have S := trips_read c i arg3 harg3 arg4 harg4 arg5 harg5 arg6 harg6 arg7 harg7 arg8 harg8 arg9 harg9
    (View.readAt (Elt Ideal) arg3.view (Rect.unit ![0, 0] S512x256.size inb_S512x256_S512x256_0_0).toLoadRect (harg3.unread x0)) x1 x2
    (arg7.view.writes (Elt Ideal) arg7.view.junk [⟨Rect.unit ![0, 0] S512x1.size inb_S512x1_S512x1_0_0, k0_pay1 (F := Ideal)⟩])
    (arg8.view.writes (Elt Ideal) arg8.view.junk [⟨Rect.unit ![0, 0] S512x1.size inb_S512x1_S512x1_0_0, k0_pay2 (F := Ideal)⟩])
    (arg9.view.writes (Elt Ideal) arg9.view.junk [⟨Rect.unit ![0, 0] S512x128.size inb_S512x128_S512x128_0_0, k0_pay3 (F := Ideal)⟩])
    (View.read_writes_full ..) (View.read_writes_full ..) (View.read_writes_full ..) _ le_rfl
  rw [trips_one i] at S
  have t1 : Scf.trips (k0_t1_loop i).lb (k0_t1_loop i).ub (k0_t1_loop i).st = (i 2).val := trips_one i
  have t2 : Scf.trips (k0_t2_loop i).lb (k0_t2_loop i).ub (k0_t2_loop i).st = 0 := trips_two i
  rw [t1, t2]
  rw [pb_k0_t2.eq_1]
  dsimp only
  have h7 := congrArg (fun z => z.1) S
  have h8 := congrArg (fun z => z.2.1) S
  have h9 := congrArg (fun z => z.2.2) S
  dsimp only at h7 h8 h9
  rw [← View.writes_append] at h7 h8 h9
  refine (View.canon_unit_zero (S := S512x128) (by decide) ..).trans ?_
  refine (congrArg₂ (fun a b => k0_pay25 a b) (View.readCov_full ..) (View.readCov_full ..)).trans ?_
  refine outVal_of hq ?_ ?_ ((readCov_whole _ zero2 _ _).trans h7) ((readCov_whole _ zero2 _ _).trans h8) ((readCov_whole _ zero2 _ _).trans h9)
  · rw [View.readAt_eq_ld, harg4.read_unread]
    exact ld_keys x1 _ _ (off5 i) (k0_off5_inb i)
  · rw [View.readAt_eq_ld, harg5.read_unread]
    exact ld_vals x2 _ _ (off6 i) (k0_off6_inb i)
end Cert.Proof.Attention
-- ==== Proof.AttentionMath.lean ====
/-
  THE ONLINE SOFTMAX, on extended reals and without any program: one row of scores, each a real or `⊥` (a masked key),
  taken in blocks of 512. A running maximum, denominator and numerator are rescaled at each block; their quotient at the end
  is the softmax of the whole row against the values.
-/
module

public import Idealize.ShloMosaic.PureOps.Ideal

@[expose] public section

noncomputable section

namespace Cert.Proof.Attention

open Idealize.ShloMosaic
open scoped BigOperators

/-- The pattern the masks and the maxima start from is `⊥`. -/
theorem neg_inf : Ideal.ofBits FTy.f32 4286578688#32 = (⊥ : EReal) := by
  simp [Ideal.ofBits, Ideal.ieee]

/-- The weight of a score under a reference level: nothing for a masked key. -/
def wt (s : EReal) (μ : ℝ) : ℝ := if s = ⊥ then 0 else Real.exp (s.toReal - μ)

theorem exp_sub (s : EReal) (μ : ℝ) (hs : s ≠ ⊤) : Ideal.exp (s - (μ : EReal)) = ((wt s μ : ℝ) : EReal) := by
  induction s using EReal.rec with
  | bot =>
    rw [wt, if_pos rfl, EReal.bot_sub]; rfl
  | top => exact absurd rfl hs
  | coe x =>
    rw [wt, if_neg (EReal.coe_ne_bot x), ← EReal.coe_sub, EReal.toReal_coe]; rfl

theorem wt_nonneg (s : EReal) (μ : ℝ) : 0 ≤ wt s μ := by
  unfold wt; split
  · exact le_rfl
  · exact (Real.exp_pos _).le

theorem wt_pos {s : EReal} (μ : ℝ) (hs : s ≠ ⊥) : 0 < wt s μ := by
  unfold wt; rw [if_neg hs]; exact Real.exp_pos _

/-- Moving the level rescales every weight by one factor. -/
theorem wt_shift (s : EReal) (μ μ' : ℝ) : Real.exp (μ - μ') * wt s μ = wt s μ' := by
  unfold wt; split
  · exact mul_zero _
  · rw [← Real.exp_add]; congr 1; ring

/-- A nonnegative real factor goes into a sum of extended reals. -/
theorem real_mul_sum {ι : Type*} (r : ℝ) (hr : 0 ≤ r) (f : ι → EReal) (s : Finset ι) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem coe_sum {ι : Type*} (f : ι → ℝ) (s : Finset ι) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A maximum of finitely many scores, none `⊤`, is not `⊤`. -/
theorem fold_max_ne_top {ι : Type*} (f : ι → EReal) (hf : ∀ k, f k ≠ ⊤) (s : Finset ι) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a
    · exact ih

/-- It is at least each of them. -/
theorem le_fold_max {ι : Type*} (f : ι → EReal) (s : Finset ι) {k : ι} (hk : k ∈ s) : f k ≤ s.fold max ⊥ f := by
  classical
  rw [Finset.le_fold_max]; exact Or.inr ⟨k, hk, le_rfl⟩

/-- A maximum of scores, none `⊤` and one not `⊥`, is a real. -/
theorem fold_max_real {ι : Type*} (f : ι → EReal) (hf : ∀ k, f k ≠ ⊤) (s : Finset ι) {k : ι} (hk : k ∈ s) (h : f k ≠ ⊥) :
    ∃ μ : ℝ, s.fold max ⊥ f = (μ : EReal) := by
  have ht := fold_max_ne_top f hf s
  have hb : s.fold max ⊥ f ≠ ⊥ := fun e => h (le_bot_iff.mp (e ▸ le_fold_max f s hk))
  exact ⟨_, (EReal.coe_toReal ht hb).symm⟩

/-- What the running maximum `m`, denominator `l` and numerator `a` are after the first `N` keys. -/
def Inv (S w : ℕ → EReal) (N : ℕ) (m l a : EReal) : Prop :=
  (N = 0 ∧ m = ⊥ ∧ l = 0 ∧ a = 0) ∨
    ∃ μ : ℝ, m = (μ : EReal) ∧ l = ∑ k ∈ Finset.range N, ((wt (S k) μ : ℝ) : EReal)
      ∧ a = ∑ k ∈ Finset.range N, ((wt (S k) μ : ℝ) : EReal) * w k

/-- One block of 512 keys keeps the invariant. -/
theorem Inv.step {S w : ℕ → EReal} {N : ℕ} {m l a m' : EReal} (h : Inv S w N m l a) (hS : ∀ k, S k ≠ ⊤) (j0 : Fin 512)
    (h0 : S (N + j0.val) ≠ ⊥) (hm : m' = max m (Finset.univ.fold max ⊥ fun j : Fin 512 => S (N + j.val))) :
    Inv S w (N + 512) m' (Ideal.exp (m - m') * l + ∑ j : Fin 512, Ideal.exp (S (N + j.val) - m'))
      (Ideal.exp (m - m') * a + ∑ j : Fin 512, Ideal.exp (S (N + j.val) - m') * w (N + j.val)) := by
  obtain ⟨β, hβ⟩ := fold_max_real (fun j : Fin 512 => S (N + j.val)) (fun _ => hS _) Finset.univ (Finset.mem_univ j0) h0
  rw [hβ] at hm
  right
  rcases h with ⟨hN, hm0, hl, ha⟩ | ⟨μ, hm0, hl, ha⟩
  · subst hN hm0 hl ha
    rw [max_eq_right bot_le] at hm
    subst hm
    refine ⟨β, rfl, ?_, ?_⟩
    · rw [mul_zero, zero_add, zero_add, Finset.sum_range]
      exact Finset.sum_congr rfl fun j _ => by rw [exp_sub _ _ (hS _), zero_add]
    · rw [mul_zero, zero_add, zero_add, Finset.sum_range]
      exact Finset.sum_congr rfl fun j _ => by rw [exp_sub _ _ (hS _), zero_add]
  · subst hm0 hl ha
    have hm' : m' = ((max μ β : ℝ) : EReal) := hm.trans (EReal.coe_strictMono.monotone.map_max (a := μ) (b := β)).symm
    clear hm
    subst hm'
    have hα : Ideal.exp ((μ : EReal) - ((max μ β : ℝ) : EReal)) = ((Real.exp (μ - max μ β) : ℝ) : EReal) := by
      rw [← EReal.coe_sub]; rfl
    have h0 := (Real.exp_pos (μ - max μ β)).le
    refine ⟨max μ β, rfl, ?_, ?_⟩
    · rw [hα, real_mul_sum _ h0, Finset.sum_range_add, Finset.sum_range (n := 512)]
      refine congrArg₂ (· + ·) (Finset.sum_congr rfl fun k _ => ?_) (Finset.sum_congr rfl fun j _ => exp_sub _ _ (hS _))
      rw [← EReal.coe_mul, wt_shift]
    · rw [hα, real_mul_sum _ h0, Finset.sum_range_add, Finset.sum_range (n := 512)]
      refine congrArg₂ (· + ·) (Finset.sum_congr rfl fun k _ => ?_) (Finset.sum_congr rfl fun j _ => by rw [exp_sub _ _ (hS _)])
      rw [← mul_assoc, ← EReal.coe_mul, wt_shift]

/-- A sum of weights, one of them positive, is positive. -/
theorem sum_wt_pos (S : ℕ → EReal) (μ : ℝ) {N k0 : ℕ} (hk : k0 < N) (h0 : S k0 ≠ ⊥) : 0 < ∑ k ∈ Finset.range N, wt (S k) μ :=
  Finset.sum_pos' (fun _ _ => wt_nonneg _ _) ⟨k0, Finset.mem_range.mpr hk, wt_pos μ h0⟩

/-- THE ONLINE SOFTMAX IS THE SOFTMAX: the quotient of numerator and denominator after the last block with an unmasked key is the
    sum of the values under the normalized weights of all `M` keys, whatever level `ν` these are taken at. -/
theorem Inv.quotient {S w : ℕ → EReal} {N M : ℕ} {m l a : EReal} (h : Inv S w N m l a) (hS : ∀ k, S k ≠ ⊤) (h0 : S 0 ≠ ⊥)
    (hN : 0 < N) (hNM : N ≤ M) (hout : ∀ k, N ≤ k → S k = ⊥) (ν : ℝ) :
    Ideal.div a l = ∑ k ∈ Finset.range M,
      Ideal.div (Ideal.exp (S k - (ν : EReal))) (∑ k ∈ Finset.range M, Ideal.exp (S k - (ν : EReal))) * w k := by
  rcases h with ⟨hN', _⟩ | ⟨μ, -, hl, ha⟩
  · omega
  have ext : ∀ f : ℕ → EReal, (∀ k, N ≤ k → f k = 0) → ∑ k ∈ Finset.range N, f k = ∑ k ∈ Finset.range M, f k := fun f hf =>
    Finset.sum_subset (Finset.range_subset_range.mpr hNM) fun k _ hk => hf k (not_lt.mp fun h => hk (Finset.mem_range.mpr h))
  have hz : ∀ k, N ≤ k → wt (S k) μ = 0 := fun k hk => if_pos (hout k hk)
  rw [ext _ fun k hk => by rw [hz k hk, EReal.coe_zero]] at hl
  rw [ext _ fun k hk => by rw [hz k hk, EReal.coe_zero, zero_mul]] at ha
  rw [← coe_sum] at hl
  have hD : ∑ k ∈ Finset.range M, Ideal.exp (S k - (ν : EReal)) = ((∑ k ∈ Finset.range M, wt (S k) ν : ℝ) : EReal) := by
    rw [coe_sum]; exact Finset.sum_congr rfl fun k _ => exp_sub _ _ (hS k)
  have hp := sum_wt_pos S μ (lt_of_lt_of_le hN hNM) h0
  have hp' := sum_wt_pos S ν (lt_of_lt_of_le hN hNM) h0
  have hsc : Real.exp (μ - ν) * ∑ k ∈ Finset.range M, wt (S k) μ = ∑ k ∈ Finset.range M, wt (S k) ν := by
    rw [Finset.mul_sum]; exact Finset.sum_congr rfl fun k _ => wt_shift _ _ _
  rw [hD, hl, ha]
  unfold Ideal.div
  rw [if_neg (by exact_mod_cast hp.ne'), ← EReal.coe_inv, mul_comm, real_mul_sum _ (inv_nonneg.mpr hp.le)]
  refine Finset.sum_congr rfl fun k _ => ?_
  rw [if_neg (by exact_mod_cast hp'.ne'), exp_sub _ _ (hS k), ← EReal.coe_inv, ← mul_assoc, ← EReal.coe_mul, ← EReal.coe_mul]
  congr 2
  rw [← wt_shift (S k) μ ν, ← hsc, mul_inv]
  have := (Real.exp_pos (μ - ν)).ne'
  field_simp

end Cert.Proof.Attention

end
-- ==== Proof.AttentionRow.lean ====
/-
  ONE GRID POINT OF THE ATTENTION, at the ideal instance: it sweeps the blocks of keys up to its diagonal with the online
  softmax; entry by entry the block it leaves is the softmax of the causally masked scores against the values. Finite queries and keys are used, so that no score is infinite.
-/
module

public import proofs.«01_k».proof.Proof.AttentionRun
public import proofs.«01_k».proof.Proof.AttentionMath
public import Idealize.ShloMosaic.Lib.WordCmp

@[expose] public section

set_option maxRecDepth 16384

noncomputable section

namespace Cert.Proof.Attention

open Cert.KernelIdeal Cert.KernelIdeal.Gen Idealize.ShloMosaic Idealize.ShloMosaic.TcCoe Idealize.SL.Sem
open scoped BigOperators

/-- An entry of an array with finite entries is a real. -/
theorem sum_real {n : ℕ} (a b : Fin n → EReal) (ha : ∀ d, ∃ x : ℝ, a d = x) (hb : ∀ d, ∃ x : ℝ, b d = x) :
    ∃ x : ℝ, ∑ d, a d * b d = (x : EReal) := by
  choose f hf using ha
  choose g hg using hb
  refine ⟨∑ d, f d * g d, ?_⟩
  rw [coe_sum]
  exact Finset.sum_congr rfl fun d _ => by rw [hf, hg, EReal.coe_mul]

/-- Row `r` of the scratch satisfies the invariant against scores `S` and the values `w` of column `e`. -/
abbrev RowInv (S w : ℕ → EReal) (N : ℕ) (s : St) (r : Fin 512) (e : Fin 128) : Prop :=
  Inv S w N (s.1 (ix2 r 0)) (s.2.1 (ix2 r 0)) (s.2.2 (ix2 r e))

/-- An unmasked step over a block of keys keeps it. -/
theorem upd_row {S w : ℕ → EReal} {N : ℕ} {s : St} {r : Fin 512} {e : Fin 128} (h : RowInv S w N s r e) (hS : ∀ k, S k ≠ ⊤)
    (q kb : Vec Ideal S512x256 .bf16) (vb : Vec Ideal S512x128 .bf16) (h0 : S (N + (0 : Fin 512).val) ≠ ⊥)
    (hk : ∀ j : Fin 512, ∑ d, q (ix2 r d) * kb (ix2 j d) = S (N + j.val)) (hv : ∀ j : Fin 512, vb (ix2 j e) = w (N + j.val)) :
    RowInv S w (N + 512) (upd q kb vb s) r e := by
  have hm : k0_pay5 q kb s.1 (ix2 r 0) = max (s.1 (ix2 r 0)) (Finset.univ.fold max ⊥ fun j : Fin 512 => S (N + j.val)) := by
    pointwise [k0_pay5, k0_pay4]
    rw [neg_inf]
    exact congrArg (max _) (congrArg (fun f => Finset.fold max ⊥ f Finset.univ) (funext hk))
  have hs : ∀ j : Fin 512, k0_pay4 q kb (ix2 r j) = S (N + j.val) := fun j => by
    pointwise [k0_pay4]; exact hk j
  have E := h.step hS 0 h0 hm
  have e1 : (upd q kb vb s).1 (ix2 r 0) = k0_pay5 q kb s.1 (ix2 r 0) := by
    unfold upd; pointwise [k0_pay10]
  have e2 : (upd q kb vb s).2.1 (ix2 r 0) = Ideal.exp (s.1 (ix2 r 0) - k0_pay5 q kb s.1 (ix2 r 0)) * s.2.1 (ix2 r 0)
      + ∑ j : Fin 512, Ideal.exp (S (N + j.val) - k0_pay5 q kb s.1 (ix2 r 0)) := by
    unfold upd; pointwise [k0_pay8, k0_pay7, k0_pay6]
    exact congrArg (_ + ·) (Finset.sum_congr rfl fun j _ => by rw [← hs j])
  have e3 : (upd q kb vb s).2.2 (ix2 r e) = Ideal.exp (s.1 (ix2 r 0) - k0_pay5 q kb s.1 (ix2 r 0)) * s.2.2 (ix2 r e)
      + ∑ j : Fin 512, Ideal.exp (S (N + j.val) - k0_pay5 q kb s.1 (ix2 r 0)) * w (N + j.val) := by
    unfold upd; pointwise [k0_pay9, k0_pay7, k0_pay6]
    exact congrArg (_ + ·) (Finset.sum_congr rfl fun j _ => by rw [← hs j, ← hv j])
  unfold RowInv
  rw [e1, e2, e3]
  exact E

/-- So does the step over the masked block. -/
theorem updMasked_row {S w : ℕ → EReal} {N : ℕ} {s : St} {r : Fin 512} {e : Fin 128} (h : RowInv S w N s r e) (hS : ∀ k, S k ≠ ⊤)
    (q kb : Vec Ideal S512x256 .bf16) (vb : Vec Ideal S512x128 .bf16) (h0 : S (N + (0 : Fin 512).val) ≠ ⊥)
    (hs : ∀ j : Fin 512, k0_pay18 q kb (ix2 r j) = S (N + j.val)) (hv : ∀ j : Fin 512, vb (ix2 j e) = w (N + j.val)) :
    RowInv S w (N + 512) (updMasked q kb vb s) r e := by
  generalize hsc : k0_pay18 q kb = sc at hs
  have hm : k0_pay19 sc s.1 (ix2 r 0) = max (s.1 (ix2 r 0)) (Finset.univ.fold max ⊥ fun j : Fin 512 => S (N + j.val)) := by
    pointwise [k0_pay19]
    rw [neg_inf]
    exact congrArg (max _) (congrArg (fun f => Finset.fold max ⊥ f Finset.univ) (funext hs))
  have E := h.step hS 0 h0 hm
  have e1 : (updMasked q kb vb s).1 (ix2 r 0) = k0_pay19 sc s.1 (ix2 r 0) := by
    unfold updMasked; rw [hsc]; pointwise [k0_pay24]
  have e2 : (updMasked q kb vb s).2.1 (ix2 r 0) = Ideal.exp (s.1 (ix2 r 0) - k0_pay19 sc s.1 (ix2 r 0)) * s.2.1 (ix2 r 0)
      + ∑ j : Fin 512, Ideal.exp (S (N + j.val) - k0_pay19 sc s.1 (ix2 r 0)) := by
    unfold updMasked; rw [hsc]; pointwise [k0_pay22, k0_pay21, k0_pay20]
    exact congrArg (_ + ·) (Finset.sum_congr rfl fun j _ => by rw [← hs j])
  have e3 : (updMasked q kb vb s).2.2 (ix2 r e) = Ideal.exp (s.1 (ix2 r 0) - k0_pay19 sc s.1 (ix2 r 0)) * s.2.2 (ix2 r e)
      + ∑ j : Fin 512, Ideal.exp (S (N + j.val) - k0_pay19 sc s.1 (ix2 r 0)) * w (N + j.val) := by
    unfold updMasked; rw [hsc]; pointwise [k0_pay23, k0_pay21, k0_pay20]
    exact congrArg (_ + ·) (Finset.sum_congr rfl fun j _ => by rw [← hs j, ← hv j])
  unfold RowInv
  rw [e1, e2, e3]
  exact E

/-- The score of key `k` against row `r` of the query block `I`, `⊥` past the diagonal. -/
def score (q : Vec Ideal S512x256 .bf16) (x1 : Vec Ideal S8192x256 .bf16) (I : ℕ) (r : Fin 512) (k : ℕ) : EReal :=
  if k ≤ 512 * I + r.val then ∑ d, q (ix2 r d) * x1 (ix2 ⟨k % 8192, Nat.mod_lt _ (by decide)⟩ d) else ⊥

/-- The value of key `k` in column `e`. -/
def value (x2 : Vec Ideal S8192x128 .bf16) (e : Fin 128) (k : ℕ) : EReal :=
  x2 (ix2 ⟨k % 8192, Nat.mod_lt _ (by decide)⟩ e)

section block

variable (q : Vec Ideal S512x256 .bf16) (x1 : Vec Ideal S8192x256 .bf16) (x2 : Vec Ideal S8192x128 .bf16)
  (hq : ∀ y, ∃ x : ℝ, q y = (x : EReal)) (h1 : ∀ y, ∃ x : ℝ, x1 y = (x : EReal)) (I : ℕ) (r : Fin 512) (e : Fin 128)

include hq h1 in
theorem score_ne_top (k : ℕ) : score q x1 I r k ≠ ⊤ := by
  unfold score
  split
  · obtain ⟨x, hx⟩ := sum_real (fun d => q (ix2 r d)) (fun d => x1 (ix2 ⟨k % 8192, Nat.mod_lt _ (by decide)⟩ d)) (fun _ => hq _) (fun _ => h1 _)
    exact fun h => EReal.coe_ne_top x (hx.symm.trans h)
  · exact bot_ne_top

include hq h1 in
theorem score_ne_bot (k : ℕ) (hk : k ≤ 512 * I + r.val) : score q x1 I r k ≠ ⊥ := by
  unfold score
  rw [if_pos hk]
  obtain ⟨x, hx⟩ := sum_real (fun d => q (ix2 r d)) (fun d => x1 (ix2 ⟨k % 8192, Nat.mod_lt _ (by decide)⟩ d)) (fun _ => hq _) (fun _ => h1 _)
  exact fun h => EReal.coe_ne_bot x (hx.symm.trans h)

include hq h1 in
/-- After the first `n` blocks the scratch stands at the first `512 n` keys. -/
theorem sweep_row : ∀ n ≤ I, RowInv (score q x1 I r) (value x2 e) (512 * n) (sweep q x1 x2 n) r e
  | 0, _ => by
    refine Or.inl ⟨rfl, ?_, ?_, ?_⟩
    · show k0_pay1 (F := Ideal) (ix2 r 0) = ⊥
      pointwise [k0_pay1]; exact neg_inf
    · show k0_pay2 (F := Ideal) (ix2 r 0) = 0
      pointwise [k0_pay2]
    · show k0_pay3 (F := Ideal) (ix2 r e) = 0
      pointwise [k0_pay3]
  | n + 1, hn => by
    refine upd_row (sweep_row n (by omega)) (score_ne_top q x1 hq h1 I r) q (keys x1 n) (vals x2 n)
      (score_ne_bot q x1 hq h1 I r _ (by show 512 * n + 0 ≤ _; omega)) (fun j => ?_) fun j => rfl
    have := j.isLt
    unfold score
    rw [if_pos (by omega)]
    rfl

include hq h1 in
/-- What a grid point leaves at row `r`, column `e`: the values under the softmax of the row's scores, taken at any level `ν`. -/
theorem outVal_row (hI : I < 16) (ν : ℝ) : outVal q x1 x2 I (ix2 r e) = ∑ k ∈ Finset.range 8192,
    Ideal.div (Ideal.exp (score q x1 I r k - (ν : EReal))) (∑ k ∈ Finset.range 8192, Ideal.exp (score q x1 I r k - (ν : EReal))) * value x2 e k := by
  have hS := score_ne_top q x1 hq h1 I r
  have hr := r.isLt
  have H := updMasked_row (sweep_row q x1 x2 hq h1 I r e I le_rfl) hS q (keys x1 I) (vals x2 I)
    (score_ne_bot q x1 hq h1 I r _ (by show 512 * I + 0 ≤ _; omega)) (fun j => by
      pointwise [k0_pay18]
      rw [neg_inf]
      unfold score
      have hj := j.isLt
      have hc : IntOp.cmpi CmpIPredicate.sle (BitVec.ofNat 32 j.val) (BitVec.ofNat 32 r.val) = if j.val ≤ r.val then 1#1 else 0#1 := by
        rw [WordCmp.cmpi_sle_ofNat (show j.val < 2 ^ 31 by omega) (show r.val < 2 ^ 31 by omega)]
        by_cases h : j.val ≤ r.val
        · rw [if_pos h, decide_eq_true h]; rfl
        · rw [if_neg h, decide_eq_false h]; rfl
      rw [hc]
      by_cases h : j.val ≤ r.val
      · rw [if_pos h, if_pos (by omega)]; rfl
      · rw [if_neg h, if_neg (by omega)]; rfl) fun j => rfl
  have Q := H.quotient hS (score_ne_bot q x1 hq h1 I r 0 (by omega)) (by omega) (show 512 * I + 512 ≤ 8192 by omega)
    (fun k hk => if_neg (by omega)) ν
  refine Eq.trans ?_ Q
  unfold outVal
  pointwise [k0_pay25]

end block

end Cert.Proof.Attention

end
-- ==== Proof.AttentionRef.lean ====
/-
  THE PLAIN ATTENTION, entry by entry, at the ideal instance: the causally masked scores of one query, their softmax at the
  row's maximum, and the values under it.
-/
module

public import proofs.«01_k».proof.Proof.AttentionMath
public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.Attention

open Idealize.ShloMosaic
open scoped BigOperators

/-- A maximum over the last of four axes, at an index, from a constant and once more with that constant. -/
theorem host_max_last {n0 n1 n2 n3 : ℕ} {u : Shape} (w : BitVec 32) (x : FVec Ideal ⟨4, ![n0, n1, n2, n3]⟩ .f32) (hb)
    (h : (⟨4, ![n0, n1, n2, n3]⟩ : Shape).ReducesTo [3] ⟨3, ![n0, n1, n2]⟩) (hu : 0 < u.numel) (a : Fin n0) (b : Fin n1) (d : Fin n2) :
    maximumf (broadcastInDim (s := ⟨0, ![]⟩) ⟨3, ![n0, n1, n2]⟩ ![] hb (constant (F := Ideal) ⟨0, ![]⟩ .f32 w))
      (Host.reduce FloatOps.maximumf x (constant (F := Ideal) u .f32 w) h hu) (ix3 a b d)
      = max (Ideal.ofBits .f32 w) (Finset.univ.fold max (Ideal.ofBits .f32 w) fun k : Fin n3 => x (ix4 a b d k)) := by
  pointwise

end Cert.Proof.Attention

namespace Cert.Proof.AttentionRef

open Cert.ReferenceIdeal Cert.ReferenceIdeal.Gen Idealize.ShloMosaic Idealize.ShloMosaic.TcCoe Idealize.SL.Sem
open Cert.Proof.Attention
open scoped BigOperators

variable (q k : FVec Ideal Cert.ReferenceIdeal.S16384x6144 .bf16) (v : FVec Ideal Cert.ReferenceIdeal.S16384x3072 .bf16)

/-- The reference's masked scores, one per batch, head, query and key. -/
def refScore : FVec Ideal Cert.ReferenceIdeal.S2x24x8192x8192 .f32 :=
  select (broadcastInDim S2x24x8192x8192 ![2, 3] bcast_S8192x8192_S2x24x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x8192x24x256_S2x8192x24x256_S2x24x8192x8192_3_3_1_1_02_02 none (shapeCast S2x8192x24x256 (extf .f32 q bitsLt_bf16_f32) shapeCasts_S16384x6144_S2x8192x24x256) (shapeCast S2x8192x24x256 (extf .f32 k bitsLt_bf16_f32) shapeCasts_S16384x6144_S2x8192x24x256))
    (broadcastInDim S2x24x8192x8192 ![] bcast_S_S2x24x8192x8192 (constant S_ .f32 0xFF800000#32))

/-- The maximum of a row of scores. -/
def refMax (s : FVec Ideal S2x24x8192x8192 .f32) : FVec Ideal S2x24x8192 .f32 :=
  maximumf (broadcastInDim S2x24x8192 ![] bcast_S_S2x24x8192 (constant S_ .f32 0xFF800000#32))
    (Host.reduce FloatOps.maximumf s (constant S_ .f32 0xFF800000#32) reducesTo_S2x24x8192x8192_S2x24x8192_d3 h_S_)

/-- The exponentials of the scores under the row's maximum. -/
def refExp (s : FVec Ideal S2x24x8192x8192 .f32) : FVec Ideal S2x24x8192x8192 .f32 :=
  Host.exp (subf s (broadcastInDim S2x24x8192x8192 ![0, 1, 2, 3] bcast_S2x24x8192x1_S2x24x8192x8192_0_1_2_3 (broadcastInDim S2x24x8192x1 ![0, 1, 2] bcast_S2x24x8192_S2x24x8192x1_0_1_2 (refMax s))))

/-- The softmax weights from the exponentials. -/
def refSoft (x : FVec Ideal S2x24x8192x8192 .f32) : FVec Ideal S2x24x8192x8192 .f32 :=
  Host.divf x (broadcastInDim S2x24x8192x8192 ![0, 1, 2, 3] bcast_S2x24x8192x1_S2x24x8192x8192_0_1_2_3 (broadcastInDim S2x24x8192x1 ![0, 1, 2] bcast_S2x24x8192_S2x24x8192x1_0_1_2
    (Host.reduceAdd x (constant S_ .f32 0x00000000#32) reducesTo_S2x24x8192x8192_S2x24x8192_d3 h_S_)))

/-- The values under the weights, per head. -/
def refOut (p : FVec Ideal S2x24x8192x8192 .f32) : FVec Ideal S2x24x128x8192 .f32 :=
  Host.dotGeneral dot_S2x8192x24x128_S2x24x8192x8192_S2x24x128x8192_1_3_3_2_02_01 none (shapeCast S2x8192x24x128 (extf .f32 v bitsLt_bf16_f32) shapeCasts_S16384x3072_S2x8192x24x128) p

/-- The reference's result as one term of the three arrays. -/
def ref : FVec Ideal Cert.ReferenceIdeal.S16384x3072 .bf16 :=
  truncf .bf16 (shapeCast S16384x3072 (transpose S2x8192x24x128 [0, 3, 1, 2] (refOut v (refSoft (refExp (refScore q k)))) transposes_S2x24x128x8192_S2x8192x24x128_0_3_1_2) shapeCasts_S2x8192x24x128_S16384x3072) bitsLt_bf16_f32

theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c = ref (m (c.tc.loc Cert.ReferenceIdeal.main_arg0)) (m (c.tc.loc Cert.ReferenceIdeal.main_arg1)) (m (c.tc.loc Cert.ReferenceIdeal.main_arg2)) := rfl

/-- The reference's score of a query and a key of one head: their product, `⊥` for a later key. -/
theorem refScore_at (b : Fin 2) (h : Fin 24) (i j : Fin 8192) : refScore q k (ix4 b h i j)
    = if j.val ≤ i.val then ∑ x : Fin 256, q (ix2 ⟨b.val * 8192 + i.val, by have := b.isLt; have := i.isLt; omega⟩ ⟨h.val * 256 + x.val, by have := h.isLt; have := x.isLt; omega⟩)
        * k (ix2 ⟨b.val * 8192 + j.val, by have := b.isLt; have := j.isLt; omega⟩ ⟨h.val * 256 + x.val, by have := h.isLt; have := x.isLt; omega⟩) else ⊥ := by
  pointwise [refScore]
  have hi := i.isLt
  have hj := j.isLt
  rw [neg_inf, WordCmp.cmpi_sle_ofNat (show j.val < 2 ^ 31 by omega) (show i.val < 2 ^ 31 by omega)]
  by_cases hc : j.val ≤ i.val
  · rw [if_pos hc, decide_eq_true hc]; rfl
  · rw [if_neg hc, decide_eq_false hc]; rfl

theorem refMax_at (s) (b : Fin 2) (h : Fin 24) (i : Fin 8192) :
    refMax s (ix3 b h i) = Finset.univ.fold max ⊥ fun j : Fin 8192 => s (ix4 b h i j) := by
  have e := host_max_last 0xFF800000#32 s bcast_S_S2x24x8192 reducesTo_S2x24x8192x8192_S2x24x8192_d3 h_S_ b h i
  rw [neg_inf] at e
  exact e.trans (max_eq_right bot_le)

/-- THE REFERENCE'S ENTRY: the values under the softmax of the row's scores, at some real level. -/
theorem ref_soft (S w : ℕ → EReal) (y : S16384x3072.Idx) (b : Fin 2) (h : Fin 24) (d : Fin 128) (i : Fin 8192)
    (h0 : (y 0).val = b.val * 8192 + i.val) (h1 : (y 1).val = h.val * 128 + d.val)
    (hs : ∀ j : Fin 8192, refScore q k (ix4 b h i j) = S j.val)
    (hv : ∀ j : Fin 8192, v (ix2 ⟨b.val * 8192 + j.val, by have := b.isLt; have := j.isLt; omega⟩ ⟨h.val * 128 + d.val, by have := h.isLt; have := d.isLt; omega⟩) = w j.val)
    (hT : ∀ k, S k ≠ ⊤) (hB : S 0 ≠ ⊥) :
    ∃ ν : ℝ, ref q k v y = ∑ k ∈ Finset.range 8192,
      Ideal.div (Ideal.exp (S k - (ν : EReal))) (∑ k ∈ Finset.range 8192, Ideal.exp (S k - (ν : EReal))) * w k := by
  have hM := refMax_at (refScore q k) b h i
  obtain ⟨ν, hν⟩ := fold_max_real (fun j : Fin 8192 => refScore q k (ix4 b h i j)) (fun j => by rw [hs]; exact hT _) Finset.univ
    (Finset.mem_univ (0 : Fin 8192)) (by rw [hs]; exact hB)
  rw [hν] at hM
  have hE : ∀ j : Fin 8192, refExp (refScore q k) (ix4 b h i j) = Ideal.exp (S j.val - (ν : EReal)) := fun j => by
    rw [← hs j, ← hM]
    generalize refScore q k = s
    pointwise [refExp]
  have hP : ∀ j : Fin 8192, refSoft (refExp (refScore q k)) (ix4 b h i j)
      = Ideal.div (Ideal.exp (S j.val - (ν : EReal))) (∑ k ∈ Finset.range 8192, Ideal.exp (S k - (ν : EReal))) := fun j => by
    rw [Finset.sum_range, ← hE j, ← Finset.sum_congr rfl fun j _ => hE j]
    generalize refExp (refScore q k) = s
    pointwise [refSoft]
  have hO : refOut v (refSoft (refExp (refScore q k))) (ix4 b h d i) = ∑ j : Fin 8192, w j.val * refSoft (refExp (refScore q k)) (ix4 b h i j) := by
    generalize refSoft (refExp (refScore q k)) = s
    pointwise [refOut]
    exact Finset.sum_congr rfl fun j _ => by rw [← hv j]
  refine ⟨ν, Eq.trans ?_ (hO.trans ?_)⟩
  · have hd := d.isLt
    have hi := i.isLt
    unfold ref
    generalize refSoft (refExp (refScore q k)) = s
    pointwise
    refine congrArg (refOut v s) ?_
    have a0 : (y 0).val / 8192 = b.val := by omega
    have a1 : (y 1).val / 128 = h.val := by omega
    have a2 : (y 1).val % 128 = d.val := by omega
    have a3 : (y 0).val % 8192 = i.val := by omega
    funext a
    match a with
    | ⟨0, _⟩ => exact Fin.ext a0
    | ⟨1, _⟩ => exact Fin.ext a1
    | ⟨2, _⟩ => exact Fin.ext a2
    | ⟨3, _⟩ => exact Fin.ext a3
  · rw [Finset.sum_range]
    exact Finset.sum_congr rfl fun j _ => by rw [hP j, mul_comm]

end Cert.Proof.AttentionRef

end
-- ==== Proof.AttentionValue.lean ====
/-
  THE ATTENTION'S VALUE, at the ideal instance: entry by entry the array the kernel leaves is what the plain reference
  computes. Finite queries and keys are used, so that no score is infinite.
-/
module

public import proofs.«01_k».proof.Proof.AttentionRow
public import proofs.«01_k».proof.Proof.AttentionRef
public import proofs.«01_k».proof.Proof.Gen.Pre_finite
public import proofs.«01_k».proof.Defs
public import Idealize.ShloMosaic.Lib.ReduceAll

@[expose] public section

set_option maxRecDepth 16384

noncomputable section

namespace Cert.Proof.AttentionValue

open Cert.KernelIdeal Cert.KernelIdeal.Gen Idealize.ShloMosaic Idealize.ShloMosaic.TcCoe Idealize.SL.Sem
open Cert.Proof.Attention
open scoped BigOperators

/-- The pattern of the bound is `⊤`. -/
theorem pos_inf : Ideal.ofBits FTy.f32 2139095040#32 = (⊤ : EReal) := by
  simp [Ideal.ofBits, Ideal.ieee]

/-- A number whose absolute value is below `⊤` is a real. -/
theorem real_of_abs (x : EReal) (h : Ideal.cmp CmpFPredicate.olt (max x (-x)) ⊤ = 1#1) : ∃ r : ℝ, x = (r : EReal) := by
  induction x using EReal.rec with
  | bot => simp [Ideal.cmp] at h
  | top => simp [Ideal.cmp] at h
  | coe x => exact ⟨x, rfl⟩

instance : Subsingleton Cert.Pre_finite.S_.Idx := ⟨fun a b => funext fun i => i.elim0⟩

/-- One half of the precondition: every entry of the array is a real. -/
theorem all_real (q : FVec Ideal Cert.Pre_finite.S16384x6144 .bf16) (hb) (hr : Cert.Pre_finite.S16384x6144.ReducesTo [0, 1] Cert.Pre_finite.S_)
    (hz) (bx) (j)
    (h : Host.reduce IntOp.andi (cmpf CmpFPredicate.olt (Host.absf (extf FTy.f32 q bx))
          (broadcastInDim Pre_finite.S16384x6144 ![] hb (constant (F := Ideal) Pre_finite.S_ FTy.f32 2139095040#32)))
        (constantI Pre_finite.S_ 1 1#1) hr hz j = 1#1) (y) : ∃ r : ℝ, q y = (r : EReal) := by
  have e := Host.reduce_andi_all _ _ _ _ _ h y
  refine real_of_abs (q y) ?_
  rw [← pos_inf]
  exact e

/-- The precondition makes every query and every key a real. -/
theorem real_of_finite (q k : FVec Ideal Cert.Pre_finite.S16384x6144 .bf16) (v) (h : Cert.Pre_finite.fn (F := Ideal) q k v = fun _ => 1#1) :
    (∀ y, ∃ r : ℝ, q y = (r : EReal)) ∧ ∀ y, ∃ r : ℝ, k y = (r : EReal) := by
  have e := congrFun h (fun a => a.elim0)
  unfold Cert.Pre_finite.fn at e
  dsimp only at e
  obtain ⟨e1, e2⟩ := IntOp.andi_eq_one.mp e
  exact ⟨all_real q _ _ _ _ _ e1, all_real k _ _ _ _ _ e2⟩

/-- Where each window's block sits at grid point `t`. -/
theorem idx0 : ∀ t : Fin cfg0.N, win0_0.index t = ![t.val / 384 * 16 + t.val % 16, t.val / 16 % 24] :=
  (by decide +kernel : ∀ t : Fin grid0.N, _)
theorem idx1 : ∀ t : Fin cfg0.N, win0_1.index t = ![t.val / 384, t.val / 16 % 24] :=
  (by decide +kernel : ∀ t : Fin grid0.N, _)
theorem idx2 : ∀ t : Fin cfg0.N, win0_2.index t = ![t.val / 384, t.val / 16 % 24] :=
  (by decide +kernel : ∀ t : Fin grid0.N, _)
theorem idx3 : ∀ t : Fin cfg0.N, win0_3.index t = ![t.val / 384 * 16 + t.val % 16, t.val / 16 % 24] :=
  (by decide +kernel : ∀ t : Fin grid0.N, _)
/-- The query block of grid point `t`. -/
theorem row_of : ∀ t : Fin cfg0.N, ((grid0.coords t) 2).val = t.val % 16 :=
  (by decide +kernel : ∀ t : Fin grid0.N, _)

variable (m : (ℓ : Loc nD τ sig) → Buf (Elt Ideal) ℓ)

/-- The array the kernel leaves is the reference's term of the three argument arrays. -/
theorem final (c : Dev nD) (hpre : Cert.Pre_KernelIdeal_finite m) : (dats m 0 c).arrAt 3 cfg0.N
    = Cert.Proof.AttentionRef.ref (m ((c : Thread nD τ).loc main_arg0)) (m ((c : Thread nD τ).loc main_arg1))
        (m ((c : Thread nD τ).loc main_arg2)) := by
  obtain ⟨hq, hk⟩ := real_of_finite _ _ _ (hpre c)
  refine (dats m 0 c).arrAt_eq_of_covers 3 _ (by decide +kernel) fun t hf y => ?_
  blk_simp
  rw [after0_3]
  have ht : t.val < 768 := t.isLt
  obtain ⟨r, e, rfl⟩ : ∃ (r : Fin 512) (e : Fin 128), y = ix2 r e := ⟨y 0, y 1, eq_ix2 (n0 := 512) (n1 := 128) y⟩
  have hr := r.isLt
  have he := e.isLt
  have hout : outsAt0 m c t = outVal (iblk m c 0 t) (iblk m c 1 t) (iblk m c 2 t) (t.val % 16) := by
    rw [← row_of t]
    unfold outsAt0
    exact out ..
  have hq' : ∀ z, ∃ x : ℝ, iblk m c 0 t z = (x : EReal) := fun z => hq _
  have hk' : ∀ z, ∃ x : ℝ, iblk m c 1 t z = (x : EReal) := fun z => hk _
  have hS := score_ne_top (iblk m c 0 t) (iblk m c 1 t) hq' hk' (t.val % 16) r
  have hB := score_ne_bot (iblk m c 0 t) (iblk m c 1 t) hq' hk' (t.val % 16) r 0 (Nat.zero_le _)
  have hy : ∀ X : Cert.ReferenceIdeal.S16384x3072.Idx → ℕ, X ((win0_3.blk t).view.emb (ix2 r e))
      = X (ix2 ⟨t.val / 384 * 8192 + (t.val % 16 * 512 + r.val), by omega⟩ ⟨t.val / 16 % 24 * 128 + e.val, by omega⟩) := fun X => by
    blk_point [idx3 t]
  obtain ⟨ν, hν⟩ := AttentionRef.ref_soft (m ((c : Thread nD τ).loc main_arg0)) (m ((c : Thread nD τ).loc main_arg1)) (m ((c : Thread nD τ).loc main_arg2))
    (score (iblk m c 0 t) (iblk m c 1 t) (t.val % 16) r) (value (iblk m c 2 t) e) ((win0_3.blk t).view.emb (ix2 r e))
    ⟨t.val / 384, by omega⟩ ⟨t.val / 16 % 24, by omega⟩ e ⟨t.val % 16 * 512 + r.val, by omega⟩
    (hy fun z => (z 0).val) (hy fun z => (z 1).val)
    (fun j => by
      rw [AttentionRef.refScore_at]
      unfold score
      have hj := j.isLt
      by_cases h : j.val ≤ t.val % 16 * 512 + r.val
      · rw [if_pos h, if_pos (by omega)]
        refine Finset.sum_congr rfl fun d _ => congrArg₂ (· * ·) ?_ ?_
        · blk_point [iblk, V, idx0 t]
        · blk_point [iblk, V, idx1 t]
      · rw [if_neg h, if_neg (by omega)])
    (fun j => by
      unfold value
      have hj := j.isLt
      blk_point [iblk, V, idx2 t])
    hS hB
  rw [hout]
  exact (outVal_row _ _ _ hq' hk' _ r e (Nat.mod_lt _ (by decide)) ν).trans hν.symm

end Cert.Proof.AttentionValue

end
-- ==== Proof.MlpInValue.lean ====
/-
  THE MLP IN-PROJECTION'S VALUE, at the ideal instance: the array the tiled kernel leaves is, entry by entry, the
  square of the positive part of the whole product `h · w` — what the plain reference computes. The grid's blocks
  tile the result, each block contracts all 4096 features at once, so the two sums are over the same index set.
-/
module

public import proofs.«01_k».proof.Proof.Gen.MlpInIdeal.Value
public import proofs.«01_k».proof.Proof.Gen.MlpInRefIdeal.Run
public import Idealize.ShloMosaic.Lib.Pipeline.ValueKit
public import Idealize.ShloMosaic.Lib.Pointwise

@[expose] public section

noncomputable section

namespace Cert.Proof.MlpInValue

open Cert.MlpInIdeal Cert.MlpInIdeal.Gen Idealize.ShloMosaic Idealize.ShloMosaic.TcCoe Idealize.SL.Sem
open scoped BigOperators

variable (m : (ℓ : Loc nD τ sig) → Buf (Elt Ideal) ℓ)

/-- The reference's result as one term of the two arrays. -/
abbrev ref (h : FVec Ideal Cert.MlpInRefIdeal.S16384x4096 .bf16) (w : FVec Ideal Cert.MlpInRefIdeal.S4096x16384 .bf16) :
    FVec Ideal Cert.MlpInRefIdeal.S16384x16384 .bf16 :=
  truncf .bf16 (mulf (maximumf (Host.dotGeneral Cert.MlpInRefIdeal.dot_S16384x4096_S4096x16384_S16384x16384_1_0_0_1_n_n none (extf .f32 h Cert.MlpInRefIdeal.Facts₀.bitsLt_bf16_f32) (extf .f32 w Cert.MlpInRefIdeal.Facts₀.bitsLt_bf16_f32)) (broadcastInDim Cert.MlpInRefIdeal.S16384x16384 ![] Cert.MlpInRefIdeal.Facts₀.bcast_S_S16384x16384 (constant Cert.MlpInRefIdeal.S_ .f32 0x00000000#32))) (maximumf (Host.dotGeneral Cert.MlpInRefIdeal.dot_S16384x4096_S4096x16384_S16384x16384_1_0_0_1_n_n none (extf .f32 h Cert.MlpInRefIdeal.Facts₀.bitsLt_bf16_f32) (extf .f32 w Cert.MlpInRefIdeal.Facts₀.bitsLt_bf16_f32)) (broadcastInDim Cert.MlpInRefIdeal.S16384x16384 ![] Cert.MlpInRefIdeal.Facts₀.bcast_S_S16384x16384 (constant Cert.MlpInRefIdeal.S_ .f32 0x00000000#32)))) Cert.MlpInRefIdeal.Facts₀.bitsLt_bf16_f32

/-- Where each window's block sits at grid point `t`: rows by the first coordinate, columns by the second. -/
theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The array the kernel leaves is the reference's term of the two argument arrays. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  blk_point [iblk, V, idx0 t, idx1 t, idx2 t]

end Cert.Proof.MlpInValue

end
-- ==== Proof.MlpOutValue.lean ====
/-
  THE MLP OUT-PROJECTION'S VALUE, at the ideal instance: the kernel sums its 16384 hidden features in sixteen slabs of
  1024 into the output block and adds the residual at the last slab; the array it leaves is, entry by entry, the
  residual plus the whole product — what the plain reference computes. Sums of extended reals may be regrouped, so no
  hypothesis on the inputs is needed.
-/
module

public import proofs.«01_k».proof.Proof.Gen.MlpOutIdeal.Value
public import proofs.«01_k».proof.Proof.Gen.MlpOutRefIdeal.Run
public import Idealize.ShloMosaic.Lib.Pipeline.ValueKit
public import Idealize.ShloMosaic.Lib.Pointwise

@[expose] public section

set_option maxRecDepth 16384

noncomputable section

namespace Cert.Proof.MlpOutValue

open Cert.MlpOutIdeal Cert.MlpOutIdeal.Gen Idealize.ShloMosaic Idealize.ShloMosaic.TcCoe Idealize.SL.Sem
open scoped BigOperators

variable (m : (ℓ : Loc nD τ sig) → Buf (Elt Ideal) ℓ)

/-- The reference's result as one term of the three arrays. -/
abbrev ref (h : FVec Ideal Cert.MlpOutRefIdeal.S16384x16384 .bf16) (w : FVec Ideal Cert.MlpOutRefIdeal.S16384x4096 .bf16)
    (x : FVec Ideal Cert.MlpOutRefIdeal.S16384x4096 .f32) : FVec Ideal Cert.MlpOutRefIdeal.S16384x4096 .f32 :=
  addf x (Host.dotGeneral Cert.MlpOutRefIdeal.dot_S16384x16384_S16384x4096_S16384x4096_1_0_0_1_n_n none (extf .f32 h Cert.MlpOutRefIdeal.Facts₀.bitsLt_bf16_f32) (extf .f32 w Cert.MlpOutRefIdeal.Facts₀.bitsLt_bf16_f32))

/-- Where each window's block sits at grid point `t`. -/
theorem idx0 : ∀ t : Fin cfg0.N, win0_0.index t = ![t.val / 32, t.val % 16] :=
  (by decide +kernel : ∀ t : Fin grid0.N, _)
theorem idx1 : ∀ t : Fin cfg0.N, win0_1.index t = ![t.val % 16, t.val / 16 % 2] :=
  (by decide +kernel : ∀ t : Fin grid0.N, _)
theorem idx2 : ∀ t : Fin cfg0.N, win0_2.index t = ![t.val / 32, t.val / 16 % 2] :=
  (by decide +kernel : ∀ t : Fin grid0.N, _)
theorem idx3 : ∀ t : Fin cfg0.N, win0_3.index t = ![t.val / 32, t.val / 16 % 2] :=
  (by decide +kernel : ∀ t : Fin grid0.N, _)

/-- The slab product of one grid point, at an index of the output block. -/
def part (c : Dev nD) (t : Fin cfg0.N) (j : S1024x2048.Idx) : Ideal .f32 :=
  k0_pay1 (F := Ideal) (iblk m c 0 t) (iblk m c 1 t) j

/-- What a first slab leaves: its product. -/
theorem first (c : Dev nD) (t : Fin cfg0.N) (h : t.val % 16 = 0) (j : S1024x2048.Idx) :
    outsAt0 m c t.val t.isLt j = 0 + part m c t j := by
  rw [outsAt0_A m c t h (by omega) (by omega), zero_add]; frame_out; rfl

/-- What a slab between leaves: the block before plus its product. -/
theorem middle (c : Dev nD) (t : Fin cfg0.N) (h : ¬t.val % 16 = 0) (h' : ¬t.val % 16 = 15) (j : S1024x2048.Idx) :
    outsAt0 m c t.val t.isLt j
      = outsAt0 m c (t.val - 1) (Nat.lt_of_le_of_lt (Nat.sub_le _ _) t.isLt) j + part m c t j := by
  rw [outsAt0_B m c t h (by omega) h']; frame_out
  unfold k0_pay2; rw [shapeCast_self]; rfl

/-- What the last slab leaves: the block before plus its product, plus the residual's block. -/
theorem last (c : Dev nD) (t : Fin cfg0.N) (h' : t.val % 16 = 15) (j : S1024x2048.Idx) :
    outsAt0 m c t.val t.isLt j
      = (outsAt0 m c (t.val - 1) (Nat.lt_of_le_of_lt (Nat.sub_le _ _) t.isLt) j + part m c t j)
        + (show S1024x2048.Idx → Ideal .f32 from iblk m c 2 t) j := by
  rw [outsAt0_C m c t (by omega) (by omega) h']; frame_out
  unfold k0_pay3; rw [shapeCast_self]; unfold k0_pay2; rw [shapeCast_self]; rfl

/-- The product part of the output block after point `n`: the block itself, and at the last slab the block before the
    residual is added. -/
def acc (c : Dev nD) (n : ℕ) (hn : n < cfg0.N) (j : S1024x2048.Idx) : Ideal .f32 :=
  if n % 16 = 15 then outsAt0 m c (n - 1) (Nat.lt_of_le_of_lt (Nat.sub_le _ _) hn) j + part m c ⟨n, hn⟩ j
  else outsAt0 m c n hn j

/-- At a point that writes the block back, the product part is the sum of the run's sixteen slab products. -/
theorem acc_sum (c : Dev nD) (t : Fin cfg0.N) (ht : t.val % 16 = 15) (j : S1024x2048.Idx) :
    acc m c t.val t.isLt j
      = 0 + ∑ s : Fin 16, part m c ⟨16 * (t.val / 16) + s.val, Pipeline.run_point_lt_of_flush t ht s⟩ j :=
  Pipeline.eq_sum_fin_of_reset_step_apply_of_flush (M := EReal) (fun n h => acc m c n h) 16 (fun _ => 0) (part m c)
    (fun t h j => by
      show acc m c t.val t.isLt j = 0 + part m c t j
      unfold acc; rw [if_neg (by omega)]; exact first m c t h j)
    (fun t h j => by
      show acc m c t.val t.isLt j = acc m c (t.val - 1) (Nat.lt_of_le_of_lt (Nat.sub_le _ _) t.isLt) j + part m c t j
      unfold acc
      rw [if_neg (show ¬(t.val - 1) % 16 = 15 by omega)]
      by_cases h' : t.val % 16 = 15
      · rw [if_pos h']
      · rw [if_neg h']; exact middle m c t h h' j) t ht j

/-- The array the kernel leaves is the reference's term of the three argument arrays. -/
theorem final (c : Dev nD) : (dats m 0 c).arrAt 3 cfg0.N
    = ref (m ((c : Thread nD τ).loc main_arg0)) (m ((c : Thread nD τ).loc main_arg1))
        (m ((c : Thread nD τ).loc main_arg2)) := by
  refine (dats m 0 c).arrAt_eq_of_covers 3 _ (by decide +kernel) fun t hf y => ?_
  have ht := (flush0_3 t).mp hf
  blk_simp
  rw [after0_3]
  refine (last m c t ht y).trans ?_
  have e := acc_sum m c t ht y
  unfold acc at e; rw [if_pos ht] at e
  refine (congrArg (· + _) e).trans ?_
  rw [zero_add, add_comm]
  unfold part
  pointwise [k0_pay1, ref]
  refine congrArg₂ (· + ·) ?_ ?_
  · blk_point [iblk, V, idx2 t, idx3 t]
  · refine Fin.sum_mul_add_congr fun s k hl => ?_
    have hs := Pipeline.run_point_lt_of_flush t ht s
    blk_point [iblk, V, idx0 ⟨_, hs⟩, idx1 ⟨_, hs⟩, idx3 t]

end Cert.Proof.MlpOutValue

end
-- ==== Proof.OutProjValue.lean ====
/-
  THE MIXERS' OUT-PROJECTION, at the ideal instance: the tiled kernel leaves the residual plus the whole product. Each
  block contracts all 4096 features at once and adds its block of the residual.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.Proof.OutProjValue

open Cert.OutProjIdeal Cert.OutProjIdeal.Gen Idealize.ShloMosaic Idealize.ShloMosaic.TcCoe Idealize.SL.Sem
open scoped BigOperators

variable (m : (ℓ : Loc nD τ sig) → Buf (Elt Ideal) ℓ)

/-- The reference's result as one term of its arrays. -/
abbrev ref (h : FVec Ideal Cert.OutProjRefIdeal.S16384x4096 .bf16) (w : FVec Ideal Cert.OutProjRefIdeal.S4096x4096 .bf16) (x : FVec Ideal Cert.OutProjRefIdeal.S16384x4096 .f32) :
    FVec Ideal Cert.OutProjRefIdeal.S16384x4096 .f32 :=
  addf x (Host.dotGeneral Cert.OutProjRefIdeal.dot_S16384x4096_S4096x4096_S16384x4096_1_0_0_1_n_n none (extf .f32 h Cert.OutProjRefIdeal.Facts₀.bitsLt_bf16_f32) (extf .f32 w Cert.OutProjRefIdeal.Facts₀.bitsLt_bf16_f32))

/-- Where each window's block sits at grid point `t`: rows by the first coordinate, columns by the second. -/
theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, (grid0.coords t 1).val] :=
  (by decide +kernel : ∀ t : Fin grid0.N, _)

/-- The array the kernel leaves is the reference's term of the argument arrays. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  rw [add_comm]
  refine congrArg₂ (· + ·) ?_ (Finset.sum_congr rfl fun k _ => ?_)
  · blk_point [iblk, V, idx2 t, idx3 t]
  · blk_point [iblk, V, idx0 t, idx1 t, idx3 t]

end Cert.Proof.OutProjValue

end
-- ==== Proof.AInValue.lean ====
/-
  THE FIRST LAYER'S IN-PROJECTION, at the ideal instance: the tiled kernel leaves the whole product `h · w`. The grid's
  blocks tile the result and each block contracts all 4096 features at once.
-/
module

public import proofs.«01_k».proof.Proof.Gen.AInIdeal.Value
public import proofs.«01_k».proof.Proof.Gen.AInRefIdeal.Run
public import Idealize.ShloMosaic.Lib.Pipeline.ValueKit
public import Idealize.ShloMosaic.Lib.Pointwise

@[expose] public section

set_option maxRecDepth 16384

noncomputable section

namespace Cert.Proof.AInValue

open Cert.AInIdeal Cert.AInIdeal.Gen Idealize.ShloMosaic Idealize.ShloMosaic.TcCoe Idealize.SL.Sem
open scoped BigOperators

variable (m : (ℓ : Loc nD τ sig) → Buf (Elt Ideal) ℓ)

/-- The reference's result as one term of its arrays. -/
abbrev ref (h : FVec Ideal Cert.AInRefIdeal.S16384x4096 .bf16) (w : FVec Ideal Cert.AInRefIdeal.S4096x7168 .bf16) :
    FVec Ideal Cert.AInRefIdeal.S16384x7168 .f32 :=
  Host.dotGeneral Cert.AInRefIdeal.dot_S16384x4096_S4096x7168_S16384x7168_1_0_0_1_n_n none (extf .f32 h Cert.AInRefIdeal.Facts₀.bitsLt_bf16_f32) (extf .f32 w Cert.AInRefIdeal.Facts₀.bitsLt_bf16_f32)

/-- Where each window's block sits at grid point `t`: rows by the first coordinate, columns by the second. -/
theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The array the kernel leaves is the reference's term of the argument arrays. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  blk_point [iblk, V, idx0 t, idx1 t, idx2 t]

end Cert.Proof.AInValue

end
-- ==== Proof.BInValue.lean ====
/-
  THE SECOND LAYER'S IN-PROJECTION, at the ideal instance: the tiled kernel leaves the whole product `h · w`. The grid's
  blocks tile the result and each block contracts all 4096 features at once.
-/
module

public import proofs.«01_k».proof.Proof.Gen.BInIdeal.Value
public import proofs.«01_k».proof.Proof.Gen.BInRefIdeal.Run
public import Idealize.ShloMosaic.Lib.Pipeline.ValueKit
public import Idealize.ShloMosaic.Lib.Pointwise

@[expose] public section

set_option maxRecDepth 16384

noncomputable section

namespace Cert.Proof.BInValue

open Cert.BInIdeal Cert.BInIdeal.Gen Idealize.ShloMosaic Idealize.ShloMosaic.TcCoe Idealize.SL.Sem
open scoped BigOperators

variable (m : (ℓ : Loc nD τ sig) → Buf (Elt Ideal) ℓ)

/-- The reference's result as one term of its arrays. -/
abbrev ref (h : FVec Ideal Cert.BInRefIdeal.S16384x4096 .bf16) (w : FVec Ideal Cert.BInRefIdeal.S4096x2048 .bf16) :
    FVec Ideal Cert.BInRefIdeal.S16384x2048 .f32 :=
  Host.dotGeneral Cert.BInRefIdeal.dot_S16384x4096_S4096x2048_S16384x2048_1_0_0_1_n_n none (extf .f32 h Cert.BInRefIdeal.Facts₀.bitsLt_bf16_f32) (extf .f32 w Cert.BInRefIdeal.Facts₀.bitsLt_bf16_f32)

/-- Where each window's block sits at grid point `t`: rows by the first coordinate, columns by the second. -/
theorem idx0 : ∀ t : Fin cfg0.N, win0_0.index t = ![(grid0.coords t 0).val, 0] :=
  (by decide +kernel : ∀ t : Fin grid0.N, _)
theorem idx1 : ∀ t : Fin cfg0.N, win0_1.index t = ![0, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The array the kernel leaves is the reference's term of the argument arrays. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  blk_point [iblk, V, idx0 t, idx1 t, idx2 t]

end Cert.Proof.BInValue

end
-- ==== Proof.Norm.lean ====
/-
  THE MEAN OF SQUARES, two ways: a sum times the reciprocal of its length, as the kernel takes it, is the sum over its
  length, as the plain formula takes it; every length here is a power of two, whose reciprocal is exact.
-/
module

public import Idealize.ShloMosaic.PureOps.Ideal

@[expose] public section

noncomputable section

namespace Cert.Proof.Norm

open Idealize.ShloMosaic

/-- A quotient by a positive real is a product with its reciprocal. -/
theorem div_real (s : EReal) (r : ℝ) (hr : r ≠ 0) : Ideal.div s (r : EReal) = s * ((r⁻¹ : ℝ) : EReal) := by
  unfold Ideal.div
  rw [if_neg (by exact_mod_cast hr), EReal.coe_inv]

/-- 4096, the width of the stream. -/
theorem mean4096 (s : EReal) : s * Ideal.ofBits .f32 0x39800000#32 = Ideal.div s (Ideal.ofBits .f32 0x45800000#32) := by
  have h : Ideal.ofBits .f32 0x45800000#32 = ((4096 : ℝ) : EReal) := by simp [Ideal.ofBits, Ideal.ieee]; norm_num; rw [← EReal.coe_mul]; norm_num
  have h' : Ideal.ofBits .f32 0x39800000#32 = ((4096⁻¹ : ℝ) : EReal) := by simp [Ideal.ofBits, Ideal.ieee]; norm_num; rw [← EReal.coe_mul]; norm_num
  rw [h, h', div_real _ _ (by norm_num)]

/-- 1024, the width of the queries' latent. -/
theorem mean1024 (s : EReal) : s * Ideal.ofBits .f32 0x3A800000#32 = Ideal.div s (Ideal.ofBits .f32 0x44800000#32) := by
  have h : Ideal.ofBits .f32 0x44800000#32 = ((1024 : ℝ) : EReal) := by simp [Ideal.ofBits, Ideal.ieee]; norm_num; rw [← EReal.coe_mul]; norm_num
  have h' : Ideal.ofBits .f32 0x3A800000#32 = ((1024⁻¹ : ℝ) : EReal) := by simp [Ideal.ofBits, Ideal.ieee]; norm_num; rw [← EReal.coe_mul]; norm_num
  rw [h, h', div_real _ _ (by norm_num)]

/-- 512, the width of the keys' and values' latent. -/
theorem mean512 (s : EReal) : s * Ideal.ofBits .f32 0x3B000000#32 = Ideal.div s (Ideal.ofBits .f32 0x44000000#32) := by
  have h : Ideal.ofBits .f32 0x44000000#32 = ((512 : ℝ) : EReal) := by simp [Ideal.ofBits, Ideal.ieee]; norm_num; rw [← EReal.coe_mul]; norm_num
  have h' : Ideal.ofBits .f32 0x3B000000#32 = ((512⁻¹ : ℝ) : EReal) := by simp [Ideal.ofBits, Ideal.ieee]; norm_num; rw [← EReal.coe_mul]; norm_num
  rw [h, h', div_real _ _ (by norm_num)]

/-- 256, the width of a memory head. -/
theorem mean256 (s : EReal) : s * Ideal.ofBits .f32 0x3B800000#32 = Ideal.div s (Ideal.ofBits .f32 0x43800000#32) := by
  have h : Ideal.ofBits .f32 0x43800000#32 = ((256 : ℝ) : EReal) := by simp [Ideal.ofBits, Ideal.ieee]; norm_num; rw [← EReal.coe_mul]; norm_num
  have h' : Ideal.ofBits .f32 0x3B800000#32 = ((256⁻¹ : ℝ) : EReal) := by simp [Ideal.ofBits, Ideal.ieee]; norm_num; rw [← EReal.coe_mul]; norm_num
  rw [h, h', div_real _ _ (by norm_num)]

/-- 128, the width of the unrotated part of a head. -/
theorem mean128 (s : EReal) : s * Ideal.ofBits .f32 0x3C000000#32 = Ideal.div s (Ideal.ofBits .f32 0x43000000#32) := by
  have h : Ideal.ofBits .f32 0x43000000#32 = ((128 : ℝ) : EReal) := by simp [Ideal.ofBits, Ideal.ieee]; norm_num; rw [← EReal.coe_mul]; norm_num
  have h' : Ideal.ofBits .f32 0x3C000000#32 = ((128⁻¹ : ℝ) : EReal) := by simp [Ideal.ofBits, Ideal.ieee]; norm_num; rw [← EReal.coe_mul]; norm_num
  rw [h, h', div_real _ _ (by norm_num)]

/-- 64, the width of the rotated part of a head. -/
theorem mean64 (s : EReal) : s * Ideal.ofBits .f32 0x3C800000#32 = Ideal.div s (Ideal.ofBits .f32 0x42800000#32) := by
  have h : Ideal.ofBits .f32 0x42800000#32 = ((64 : ℝ) : EReal) := by simp [Ideal.ofBits, Ideal.ieee]; norm_num; rw [← EReal.coe_mul]; norm_num
  have h' : Ideal.ofBits .f32 0x3C800000#32 = ((64⁻¹ : ℝ) : EReal) := by simp [Ideal.ofBits, Ideal.ieee]; norm_num; rw [← EReal.coe_mul]; norm_num
  rw [h, h', div_real _ _ (by norm_num)]

end Cert.Proof.Norm

end
-- ==== Proof.Rope.lean ====
/-
  THE ROTATION, row by row: 64 numbers kept in a row of 128 whose upper half is zero. The kernel turns the row by two cyclic
  shifts and two tables that are zero in the upper half; the plain formula turns the two quarters of the 64 numbers.
-/
module

public import Idealize.ShloMosaic.PureOps.Ideal

@[expose] public section

noncomputable section

namespace Cert.Proof.Rope

open Idealize.ShloMosaic
open scoped BigOperators

/-- The row of 128 that keeps 64 numbers and zeros. -/
def wide (t : Fin 64 → EReal) (j : Fin 128) : EReal := if h : j.val < 64 then t ⟨j.val, h⟩ else 0

/-- The table of cosines: the 32 numbers twice, then zeros. -/
def cosRow (c : Fin 32 → EReal) (j : Fin 128) : EReal :=
  if h : j.val < 32 then c ⟨j.val, h⟩ else if h : j.val - 32 < 32 then c ⟨j.val - 32, h⟩ else 0

/-- The table of sines: the 32 numbers negated, then as they are, then zeros. -/
def sinRow (s : Fin 32 → EReal) (j : Fin 128) : EReal :=
  if h : j.val < 32 then -s ⟨j.val, h⟩ else if h : j.val - 32 < 32 then s ⟨j.val - 32, h⟩ else 0

/-- The rotation as the plain formula has it, in the row of 128. -/
def turned (t : Fin 64 → EReal) (c s : Fin 32 → EReal) (j : Fin 128) : EReal :=
  if h : j.val < 64 then
    if h1 : j.val < 32 then t ⟨j.val, h⟩ * c ⟨j.val, h1⟩ - t ⟨32 + j.val, by omega⟩ * s ⟨j.val, h1⟩
    else t ⟨j.val, h⟩ * c ⟨j.val - 32, by omega⟩ + t ⟨j.val - 32, by omega⟩ * s ⟨j.val - 32, by omega⟩
  else 0

/-- The two shifts and two tables turn the row as the plain formula does. -/
theorem turn (t : Fin 64 → EReal) (c s : Fin 32 → EReal) (j : Fin 128) :
    wide t j * cosRow c j + (wide t ⟨(j.val + 128 - 96) % 128, Nat.mod_lt _ (by decide)⟩
      + wide t ⟨(j.val + 128 - 32) % 128, Nat.mod_lt _ (by decide)⟩) * sinRow s j = turned t c s j := by
  by_cases h1 : j.val < 32
  · have e1 : (j.val + 128 - 96) % 128 = 32 + j.val := by omega
    have e2 : (j.val + 128 - 32) % 128 = 96 + j.val := by omega
    simp only [e1, e2, wide, cosRow, sinRow, turned, dif_pos h1, dif_pos (show j.val < 64 by omega),
      dif_pos (show 32 + j.val < 64 by omega), dif_neg (show ¬ 96 + j.val < 64 by omega), add_zero]
    rw [mul_comm _ (-s _), EReal.neg_mul, mul_comm (s _), ← sub_eq_add_neg]
  · by_cases h2 : j.val < 64
    · have e1 : (j.val + 128 - 96) % 128 = 32 + j.val := by omega
      have e2 : (j.val + 128 - 32) % 128 = j.val - 32 := by omega
      simp only [e1, e2, wide, cosRow, sinRow, turned, dif_neg h1, dif_pos h2, dif_pos (show j.val - 32 < 32 by omega),
        dif_pos (show j.val - 32 < 64 by omega), dif_neg (show ¬ 32 + j.val < 64 by omega), zero_add]
    · simp only [wide, cosRow, sinRow, turned, dif_neg h1, dif_neg h2, dif_neg (show ¬ j.val - 32 < 32 by omega), mul_zero, zero_mul, add_zero]

/-- A sum over the row is the sum over its lower half when the upper half is zero. -/
theorem sum_wide (t : Fin 64 → EReal) : ∑ j : Fin 128, wide t j * wide t j = ∑ j : Fin 64, t j * t j := by
  rw [Fin.sum_univ_add (a := 64) (b := 64)]
  have h : ∀ i : Fin 64, wide t (Fin.natAdd 64 i) = 0 := fun i => dif_neg (by simp)
  have h' : ∀ i : Fin 64, wide t (Fin.castAdd 64 i) = t i := fun i => dif_pos i.isLt
  simp only [h, h', mul_zero, Finset.sum_const_zero, add_zero]

/-- Scaling a row entry by entry keeps its zeros. -/
theorem wide_mul (t g : Fin 64 → EReal) (x : EReal) (j : Fin 128) :
    wide t j * x * wide g j = wide (fun i => t i * x * g i) j := by
  unfold wide
  split <;> simp

end Cert.Proof.Rope

end
-- ==== Proof.QProjValue.lean ====
/-
  THE QUERIES, at the ideal instance: head by head the kernel leaves the normalised unrotated part and the rotary part turned
  by its position's angles, both with the score's scale folded into their gains — what the plain formula computes with the
  scale at the end. The normalised latents are made at a row block's first head and read at its others.
-/
module

public import proofs.«01_k».proof.Proof.Norm
public import proofs.«01_k».proof.Proof.Rope
public import proofs.«01_k».proof.Proof.Gen.QProjIdeal.Value
public import proofs.«01_k».proof.Proof.Gen.QProjRefIdeal.Run
public import Idealize.ShloMosaic.Lib.Pipeline.ValueKit
public import Idealize.ShloMosaic.Lib.Pointwise

@[expose] public section

set_option maxRecDepth 16384

noncomputable section

namespace Cert.Proof.QProjRef

open Cert.QProjRefIdeal Cert.QProjRefIdeal.Gen Idealize.ShloMosaic Cert.Proof.Rope
open scoped BigOperators

/-- The normalised latents of the queries. -/
def refC (a0 : FVec Ideal S16384x2048 .f32) (a1 : FVec Ideal S1024 .f32) : FVec Ideal S16384x1024 .f32 :=
  mulf (mulf (extractStridedSlice S16384x1024 ![0, 0] a0 slices_S16384x2048_S16384x1024_0_0) (broadcastInDim S16384x1024 ![0, 1] bcast_S16384x1_S16384x1024_0_1 (Host.rsqrt (addf (Host.divf (broadcastInDim S16384x1 ![0] bcast_S16384_S16384x1_0 (Host.reduceAdd (mulf (extractStridedSlice S16384x1024 ![0, 0] a0 slices_S16384x2048_S16384x1024_0_0) (extractStridedSlice S16384x1024 ![0, 0] a0 slices_S16384x2048_S16384x1024_0_0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))

/-- All heads' queries, row by row and head by head. -/
def refQ (a0 : FVec Ideal S16384x2048 .f32) (a1 : FVec Ideal S1024 .f32) (a2 : FVec Ideal S1024x4608 .f32) : FVec Ideal S16384x24x192 .f32 :=
  shapeCast S16384x24x192 (Host.dotGeneral (F := Ideal) dot_S16384x1024_S1024x4608_S16384x4608_1_0_0_1_n_n none (refC a0 a1) a2) shapeCasts_S16384x4608_S16384x24x192

/-- The angle of each position at each frequency. -/
def refAng (a5 : IVec S2x8192 32) : FVec Ideal S16384x32 .f32 :=
  mulf (broadcastInDim S16384x32 ![0, 1] bcast_S16384x1_S16384x32_0_1 (shapeCast S16384x1 (sitofp .f32 a5) shapeCasts_S2x8192_S16384x1)) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The unrotated parts, normalised. -/
def refN (a0 : FVec Ideal S16384x2048 .f32) (a1 : FVec Ideal S1024 .f32) (a2 : FVec Ideal S1024x4608 .f32) (a3 : FVec Ideal S128 .f32) : FVec Ideal S16384x24x128 .f32 :=
  mulf (mulf (extractStridedSlice S16384x24x128 ![0, 0, 0] (refQ a0 a1 a2) slices_S16384x24x192_S16384x24x128_0_0_0) (broadcastInDim S16384x24x128 ![0, 1, 2] bcast_S16384x24x1_S16384x24x128_0_1_2 (Host.rsqrt (addf (Host.divf (broadcastInDim S16384x24x1 ![0, 1] bcast_S16384x24_S16384x24x1_0_1 (Host.reduceAdd (mulf (extractStridedSlice S16384x24x128 ![0, 0, 0] (refQ a0 a1 a2) slices_S16384x24x192_S16384x24x128_0_0_0) (extractStridedSlice S16384x24x128 ![0, 0, 0] (refQ a0 a1 a2) slices_S16384x24x192_S16384x24x128_0_0_0)) (constant S_ .f32 0x00000000#32) reducesTo_S16384x24x128_S16384x24_d2 h_S_)) (broadcastInDim S16384x24x1 ![] bcast_S_S16384x24x1 (constant S_ .f32 0x43000000#32))) (broadcastInDim S16384x24x1 ![] bcast_S_S16384x24x1 (constant S_ .f32 0x358637BD#32)))))) (broadcastInDim S16384x24x128 ![0, 1, 2] bcast_S1x1x128_S16384x24x128_0_1_2 (broadcastInDim S1x1x128 ![2] bcast_S128_S1x1x128_2 a3))

/-- The rotary parts, normalised. -/
def refR (a0 : FVec Ideal S16384x2048 .f32) (a1 : FVec Ideal S1024 .f32) (a2 : FVec Ideal S1024x4608 .f32) (a4 : FVec Ideal S64 .f32) : FVec Ideal S16384x24x64 .f32 :=
  mulf (mulf (extractStridedSlice S16384x24x64 ![0, 0, 128] (refQ a0 a1 a2) slices_S16384x24x192_S16384x24x64_0_0_128) (broadcastInDim S16384x24x64 ![0, 1, 2] bcast_S16384x24x1_S16384x24x64_0_1_2 (Host.rsqrt (addf (Host.divf (broadcastInDim S16384x24x1 ![0, 1] bcast_S16384x24_S16384x24x1_0_1 (Host.reduceAdd (mulf (extractStridedSlice S16384x24x64 ![0, 0, 128] (refQ a0 a1 a2) slices_S16384x24x192_S16384x24x64_0_0_128) (extractStridedSlice S16384x24x64 ![0, 0, 128] (refQ a0 a1 a2) slices_S16384x24x192_S16384x24x64_0_0_128)) (constant S_ .f32 0x00000000#32) reducesTo_S16384x24x64_S16384x24_d2 h_S_)) (broadcastInDim S16384x24x1 ![] bcast_S_S16384x24x1 (constant S_ .f32 0x42800000#32))) (broadcastInDim S16384x24x1 ![] bcast_S_S16384x24x1 (constant S_ .f32 0x358637BD#32)))))) (broadcastInDim S16384x24x64 ![0, 1, 2] bcast_S1x1x64_S16384x24x64_0_1_2 (broadcastInDim S1x1x64 ![2] bcast_S64_S1x1x64_2 a4))

/-- The rotary parts, turned. -/
def refT (a0 : FVec Ideal S16384x2048 .f32) (a1 : FVec Ideal S1024 .f32) (a2 : FVec Ideal S1024x4608 .f32) (a4 : FVec Ideal S64 .f32) (a5 : IVec S2x8192 32) : FVec Ideal S16384x24x64 .f32 :=
  concatenate S16384x24x64 2 [⟨S16384x24x32, (subf (mulf (extractStridedSlice S16384x24x32 ![0, 0, 0] (refR a0 a1 a2 a4) slices_S16384x24x64_S16384x24x32_0_0_0) (broadcastInDim S16384x24x32 ![0, 1, 2] bcast_S16384x1x32_S16384x24x32_0_1_2 (broadcastInDim S16384x1x32 ![0, 2] bcast_S16384x32_S16384x1x32_0_2 (Host.cos (refAng a5))))) (mulf (extractStridedSlice S16384x24x32 ![0, 0, 32] (refR a0 a1 a2 a4) slices_S16384x24x64_S16384x24x32_0_0_32) (broadcastInDim S16384x24x32 ![0, 1, 2] bcast_S16384x1x32_S16384x24x32_0_1_2 (broadcastInDim S16384x1x32 ![0, 2] bcast_S16384x32_S16384x1x32_0_2 (Host.sin (refAng a5))))))⟩, ⟨S16384x24x32, (addf (mulf (extractStridedSlice S16384x24x32 ![0, 0, 32] (refR a0 a1 a2 a4) slices_S16384x24x64_S16384x24x32_0_0_32) (broadcastInDim S16384x24x32 ![0, 1, 2] bcast_S16384x1x32_S16384x24x32_0_1_2 (broadcastInDim S16384x1x32 ![0, 2] bcast_S16384x32_S16384x1x32_0_2 (Host.cos (refAng a5))))) (mulf (extractStridedSlice S16384x24x32 ![0, 0, 0] (refR a0 a1 a2 a4) slices_S16384x24x64_S16384x24x32_0_0_0) (broadcastInDim S16384x24x32 ![0, 1, 2] bcast_S16384x1x32_S16384x24x32_0_1_2 (broadcastInDim S16384x1x32 ![0, 2] bcast_S16384x32_S16384x1x32_0_2 (Host.sin (refAng a5))))))⟩] concatenates_S16384x24x32_S16384x24x32_S16384x24x64_d2

/-- Each head's row: its unrotated part, its rotary part, zeros. -/
def refRows (a0 : FVec Ideal S16384x2048 .f32) (a1 : FVec Ideal S1024 .f32) (a2 : FVec Ideal S1024x4608 .f32) (a3 : FVec Ideal S128 .f32) (a4 : FVec Ideal S64 .f32) (a5 : IVec S2x8192 32) : FVec Ideal S16384x24x256 .f32 :=
  concatenate S16384x24x256 2 [⟨S16384x24x128, refN a0 a1 a2 a3⟩, ⟨S16384x24x64, ((refT a0 a1 a2 a4 a5))⟩, ⟨S16384x24x64, ((broadcastInDim S16384x24x64 ![] bcast_S_S16384x24x64 (constant S_ .f32 0x00000000#32)))⟩] concatenates_S16384x24x128_S16384x24x64_S16384x24x64_S16384x24x256_d2

/-- The reference's result as one term of its arrays. -/
abbrev ref (a0 : FVec Ideal S16384x2048 .f32) (a1 : FVec Ideal S1024 .f32) (a2 : FVec Ideal S1024x4608 .f32) (a3 : FVec Ideal S128 .f32) (a4 : FVec Ideal S64 .f32) (a5 : IVec S2x8192 32) : FVec Ideal S16384x6144 .bf16 :=
  truncf .bf16 (shapeCast S16384x6144 (mulf ((refRows a0 a1 a2 a3 a4 a5)) (broadcastInDim S16384x24x256 ![] bcast_S_S16384x24x256 (constant S_ .f32 0x3D93CD3A#32))) shapeCasts_S16384x24x256_S16384x6144) bitsLt_bf16_f32

theorem res_eq (m : (ℓ : Loc nD τ sig) → Buf (Elt Ideal) ℓ) (c : Dev nD) :
    Cert.QProjRefIdeal.Value.res_main_v82 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- An entry of a normalised latent. -/
def cq (a0 : FVec Ideal S16384x2048 .f32) (a1 : FVec Ideal S1024 .f32) (r : Fin 16384) (e : Fin 1024) : EReal :=
  a0 (ix2 r ⟨e.val, by omega⟩) * Ideal.rsqrt (Ideal.div (∑ x : Fin 1024, a0 (ix2 r ⟨x.val, by omega⟩) * a0 (ix2 r ⟨x.val, by omega⟩))
    (Ideal.ofBits .f32 0x44800000#32) + Ideal.ofBits .f32 0x358637BD#32) * a1 (ix1 e)

/-- An entry of a head's query before it is normalised. -/
def q (a0 : FVec Ideal S16384x2048 .f32) (a1 : FVec Ideal S1024 .f32) (a2 : FVec Ideal S1024x4608 .f32) (r : Fin 16384)
    (h : Fin 24) (d : Fin 192) : EReal :=
  ∑ e : Fin 1024, cq a0 a1 r e * a2 (ix2 e ⟨h.val * 192 + d.val, by omega⟩)

/-- An entry of a head's unrotated part. -/
def qn (a0 : FVec Ideal S16384x2048 .f32) (a1 : FVec Ideal S1024 .f32) (a2 : FVec Ideal S1024x4608 .f32) (a3 : FVec Ideal S128 .f32)
    (r : Fin 16384) (h : Fin 24) (d : Fin 128) : EReal :=
  q a0 a1 a2 r h ⟨d.val, by omega⟩ * Ideal.rsqrt (Ideal.div (∑ x : Fin 128, q a0 a1 a2 r h ⟨x.val, by omega⟩ * q a0 a1 a2 r h ⟨x.val, by omega⟩)
    (Ideal.ofBits .f32 0x43000000#32) + Ideal.ofBits .f32 0x358637BD#32) * a3 (ix1 d)

/-- An entry of a head's rotary part before it is turned. -/
def qr (a0 : FVec Ideal S16384x2048 .f32) (a1 : FVec Ideal S1024 .f32) (a2 : FVec Ideal S1024x4608 .f32) (a4 : FVec Ideal S64 .f32)
    (r : Fin 16384) (h : Fin 24) (d : Fin 64) : EReal :=
  q a0 a1 a2 r h ⟨128 + d.val, by omega⟩ * Ideal.rsqrt (Ideal.div (∑ x : Fin 64, q a0 a1 a2 r h ⟨128 + x.val, by omega⟩ * q a0 a1 a2 r h ⟨128 + x.val, by omega⟩)
    (Ideal.ofBits .f32 0x42800000#32) + Ideal.ofBits .f32 0x358637BD#32) * a4 (ix1 d)

/-- The score's scale, one over the square root of 192. -/
abbrev scale : EReal := Ideal.ofBits .f32 0x3D93CD3A#32

theorem scale_real : ∃ r : ℝ, 0 ≤ r ∧ scale = (r : EReal) := by
  refine ⟨_, ?_, by simp [scale, Ideal.ofBits, Ideal.ieee]; norm_num; rw [← EReal.coe_mul]⟩
  positivity

/-- Turning a scaled row is scaling the turned row. -/
theorem turned_scale (t : Fin 64 → EReal) (c s : Fin 32 → EReal) (j : Fin 128) :
    turned (fun i => t i * scale) c s j = turned t c s j * scale := by
  obtain ⟨r, h0, hr⟩ := scale_real
  have h1 : (0 : EReal) ≤ scale := by rw [hr]; exact_mod_cast h0
  have h2 : scale ≠ ⊤ := by rw [hr]; exact EReal.coe_ne_top r
  have ex : ∀ a b : EReal, a * scale * b = a * b * scale := fun a b => mul_right_comm a scale b
  unfold turned
  split
  · split
    · rw [ex, ex, sub_eq_add_neg, sub_eq_add_neg, EReal.right_distrib_of_nonneg_of_ne_top h1 h2, EReal.neg_mul]
    · rw [ex, ex, EReal.right_distrib_of_nonneg_of_ne_top h1 h2]
  · rw [zero_mul]

theorem refC_at (a0 : FVec Ideal S16384x2048 .f32) (a1 : FVec Ideal S1024 .f32) (r : Fin 16384) (e : Fin 1024) :
    refC a0 a1 (ix2 r e) = cq a0 a1 r e := by
  pointwise [refC]
  rfl

theorem refQ_at (a0 : FVec Ideal S16384x2048 .f32) (a1 : FVec Ideal S1024 .f32) (a2 : FVec Ideal S1024x4608 .f32) (r : Fin 16384)
    (h : Fin 24) (d : Fin 192) : refQ a0 a1 a2 (ix3 r h d) = q a0 a1 a2 r h d := by
  pointwise [refQ]
  simp only [refC_at]
  rfl

theorem refN_at (a0 : FVec Ideal S16384x2048 .f32) (a1 : FVec Ideal S1024 .f32) (a2 : FVec Ideal S1024x4608 .f32) (a3 : FVec Ideal S128 .f32)
    (r : Fin 16384) (h : Fin 24) (d : Fin 128) : refN a0 a1 a2 a3 (ix3 r h d) = qn a0 a1 a2 a3 r h d := by
  pointwise [refN]
  simp only [refQ_at]
  rfl

theorem refR_at (a0 : FVec Ideal S16384x2048 .f32) (a1 : FVec Ideal S1024 .f32) (a2 : FVec Ideal S1024x4608 .f32) (a4 : FVec Ideal S64 .f32)
    (r : Fin 16384) (h : Fin 24) (d : Fin 64) : refR a0 a1 a2 a4 (ix3 r h d) = qr a0 a1 a2 a4 r h d := by
  pointwise [refR]
  simp only [refQ_at]
  rfl

theorem refT_at (a0 : FVec Ideal S16384x2048 .f32) (a1 : FVec Ideal S1024 .f32) (a2 : FVec Ideal S1024x4608 .f32) (a4 : FVec Ideal S64 .f32)
    (a5 : IVec S2x8192 32) (r : Fin 16384) (h : Fin 24) (d : Fin 64) :
    refT a0 a1 a2 a4 a5 (ix3 r h d) = turned (qr a0 a1 a2 a4 r h) (fun k => Ideal.cos (refAng a5 (ix2 r k)))
      (fun k => Ideal.sin (refAng a5 (ix2 r k))) ⟨d.val, by omega⟩ := by
  pointwise [refT]
  simp only [refR_at, turned, dif_pos d.isLt]
  have e : 32 + (d.val - 32) = d.val ∨ d.val < 32 := by omega
  split_ifs <;> first | rfl | (rcases e with e | e <;> first | (simp only [e]; done) | omega)

/-- The first half of a head's columns: its unrotated part, scaled. -/
theorem ref_nope (a0 : FVec Ideal S16384x2048 .f32) (a1 : FVec Ideal S1024 .f32) (a2 : FVec Ideal S1024x4608 .f32) (a3 : FVec Ideal S128 .f32)
    (a4 : FVec Ideal S64 .f32) (a5 : IVec S2x8192 32) (r : Fin 16384) (h : Fin 24) (d : Fin 128) (j : Fin 6144) (hj : j.val = h.val * 256 + d.val) :
    ref a0 a1 a2 a3 a4 a5 (ix2 r j) = qn a0 a1 a2 a3 r h d * scale := by
  rw [← refN_at a0 a1 a2 a3 r h d]
  pointwise [ref, refRows]
  have e1 : j.val % 256 = d.val := by omega
  have e2 : j.val / 256 = h.val := by omega
  rw [dif_pos (by omega)]
  exact congrArg (fun z => refN a0 a1 a2 a3 z * scale) (congrArg₂ (ix3 r) (Fin.ext e2) (Fin.ext e1))

/-- The second half: its rotary part turned, in the row of 128, and scaled. -/
theorem ref_rope (a0 : FVec Ideal S16384x2048 .f32) (a1 : FVec Ideal S1024 .f32) (a2 : FVec Ideal S1024x4608 .f32) (a3 : FVec Ideal S128 .f32)
    (a4 : FVec Ideal S64 .f32) (a5 : IVec S2x8192 32) (r : Fin 16384) (h : Fin 24) (d : Fin 128) (j : Fin 6144) (hj : j.val = h.val * 256 + 128 + d.val) :
    ref a0 a1 a2 a3 a4 a5 (ix2 r j) = turned (qr a0 a1 a2 a4 r h) (fun k => Ideal.cos (refAng a5 (ix2 r k)))
      (fun k => Ideal.sin (refAng a5 (ix2 r k))) d * scale := by
  have e1 : j.val % 256 - 128 = d.val := by omega
  have e2 : j.val / 256 = h.val := by omega
  pointwise [ref, refRows]
  rw [dif_neg (by omega)]
  by_cases hd : d.val < 64
  · rw [dif_pos (by omega)]
    refine congrArg (fun z => z * scale) (Eq.trans ?_ (refT_at a0 a1 a2 a4 a5 r h ⟨d.val, hd⟩))
    exact congrArg (refT a0 a1 a2 a4 a5) (congrArg₂ (ix3 r) (Fin.ext e2) (Fin.ext e1))
  · rw [dif_neg (by omega), turned, dif_neg hd]

end Cert.Proof.QProjRef

namespace Cert.Proof.QProjValue

open Cert.QProjIdeal Cert.QProjIdeal.Gen Idealize.ShloMosaic Idealize.ShloMosaic.TcCoe Idealize.SL.Sem
open Cert.Proof.Norm Cert.Proof.Rope Cert.Proof.QProjRef
open scoped BigOperators

variable (m : (ℓ : Loc nD τ sig) → Buf (Elt Ideal) ℓ)

/-- Where each window's block sits at grid point `t`. -/
theorem idx0 : ∀ t : Fin cfg0.N, win0_0.index t = ![t.val / 12, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, t.val % 12] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![t.val / 12, 0] :=
  (by decide +kernel : ∀ t : Fin grid0.N, _)
theorem idx6 : ∀ t : Fin cfg0.N, win0_6.index t = ![t.val / 12, 0] :=
  (by decide +kernel : ∀ t : Fin grid0.N, _)
theorem idx7 : ∀ t : Fin cfg0.N, win0_7.index t = ![t.val / 12, t.val % 12] :=
  (by decide +kernel : ∀ t : Fin grid0.N, _)

/-- The row of the array that row `p` of grid point `t`'s blocks is. -/
def row (t : Fin cfg0.N) (p : Fin 1024) : Fin 16384 :=
  ⟨t.val / 12 * 1024 + p.val, by have : t.val < 192 := t.isLt; omega⟩

/-- The heads of grid point `t`: `2 (t mod 12)` and the next. -/
def head (t : Fin cfg0.N) (o : Fin 2) : Fin 24 := ⟨t.val % 12 * 2 + o.val, by omega⟩

theorem angles (c : Dev nD) : V m c main_v19 = refAng (m ((c : Thread nD τ).loc main_arg5)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The table of cosines as the kernel is given it. -/
theorem cosT (c : Dev nD) : V m c main_v23 = concatenate S16384x128 1
    [⟨S16384x32, Host.cos (refAng (m ((c : Thread nD τ).loc main_arg5)))⟩,
     ⟨S16384x32, Host.cos (refAng (m ((c : Thread nD τ).loc main_arg5)))⟩,
     ⟨S16384x64, broadcastInDim S16384x64 ![] bcast_S_S16384x64 (constant (F := Ideal) S_ .f32 0x00000000#32)⟩]
    concatenates_S16384x32_S16384x32_S16384x64_S16384x128_d1 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The table of sines as the kernel is given it. -/
theorem sinT (c : Dev nD) : V m c main_v27 = concatenate S16384x128 1
    [⟨S16384x32, Host.negf (Host.sin (refAng (m ((c : Thread nD τ).loc main_arg5))))⟩,
     ⟨S16384x32, Host.sin (refAng (m ((c : Thread nD τ).loc main_arg5)))⟩,
     ⟨S16384x64, broadcastInDim S16384x64 ![] bcast_S_S16384x64 (constant (F := Ideal) S_ .f32 0x00000000#32)⟩]
    concatenates_S16384x32_S16384x32_S16384x64_S16384x128_d1 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The weights head by head, zero columns after each head's. -/
def padW (a2 : FVec Ideal S1024x4608 .f32) : FVec Ideal S1024x6144 .bf16 :=
  truncf .bf16 (shapeCast S1024x6144 (pad S1024x24x256 ![0, 0, 0] ![0, 0, 64] ![0, 0, 0]
    (shapeCast S1024x24x192 a2 shapeCasts_S1024x4608_S1024x24x192) (sitofp .f32 (constantI S_ 32 0#32))
    pads_S1024x24x192_S1024x24x256_000_000_0640 h_S_) shapeCasts_S1024x24x256_S1024x6144) bitsLt_bf16_f32

/-- The rotary gain with zeros after it. -/
def padG (a4 : FVec Ideal S64 .f32) : FVec Ideal S1x128 .f32 :=
  pad S1x128 ![0, 0] ![0, 64] ![0, 0] (shapeCast S1x64 a4 shapeCasts_S64_S1x64) (sitofp .f32 (constantI S_ 32 0#32)) pads_S1x64_S1x128_000_0640 h_S_

theorem weights (c : Dev nD) : V m c main_v3 = padW (m ((c : Thread nD τ).loc main_arg2)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem gains (c : Dev nD) : V m c main_v29 = padG (m ((c : Thread nD τ).loc main_arg4)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem latGain (c : Dev nD) : V m c main_v30 = shapeCast S1x1024 (m ((c : Thread nD τ).loc main_arg1)) shapeCasts_S1024_S1x1024 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem gain (c : Dev nD) : V m c main_v31 = shapeCast S1x128 (m ((c : Thread nD τ).loc main_arg3)) shapeCasts_S128_S1x128 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem zero_int : (FloatOps.sitofp FTy.f32 0#32 : Ideal .f32) = (0 : EReal) := by simp [FloatOps.sitofp]

theorem padW_at (a2 : FVec Ideal S1024x4608 .f32) (e : Fin 1024) (h : Fin 24) (d : Fin 256) (j : Fin 6144)
    (hj : j.val = h.val * 256 + d.val) :
    padW a2 (ix2 e j) = if hd : d.val < 192 then a2 (ix2 e ⟨h.val * 192 + d.val, by omega⟩) else 0 := by
  pointwise [padW]
  rw [zero_int]
  by_cases hd : d.val < 192
  · rw [dif_pos hd, dif_pos (by omega)]
    exact congrArg _ (congrArg (ix2 e) (Fin.ext (by dsimp only; omega)))
  · rw [dif_neg hd, dif_neg (by omega)]

theorem padG_at (a4 : FVec Ideal S64 .f32) (j : Fin 128) : padG a4 (ix2 0 j) = wide (fun i => a4 (ix1 i)) j := by
  pointwise [padG]
  rw [zero_int]
  rfl

theorem cosT_at (c : Dev nD) (r : Fin 16384) (j : Fin 128) :
    V m c main_v23 (ix2 r j) = cosRow (fun k => Ideal.cos (refAng (m ((c : Thread nD τ).loc main_arg5)) (ix2 r k))) j := by
  rw [cosT]
  pointwise
  rfl

theorem sinT_at (c : Dev nD) (r : Fin 16384) (j : Fin 128) :
    V m c main_v27 (ix2 r j) = sinRow (fun k => Ideal.sin (refAng (m ((c : Thread nD τ).loc main_arg5)) (ix2 r k))) j := by
  rw [sinT]
  pointwise
  rfl

theorem block0 (c : Dev nD) (t : Fin cfg0.N) (p : Fin 1024) (e : Fin 1024) : iblk m c 0 t (ix2 p e)
    = m ((c : Thread nD τ).loc main_arg0) (ix2 (row t p) ⟨e.val, by omega⟩) := by
  blk_point [iblk, V, idx0 t, row]

theorem block1 (c : Dev nD) (t : Fin cfg0.N) (e : Fin 1024) : iblk m c 1 t (ix2 0 e)
    = m ((c : Thread nD τ).loc main_arg1) (ix1 e) := by
  have h : V m c main_v30 (ix2 0 e) = m ((c : Thread nD τ).loc main_arg1) (ix1 e) := by
    rw [latGain]
    pointwise
  rw [← h]
  blk_point [iblk, idx1 t]

theorem block2 (c : Dev nD) (t : Fin cfg0.N) (e : Fin 1024) (o : Fin 2) (d : Fin 256) (j : Fin 512)
    (hj : j.val = o.val * 256 + d.val) : iblk m c 2 t (ix2 e j)
    = if hd : d.val < 192 then m ((c : Thread nD τ).loc main_arg2) (ix2 e ⟨(head t o).val * 192 + d.val, by omega⟩) else (0 : EReal) := by
  rw [← padW_at (m ((c : Thread nD τ).loc main_arg2)) e (head t o) d ⟨t.val % 12 * 512 + j.val, by omega⟩ (by dsimp only [head]; omega), ← weights]
  blk_point [iblk, idx2 t]

theorem block3 (c : Dev nD) (t : Fin cfg0.N) (j : Fin 128) : iblk m c 3 t (ix2 0 j)
    = m ((c : Thread nD τ).loc main_arg3) (ix1 j) := by
  have h : V m c main_v31 (ix2 0 j) = m ((c : Thread nD τ).loc main_arg3) (ix1 j) := by
    rw [gain]
    pointwise
  rw [← h]
  blk_point [iblk, idx3 t]

theorem block4 (c : Dev nD) (t : Fin cfg0.N) (j : Fin 128) : iblk m c 4 t (ix2 0 j)
    = wide (fun i => m ((c : Thread nD τ).loc main_arg4) (ix1 i)) j := by
  rw [← padG_at, ← gains]
  blk_point [iblk, idx4 t]

theorem block5 (c : Dev nD) (t : Fin cfg0.N) (p : Fin 1024) (j : Fin 128) : iblk m c 5 t (ix2 p j)
    = cosRow (fun k => Ideal.cos (refAng (m ((c : Thread nD τ).loc main_arg5)) (ix2 (row t p) k))) j := by
  rw [← cosT_at]
  blk_point [iblk, idx5 t, row]

theorem block6 (c : Dev nD) (t : Fin cfg0.N) (p : Fin 1024) (j : Fin 128) : iblk m c 6 t (ix2 p j)
    = sinRow (fun k => Ideal.sin (refAng (m ((c : Thread nD τ).loc main_arg5)) (ix2 (row t p) k))) j := by
  rw [← sinT_at]
  blk_point [iblk, idx6 t, row]

/-- An entry of the block's product, the latents against one column. -/
def prod (l : Vec Ideal S1024x1024 .bf16) (w : Vec Ideal S1024x512 .bf16) (p : Fin 1024) (j : Fin 512) : EReal :=
  ∑ e : Fin 1024, l (ix2 p e) * w (ix2 e j)

/-- 128 columns of the product from `o` on, as the kernel normalises them. -/
def normed (b : BitVec 32) (l : Vec Ideal S1024x1024 .bf16) (w : Vec Ideal S1024x512 .bf16) (g : Vec Ideal S1x128 .f32) (p : Fin 1024)
    (o : Fin 385) (d : Fin 128) : EReal :=
  prod l w p ⟨o.val + d.val, by omega⟩ * Ideal.rsqrt (Ideal.div (∑ x : Fin 128, prod l w p ⟨o.val + x.val, by omega⟩
    * prod l w p ⟨o.val + x.val, by omega⟩) (Ideal.ofBits .f32 b) + Ideal.ofBits .f32 0x358637BD#32) * (g (ix2 0 d) * scale)

/-- The latents the kernel keeps. -/
theorem pay2_at (x0 : Vec Ideal S1024x1024 .f32) (x1 : Vec Ideal S1x1024 .f32) (p e : Fin 1024) :
    k0_pay2 x0 x1 (ix2 p e) = x0 (ix2 p e) * Ideal.rsqrt (Ideal.div (∑ x : Fin 1024, x0 (ix2 p x) * x0 (ix2 p x))
      (Ideal.ofBits .f32 0x44800000#32) + Ideal.ofBits .f32 0x358637BD#32) * x1 (ix2 0 e) := by
  pointwise [k0_pay2]
  rw [mean1024]

/-- The first head's unrotated part. -/
theorem pay4_at (l : Vec Ideal S1024x1024 .bf16) (w : Vec Ideal S1024x512 .bf16) (g : Vec Ideal S1x128 .f32) (p : Fin 1024) (d : Fin 128) :
    k0_pay4 l w g (ix2 p d) = normed 0x43000000#32 l w g p 0 d := by
  pointwise [k0_pay4, k0_pay3]
  rw [mean128]
  simp only [normed, prod, Fin.val_zero, Nat.zero_add]

/-- The second head's unrotated part. -/
theorem pay7_at (l : Vec Ideal S1024x1024 .bf16) (w : Vec Ideal S1024x512 .bf16) (g : Vec Ideal S1x128 .f32) (p : Fin 1024) (d : Fin 128) :
    k0_pay7 (k0_pay3 l w) g (ix2 p d) = normed 0x43000000#32 l w g p 256 d := by
  pointwise [k0_pay7, k0_pay3]
  rw [mean128]
  rfl

/-- The first head's rotary part. -/
theorem pay6_at (l : Vec Ideal S1024x1024 .bf16) (w : Vec Ideal S1024x512 .bf16) (g : Vec Ideal S1x128 .f32) (co si : Vec Ideal S1024x128 .f32)
    (p : Fin 1024) (d : Fin 128) :
    k0_pay6 (k0_pay5 l w) g co si (ix2 p d) = normed 0x42800000#32 l w g p 128 d * co (ix2 p d)
      + (normed 0x42800000#32 l w g p 128 ⟨(d.val + 128 - 96) % 128, Nat.mod_lt _ (by decide)⟩
        + normed 0x42800000#32 l w g p 128 ⟨(d.val + 128 - 32) % 128, Nat.mod_lt _ (by decide)⟩) * si (ix2 p d) := by
  pointwise [k0_pay6, k0_pay5, k0_pay3]
  simp only [mean64]
  rfl

/-- The second head's rotary part. -/
theorem pay1_at (l : Vec Ideal S1024x1024 .bf16) (w : Vec Ideal S1024x512 .bf16) (g : Vec Ideal S1x128 .f32) (co si : Vec Ideal S1024x128 .f32)
    (p : Fin 1024) (d : Fin 128) :
    k0_pay1 (k0_pay8 (k0_pay3 l w)) (k0_pay9 (k0_pay3 l w)) g co si (ix2 p d) = normed 0x42800000#32 l w g p 384 d * co (ix2 p d)
      + (normed 0x42800000#32 l w g p 384 ⟨(d.val + 128 - 96) % 128, Nat.mod_lt _ (by decide)⟩
        + normed 0x42800000#32 l w g p 384 ⟨(d.val + 128 - 32) % 128, Nat.mod_lt _ (by decide)⟩) * si (ix2 p d) := by
  pointwise [k0_pay1, k0_pay8, k0_pay9, k0_pay3]
  simp only [mean64]
  rfl

/-- What the kept latents must be at grid point `t`. -/
def Kept (c : Dev nD) (t : Fin cfg0.N) (l : Vec Ideal S1024x1024 .bf16) : Prop :=
  ∀ p e : Fin 1024, l (ix2 p e) = cq (m ((c : Thread nD τ).loc main_arg0)) (m ((c : Thread nD τ).loc main_arg1)) (row t p) e

variable {m}

/-- A column of a head's first 192 in the block's product is that column of the head's query. -/
theorem prod_in (c : Dev nD) (t : Fin cfg0.N) (l : Vec Ideal S1024x1024 .bf16) (hl : Kept m c t l) (p : Fin 1024) (o : Fin 2) (d : Fin 192)
    (j : Fin 512) (hj : j.val = o.val * 256 + d.val) :
    prod l (iblk m c 2 t) p j = q (m ((c : Thread nD τ).loc main_arg0)) (m ((c : Thread nD τ).loc main_arg1)) (m ((c : Thread nD τ).loc main_arg2)) (row t p) (head t o) d := by
  unfold prod q
  refine Finset.sum_congr rfl fun e _ => ?_
  rw [hl, block2 m c t e o ⟨d.val, by omega⟩ j hj, dif_pos (show d.val < 192 from d.isLt)]

/-- The columns after them are zero. -/
theorem prod_out (c : Dev nD) (t : Fin cfg0.N) (l : Vec Ideal S1024x1024 .bf16) (p : Fin 1024) (o : Fin 2) (d : Fin 256) (hd : 192 ≤ d.val)
    (j : Fin 512) (hj : j.val = o.val * 256 + d.val) : prod l (iblk m c 2 t) p j = 0 := by
  unfold prod
  refine Finset.sum_eq_zero fun e _ => ?_
  rw [block2 m c t e o d j hj, dif_neg (by omega), mul_zero]

/-- A head's rotary columns of the product, in the row of 128. -/
theorem prod_rope (c : Dev nD) (t : Fin cfg0.N) (l : Vec Ideal S1024x1024 .bf16) (hl : Kept m c t l) (p : Fin 1024) (o : Fin 2) (d : Fin 128)
    (j : Fin 512) (hj : j.val = o.val * 256 + 128 + d.val) : prod l (iblk m c 2 t) p j
      = wide (fun i => q (m ((c : Thread nD τ).loc main_arg0)) (m ((c : Thread nD τ).loc main_arg1)) (m ((c : Thread nD τ).loc main_arg2)) (row t p) (head t o) ⟨128 + i.val, by omega⟩) d := by
  unfold wide
  split
  · exact prod_in c t l hl p o ⟨128 + d.val, by omega⟩ j (by dsimp only; omega)
  · exact prod_out c t l p o ⟨128 + d.val, by omega⟩ (by dsimp only; omega) j (by dsimp only; omega)

/-- A head's unrotated part, with the scale in its gain. -/
theorem nope (c : Dev nD) (t : Fin cfg0.N) (l : Vec Ideal S1024x1024 .bf16) (hl : Kept m c t l) (p : Fin 1024) (o : Fin 2) (d : Fin 128)
    (b : Fin 385) (hb : b.val = o.val * 256) : normed 0x43000000#32 l (iblk m c 2 t) (iblk m c 3 t) p b d
      = qn (m ((c : Thread nD τ).loc main_arg0)) (m ((c : Thread nD τ).loc main_arg1)) (m ((c : Thread nD τ).loc main_arg2)) (m ((c : Thread nD τ).loc main_arg3)) (row t p) (head t o) d * scale := by
  unfold normed qn
  simp only [fun x : Fin 128 => prod_in c t l hl p o ⟨x.val, by omega⟩ ⟨b.val + x.val, by omega⟩ (by dsimp only; omega)]
  rw [block3, mul_assoc _ _ scale]

/-- A head's rotary part before it is turned, with the scale in its gain. -/
theorem rope (c : Dev nD) (t : Fin cfg0.N) (l : Vec Ideal S1024x1024 .bf16) (hl : Kept m c t l) (p : Fin 1024) (o : Fin 2) (d : Fin 128)
    (b : Fin 385) (hb : b.val = o.val * 256 + 128) : normed 0x42800000#32 l (iblk m c 2 t) (iblk m c 4 t) p b d
      = wide (fun i => qr (m ((c : Thread nD τ).loc main_arg0)) (m ((c : Thread nD τ).loc main_arg1)) (m ((c : Thread nD τ).loc main_arg2)) (m ((c : Thread nD τ).loc main_arg4)) (row t p) (head t o) i * scale) d := by
  unfold normed
  simp only [fun x : Fin 128 => prod_rope c t l hl p o x ⟨b.val + x.val, by omega⟩ (by dsimp only; omega)]
  erw [sum_wide]
  rw [block4, ← mul_assoc, wide_mul]
  unfold wide
  split
  · rfl
  · rw [zero_mul]

/-- A head's stored rotary part. -/
theorem turned_rope (c : Dev nD) (t : Fin cfg0.N) (l : Vec Ideal S1024x1024 .bf16) (hl : Kept m c t l) (p : Fin 1024) (o : Fin 2) (d : Fin 128)
    (b : Fin 385) (hb : b.val = o.val * 256 + 128) :
    normed 0x42800000#32 l (iblk m c 2 t) (iblk m c 4 t) p b d * iblk m c 5 t (ix2 p d)
      + (normed 0x42800000#32 l (iblk m c 2 t) (iblk m c 4 t) p b ⟨(d.val + 128 - 96) % 128, Nat.mod_lt _ (by decide)⟩
        + normed 0x42800000#32 l (iblk m c 2 t) (iblk m c 4 t) p b ⟨(d.val + 128 - 32) % 128, Nat.mod_lt _ (by decide)⟩)
        * iblk m c 6 t (ix2 p d)
      = turned (qr (m ((c : Thread nD τ).loc main_arg0)) (m ((c : Thread nD τ).loc main_arg1)) (m ((c : Thread nD τ).loc main_arg2)) (m ((c : Thread nD τ).loc main_arg4)) (row t p) (head t o)) (fun k => Ideal.cos (refAng (m ((c : Thread nD τ).loc main_arg5)) (ix2 (row t p) k)))
          (fun k => Ideal.sin (refAng (m ((c : Thread nD τ).loc main_arg5)) (ix2 (row t p) k))) d * scale := by
  rw [rope c t l hl p o _ b hb, rope c t l hl p o _ b hb, rope c t l hl p o _ b hb, block5, block6, turn, turned_scale]

variable (m)

/-- The kernel's result as the reference's term. -/
abbrev want (c : Dev nD) : FVec Ideal S16384x6144 .bf16 :=
  ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The latents kept at a row block's first grid point. -/
theorem kept_first (c : Dev nD) (t : Fin cfg0.N) (h : t.val % 12 = 0) : Kept m c t (outsAt0 m c t.val t.isLt).2 := fun p e => by
  rw [outsAt0_A m c t h]
  dsimp only
  frame_out
  rw [pay2_at]
  simp only [block0, block1]
  rfl

/-- At the others they are those of the point before. -/
theorem kept (c : Dev nD) : ∀ (n : ℕ) (hn : n < cfg0.N), Kept m c ⟨n, hn⟩ (outsAt0 m c n hn).2
  | 0, hn => kept_first m c ⟨0, hn⟩ rfl
  | n + 1, hn => by
    by_cases h : (n + 1) % 12 = 0
    · exact kept_first m c ⟨n + 1, hn⟩ h
    · intro p e
      rw [outsAt0_B m c ⟨n + 1, hn⟩ h]
      refine (kept c n (Nat.lt_of_succ_lt hn) p e).trans ?_
      have er : row ⟨n, Nat.lt_of_succ_lt hn⟩ p = row ⟨n + 1, hn⟩ p := Fin.ext (by dsimp only [row]; omega)
      rw [er]

/-- An entry of the output's block sits at this entry of the array. -/
theorem emb7 {α : Type} (f : S16384x6144.Idx → α) (t : Fin cfg0.N) (y : S1024x512.Idx) (p : Fin 1024) (j : Fin 6144)
    (hp : p.val = (y 0).val) (hj : j.val = t.val % 12 * 512 + (y 1).val) :
    f ((win0_7.blk t).view.emb y) = f (ix2 (row t p) j) := by
  blk_point [idx7 t, row]

/-- What a block entry must be, at each of the four stored pieces. -/
theorem want_nope (c : Dev nD) (t : Fin cfg0.N) (y : S1024x512.Idx) (p : Fin 1024) (d : Fin 128) (o : Fin 2) (hp : (y 0).val = p.val)
    (hy : (y 1).val = o.val * 256 + d.val) : want m c ((win0_7.blk t).view.emb y)
      = qn (m ((c : Thread nD τ).loc main_arg0)) (m ((c : Thread nD τ).loc main_arg1)) (m ((c : Thread nD τ).loc main_arg2)) (m ((c : Thread nD τ).loc main_arg3)) (row t p) (head t o) d * scale := by
  rw [emb7 (want m c) t y p ⟨t.val % 12 * 512 + (y 1).val, by omega⟩ hp.symm rfl]
  exact ref_nope _ _ _ _ _ _ _ (head t o) d _ (by dsimp only [head]; omega)

theorem want_rope (c : Dev nD) (t : Fin cfg0.N) (y : S1024x512.Idx) (p : Fin 1024) (d : Fin 128) (o : Fin 2) (hp : (y 0).val = p.val)
    (hy : (y 1).val = o.val * 256 + 128 + d.val) : want m c ((win0_7.blk t).view.emb y)
      = turned (qr (m ((c : Thread nD τ).loc main_arg0)) (m ((c : Thread nD τ).loc main_arg1)) (m ((c : Thread nD τ).loc main_arg2)) (m ((c : Thread nD τ).loc main_arg4)) (row t p) (head t o)) (fun k => Ideal.cos (refAng (m ((c : Thread nD τ).loc main_arg5)) (ix2 (row t p) k)))
          (fun k => Ideal.sin (refAng (m ((c : Thread nD τ).loc main_arg5)) (ix2 (row t p) k))) d * scale := by
  rw [emb7 (want m c) t y p ⟨t.val % 12 * 512 + (y 1).val, by omega⟩ hp.symm rfl]
  exact ref_rope _ _ _ _ _ _ _ (head t o) d _ (by dsimp only [head]; omega)

/-- The block the kernel leaves at a row block's first grid point. -/
theorem block_first (c : Dev nD) (t : Fin cfg0.N) (h : t.val % 12 = 0) (y : S1024x512.Idx) :
    (outsAt0 m c t.val t.isLt).1 y = want m c ((win0_7.blk t).view.emb y) := by
  have hk : Kept m c t (k0_pay2 (iblk m c 0 t) (iblk m c 1 t)) := fun p e => by
    rw [pay2_at]
    simp only [block0, block1]
    rfl
  rw [outsAt0_A m c t h]
  frame_out
  canon_tiles x h
  case piece0 =>
    obtain ⟨p, d, rfl⟩ : ∃ p d, x = ix2 p d := ⟨x 0, x 1, eq_ix2 x⟩
    refine Eq.trans ?_ (want_rope m c t y p d 1 h0 (by
      have h1' : (y 1).val = 384 + d.val := h1
      simpa using h1')).symm
    rw [pay1_at]
    exact turned_rope c t _ hk p 1 d _ rfl
  case piece1 =>
    obtain ⟨p, d, rfl⟩ : ∃ p d, x = ix2 p d := ⟨x 0, x 1, eq_ix2 x⟩
    refine Eq.trans ?_ (want_nope m c t y p d 1 h0 (by
      have h1' : (y 1).val = 256 + d.val := h1
      simpa using h1')).symm
    rw [pay7_at]
    exact nope c t _ hk p 1 d _ rfl
  case piece2 =>
    obtain ⟨p, d, rfl⟩ : ∃ p d, x = ix2 p d := ⟨x 0, x 1, eq_ix2 x⟩
    refine Eq.trans ?_ (want_rope m c t y p d 0 h0 (by
      have h1' : (y 1).val = 128 + d.val := h1
      simpa using h1')).symm
    rw [pay6_at]
    exact turned_rope c t _ hk p 0 d _ rfl
  case piece3 =>
    obtain ⟨p, d, rfl⟩ : ∃ p d, x = ix2 p d := ⟨x 0, x 1, eq_ix2 x⟩
    refine Eq.trans ?_ (want_nope m c t y p d 0 h0 (by
      have h1' : (y 1).val = 0 + d.val := h1.trans (Nat.zero_add _).symm
      simpa using h1')).symm
    rw [pay4_at]
    exact nope c t _ hk p 0 d _ rfl

/-- The block it leaves at the others. -/
theorem block_next (c : Dev nD) (t : Fin cfg0.N) (h : ¬ t.val % 12 = 0) (y : S1024x512.Idx) :
    (outsAt0 m c t.val t.isLt).1 y = want m c ((win0_7.blk t).view.emb y) := by
  have hk : Kept m c t (outsAt0 m c (t.val - 1) (Nat.lt_of_le_of_lt (Nat.sub_le _ _) t.isLt)).2 := by
    have := kept m c t.val t.isLt
    rw [outsAt0_B m c t h] at this
    exact this
  have hr := fun X => (Memref.isWhole_whole (sig := sig) cc0_scratch0).read_unread (Val := Elt Ideal) X
  rw [outsAt0_B m c t h]
  frame_out
  canon_tiles x h
  case piece0 =>
    obtain ⟨p, d, rfl⟩ : ∃ p d, x = ix2 p d := ⟨x 0, x 1, eq_ix2 x⟩
    refine Eq.trans ?_ (want_rope m c t y p d 1 h0 (by
      have h1' : (y 1).val = 384 + d.val := h1
      simpa using h1')).symm
    rw [hr]
    rw [pay1_at]
    exact turned_rope c t _ hk p 1 d _ rfl
  case piece1 =>
    obtain ⟨p, d, rfl⟩ : ∃ p d, x = ix2 p d := ⟨x 0, x 1, eq_ix2 x⟩
    refine Eq.trans ?_ (want_nope m c t y p d 1 h0 (by
      have h1' : (y 1).val = 256 + d.val := h1
      simpa using h1')).symm
    rw [hr]
    rw [pay7_at]
    exact nope c t _ hk p 1 d _ rfl
  case piece2 =>
    obtain ⟨p, d, rfl⟩ : ∃ p d, x = ix2 p d := ⟨x 0, x 1, eq_ix2 x⟩
    refine Eq.trans ?_ (want_rope m c t y p d 0 h0 (by
      have h1' : (y 1).val = 128 + d.val := h1
      simpa using h1')).symm
    rw [hr]
    rw [pay6_at]
    exact turned_rope c t _ hk p 0 d _ rfl
  case piece3 =>
    obtain ⟨p, d, rfl⟩ : ∃ p d, x = ix2 p d := ⟨x 0, x 1, eq_ix2 x⟩
    refine Eq.trans ?_ (want_nope m c t y p d 0 h0 (by
      have h1' : (y 1).val = 0 + d.val := h1.trans (Nat.zero_add _).symm
      simpa using h1')).symm
    rw [hr]
    rw [pay4_at]
    exact nope c t _ hk p 0 d _ rfl

/-- The queries the kernel leaves are the reference's. -/
theorem final (c : Dev nD) : (dats m 0 c).arrAt 7 cfg0.N = want m c := by
  refine (dats m 0 c).arrAt_eq_of_covers 7 _ (by decide +kernel) fun t hf y => ?_
  blk_simp
  rw [after0_7]
  by_cases h : t.val % 12 = 0
  · exact block_first m c t h y
  · exact block_next m c t h y

end Cert.Proof.QProjValue

end
-- ==== Proof.KvUpValue.lean ====
/-
  THE UP-PROJECTION TO KEYS AND VALUES, at the ideal instance: head by head the kernel leaves the normalised half of the
  head's key beside the shared rotary half, and the head's values — what the plain formula computes.
-/
module

public import proofs.«01_k».proof.Proof.Norm
public import proofs.«01_k».proof.Proof.Gen.KvUpIdeal.Value
public import proofs.«01_k».proof.Proof.Gen.KvUpRefIdeal.Run
public import Idealize.ShloMosaic.Lib.Pipeline.ValueKit
public import Idealize.ShloMosaic.Lib.Pointwise

@[expose] public section

set_option maxRecDepth 16384

noncomputable section

namespace Cert.Proof.KvUpRef

open Cert.KvUpRefIdeal Cert.KvUpRefIdeal.Gen Idealize.ShloMosaic
open scoped BigOperators

/-- Latent row `r` times column `j` of the weights. -/
def up (a0 : FVec Ideal S16384x512 .bf16) (a1 : FVec Ideal S512x6144 .f32) (r : Fin 16384) (j : Fin 6144) : EReal :=
  ∑ e : Fin 512, a0 (ix2 r e) * a1 (ix2 e j)

/-- Column `d` of head `h`. -/
def col (h : Fin 24) (d : Fin 256) : Fin 6144 := ⟨h.val * 256 + d.val, by omega⟩

/-- A head's normalised key entry. -/
def nope (a0 : FVec Ideal S16384x512 .bf16) (a1 : FVec Ideal S512x6144 .f32) (g : FVec Ideal S128 .f32)
    (r : Fin 16384) (h : Fin 24) (d : Fin 128) : EReal :=
  up a0 a1 r (col h ⟨d.val, by omega⟩) * Ideal.rsqrt (Ideal.div (∑ e : Fin 128,
    up a0 a1 r (col h ⟨e.val, by omega⟩) * up a0 a1 r (col h ⟨e.val, by omega⟩)) (Ideal.ofBits .f32 0x43000000#32)
      + Ideal.ofBits .f32 0x358637BD#32) * g (ix1 d)

/-- All heads' keys and values, row by row and head by head. -/
def refKv (a0 : FVec Ideal S16384x512 .bf16) (a1 : FVec Ideal S512x6144 .f32) : FVec Ideal S16384x24x256 .f32 :=
  shapeCast S16384x24x256 (Host.dotGeneral dot_S16384x512_S512x6144_S16384x6144_1_0_0_1_n_n none (extf .f32 a0 bitsLt_bf16_f32) a1) shapeCasts_S16384x6144_S16384x24x256

/-- The halves of the keys before they are normalised. -/
def refNope (a0 : FVec Ideal S16384x512 .bf16) (a1 : FVec Ideal S512x6144 .f32) : FVec Ideal S16384x24x128 .f32 :=
  extractStridedSlice S16384x24x128 ![0, 0, 0] (refKv a0 a1) slices_S16384x24x256_S16384x24x128_0_0_0

/-- The same halves normalised. -/
def refNorm (a0 : FVec Ideal S16384x512 .bf16) (a1 : FVec Ideal S512x6144 .f32) (a3 : FVec Ideal S128 .f32) :
    FVec Ideal S16384x24x128 .f32 :=
  mulf (mulf (refNope a0 a1) (broadcastInDim S16384x24x128 ![0, 1, 2] bcast_S16384x24x1_S16384x24x128_0_1_2 (Host.rsqrt (addf (Host.divf (broadcastInDim S16384x24x1 ![0, 1] bcast_S16384x24_S16384x24x1_0_1 (Host.reduceAdd (mulf (refNope a0 a1) (refNope a0 a1)) (constant S_ .f32 0x00000000#32) reducesTo_S16384x24x128_S16384x24_d2 h_S_)) (broadcastInDim S16384x24x1 ![] bcast_S_S16384x24x1 (constant S_ .f32 0x43000000#32))) (broadcastInDim S16384x24x1 ![] bcast_S_S16384x24x1 (constant S_ .f32 0x358637BD#32)))))) (broadcastInDim S16384x24x128 ![0, 1, 2] bcast_S1x1x128_S16384x24x128_0_1_2 (broadcastInDim S1x1x128 ![2] bcast_S128_S1x1x128_2 a3))

/-- The shared rotary half, once per head. -/
def refRope (a2 : FVec Ideal S16384x128 .bf16) : FVec Ideal S16384x24x128 .f32 :=
  broadcastInDim S16384x24x128 ![0, 1, 2] bcast_S16384x1x128_S16384x24x128_0_1_2 (broadcastInDim S16384x1x128 ![0, 2] bcast_S16384x128_S16384x1x128_0_2 (extf .f32 a2 bitsLt_bf16_f32))

/-- The reference's keys as one term of its arrays. -/
abbrev refKey (a0 : FVec Ideal S16384x512 .bf16) (a1 : FVec Ideal S512x6144 .f32) (a2 : FVec Ideal S16384x128 .bf16)
    (a3 : FVec Ideal S128 .f32) : FVec Ideal S16384x6144 .bf16 :=
  truncf .bf16 (shapeCast S16384x6144 (concatenate S16384x24x256 2 [⟨S16384x24x128, refNorm a0 a1 a3⟩, ⟨S16384x24x128, refRope a2⟩] concatenates_S16384x24x128_S16384x24x128_S16384x24x256_d2) shapeCasts_S16384x24x256_S16384x6144) bitsLt_bf16_f32

/-- The reference's values as one term of its arrays. -/
abbrev refVal (a0 : FVec Ideal S16384x512 .bf16) (a1 : FVec Ideal S512x6144 .f32) : FVec Ideal S16384x3072 .bf16 :=
  truncf .bf16 (shapeCast S16384x3072 (extractStridedSlice S16384x24x128 ![0, 0, 128] (refKv a0 a1) slices_S16384x24x256_S16384x24x128_0_0_128) shapeCasts_S16384x24x128_S16384x3072) bitsLt_bf16_f32

theorem refKv_at (a0 : FVec Ideal S16384x512 .bf16) (a1 : FVec Ideal S512x6144 .f32) (r : Fin 16384) (h : Fin 24) (d : Fin 256) :
    refKv a0 a1 (ix3 r h d) = up a0 a1 r (col h d) := by
  pointwise [refKv]
  rfl

theorem refNorm_at (a0 : FVec Ideal S16384x512 .bf16) (a1 : FVec Ideal S512x6144 .f32) (a3 : FVec Ideal S128 .f32)
    (r : Fin 16384) (h : Fin 24) (d : Fin 128) : refNorm a0 a1 a3 (ix3 r h d) = nope a0 a1 a3 r h d := by
  pointwise [refNorm, refNope]
  simp only [refKv_at]
  rfl

/-- The first half of a head's key is its normalised half. -/
theorem refKey_nope (a0 : FVec Ideal S16384x512 .bf16) (a1 : FVec Ideal S512x6144 .f32) (a2 : FVec Ideal S16384x128 .bf16)
    (a3 : FVec Ideal S128 .f32) (r : Fin 16384) (h : Fin 24) (d : Fin 128) (j : Fin 6144) (hj : j.val = h.val * 256 + d.val) :
    refKey a0 a1 a2 a3 (ix2 r j) = nope a0 a1 a3 r h d := by
  rw [← refNorm_at a0 a1 a3 r h d]
  pointwise [refKey]
  have e1 : j.val % 256 = d.val := by omega
  have e2 : j.val / 256 = h.val := by omega
  rw [dif_pos (by omega)]
  exact congrArg _ (congrArg₂ (ix3 r) (Fin.ext e2) (Fin.ext e1))

/-- The second half is the shared rotary half. -/
theorem refKey_rope (a0 : FVec Ideal S16384x512 .bf16) (a1 : FVec Ideal S512x6144 .f32) (a2 : FVec Ideal S16384x128 .bf16)
    (a3 : FVec Ideal S128 .f32) (r : Fin 16384) (h : Fin 24) (d : Fin 128) (j : Fin 6144) (hj : j.val = h.val * 256 + 128 + d.val) :
    refKey a0 a1 a2 a3 (ix2 r j) = a2 (ix2 r d) := by
  pointwise [refKey, refRope]
  have e1 : j.val % 256 = 128 + d.val := by omega
  rw [dif_neg (by omega)]
  exact congrArg _ (congrArg (ix2 r) (Fin.ext (by dsimp only; omega)))

/-- A head's values are the rest of its columns. -/
theorem refVal_at (a0 : FVec Ideal S16384x512 .bf16) (a1 : FVec Ideal S512x6144 .f32) (r : Fin 16384) (h : Fin 24) (d : Fin 128)
    (j : Fin 3072) (hj : j.val = h.val * 128 + d.val) :
    refVal a0 a1 (ix2 r j) = up a0 a1 r (col h ⟨128 + d.val, by omega⟩) := by
  rw [← refKv_at]
  pointwise [refVal]
  exact congrArg _ (congrArg₂ (ix3 r) (Fin.ext (by dsimp only; omega)) (Fin.ext (by dsimp only; omega)))

end Cert.Proof.KvUpRef

namespace Cert.Proof.KvUpValue

open Cert.KvUpIdeal Cert.KvUpIdeal.Gen Idealize.ShloMosaic Idealize.ShloMosaic.TcCoe Idealize.SL.Sem
open Cert.Proof.Norm Cert.Proof.KvUpRef
open scoped BigOperators

variable (m : (ℓ : Loc nD τ sig) → Buf (Elt Ideal) ℓ)

/-- Where each window's block sits at grid point `t`. -/
theorem idx0 : ∀ t : Fin cfg0.N, win0_0.index t = ![t.val / 12, 0] :=
  (by decide +kernel : ∀ t : Fin grid0.N, _)
theorem idx1 : ∀ t : Fin cfg0.N, win0_1.index t = ![0, t.val % 12] :=
  (by decide +kernel : ∀ t : Fin grid0.N, _)
theorem idx2 : ∀ t : Fin cfg0.N, win0_2.index t = ![0, t.val % 12] :=
  (by decide +kernel : ∀ t : Fin grid0.N, _)
theorem idx3 : ∀ t : Fin cfg0.N, win0_3.index t = ![t.val / 12, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![t.val / 12, t.val % 12] :=
  (by decide +kernel : ∀ t : Fin grid0.N, _)
theorem idx6 : ∀ t : Fin cfg0.N, win0_6.index t = ![t.val / 12, t.val % 12] :=
  (by decide +kernel : ∀ t : Fin grid0.N, _)

/-- The row of the array that row `p` of grid point `t`'s blocks is. -/
def row (t : Fin cfg0.N) (p : Fin 1024) : Fin 16384 :=
  ⟨t.val / 12 * 1024 + p.val, by have : t.val < 192 := t.isLt; omega⟩

/-- The heads of grid point `t`: `2 (t mod 12)` and the next. -/
def head (t : Fin cfg0.N) (o : Fin 2) : Fin 24 := ⟨t.val % 12 * 2 + o.val, by omega⟩

/-- The key halves of the weights, as the kernel is given them. -/
theorem keys (c : Dev nD) : V m c main_v3 = truncf (F := Ideal) .bf16 (shapeCast S512x3072 (extractStridedSlice S512x24x128 ![0, 0, 0]
      (shapeCast S512x24x256 (m ((c : Thread nD τ).loc main_arg1)) shapeCasts_S512x6144_S512x24x256)
      slices_S512x24x256_S512x24x128_0_0_0) shapeCasts_S512x24x128_S512x3072) bitsLt_bf16_f32 := by
  dsimp only [V, hostOps0]
  after_results
  rfl

/-- The value halves of the weights, as the kernel is given them. -/
theorem values (c : Dev nD) : V m c main_v6 = truncf (F := Ideal) .bf16 (shapeCast S512x3072 (extractStridedSlice S512x24x128 ![0, 0, 128]
      (shapeCast S512x24x256 (m ((c : Thread nD τ).loc main_arg1)) shapeCasts_S512x6144_S512x24x256)
      slices_S512x24x256_S512x24x128_0_0_128) shapeCasts_S512x24x128_S512x3072) bitsLt_bf16_f32 := by
  dsimp only [V, hostOps0]
  after_results
  rfl

theorem keys_at (c : Dev nD) (e : Fin 512) (h : Fin 24) (d : Fin 128) (j : Fin 3072) (hj : j.val = h.val * 128 + d.val) :
    V m c main_v3 (ix2 e j) = m ((c : Thread nD τ).loc main_arg1) (ix2 e (col h ⟨d.val, by omega⟩)) := by
  rw [keys]
  pointwise
  exact congrArg _ (congrArg (ix2 e) (Fin.ext (by dsimp only [col]; omega)))

theorem values_at (c : Dev nD) (e : Fin 512) (h : Fin 24) (d : Fin 128) (j : Fin 3072) (hj : j.val = h.val * 128 + d.val) :
    V m c main_v6 (ix2 e j) = m ((c : Thread nD τ).loc main_arg1) (ix2 e (col h ⟨128 + d.val, by omega⟩)) := by
  rw [values]
  pointwise
  exact congrArg _ (congrArg (ix2 e) (Fin.ext (by dsimp only [col]; omega)))

/-- The first head's stored half. -/
theorem pay4_at (x0 : Vec Ideal S1024x512 .bf16) (x1 : Vec Ideal S512x256 .bf16) (x4 : Vec Ideal S1x128 .f32) (p : Fin 1024) (d : Fin 128) :
    k0_pay4 x0 x1 x4 (ix2 p d) = (∑ e : Fin 512, x0 (ix2 p e) * x1 (ix2 e ⟨d.val, by omega⟩))
      * Ideal.rsqrt (Ideal.div (∑ f : Fin 128, (∑ e : Fin 512, x0 (ix2 p e) * x1 (ix2 e ⟨f.val, by omega⟩))
          * (∑ e : Fin 512, x0 (ix2 p e) * x1 (ix2 e ⟨f.val, by omega⟩))) (Ideal.ofBits .f32 0x43000000#32)
        + Ideal.ofBits .f32 0x358637BD#32) * x4 (ix2 0 d) := by
  pointwise [k0_pay4, k0_pay3]
  rw [mean128]

/-- The second head's stored half. -/
theorem pay1_at (x0 : Vec Ideal S1024x512 .bf16) (x1 : Vec Ideal S512x256 .bf16) (x4 : Vec Ideal S1x128 .f32) (p : Fin 1024) (d : Fin 128) :
    k0_pay1 (k0_pay5 x0 x1) x4 (ix2 p d) = (∑ e : Fin 512, x0 (ix2 p e) * x1 (ix2 e ⟨128 + d.val, by omega⟩))
      * Ideal.rsqrt (Ideal.div (∑ f : Fin 128, (∑ e : Fin 512, x0 (ix2 p e) * x1 (ix2 e ⟨128 + f.val, by omega⟩))
          * (∑ e : Fin 512, x0 (ix2 p e) * x1 (ix2 e ⟨128 + f.val, by omega⟩))) (Ideal.ofBits .f32 0x43000000#32)
        + Ideal.ofBits .f32 0x358637BD#32) * x4 (ix2 0 d) := by
  pointwise [k0_pay1, k0_pay5, k0_pay3]
  rw [mean128]

theorem block0 (c : Dev nD) (t : Fin cfg0.N) (p : Fin 1024) (e : Fin 512) : iblk m c 0 t (ix2 p e)
    = m ((c : Thread nD τ).loc main_arg0) (ix2 (row t p) e) := by
  blk_point [iblk, V, idx0 t, row]

theorem block3 (c : Dev nD) (t : Fin cfg0.N) (p : Fin 1024) (e : Fin 128) : iblk m c 3 t (ix2 p e)
    = m ((c : Thread nD τ).loc main_arg2) (ix2 (row t p) e) := by
  blk_point [iblk, V, idx3 t, row]

theorem block4 (c : Dev nD) (t : Fin cfg0.N) (e : Fin 128) : iblk m c 4 t (ix2 0 e)
    = m ((c : Thread nD τ).loc main_arg3) (ix1 e) := by
  blk_point [iblk, V, idx4 t]

theorem block1 (c : Dev nD) (t : Fin cfg0.N) (e : Fin 512) (o : Fin 2) (d : Fin 128) (j : Fin 256)
    (hj : j.val = o.val * 128 + d.val) : iblk m c 1 t (ix2 e j)
    = m ((c : Thread nD τ).loc main_arg1) (ix2 e (col (head t o) ⟨d.val, by omega⟩)) := by
  rw [← keys_at m c e (head t o) d ⟨t.val % 12 * 256 + j.val, by omega⟩ (by dsimp only [head]; omega)]
  blk_point [iblk, idx1 t]

theorem block2 (c : Dev nD) (t : Fin cfg0.N) (e : Fin 512) (o : Fin 2) (d : Fin 128) (j : Fin 256)
    (hj : j.val = o.val * 128 + d.val) : iblk m c 2 t (ix2 e j)
    = m ((c : Thread nD τ).loc main_arg1) (ix2 e (col (head t o) ⟨128 + d.val, by omega⟩)) := by
  rw [← values_at m c e (head t o) d ⟨t.val % 12 * 256 + j.val, by omega⟩ (by dsimp only [head]; omega)]
  blk_point [iblk, idx2 t]

/-- An entry of the first output's block sits at this entry of the array. -/
theorem emb5 {α : Type} (f : S16384x6144.Idx → α) (t : Fin cfg0.N) (y : S1024x512.Idx) (p : Fin 1024) (j : Fin 6144)
    (hp : p.val = (y 0).val) (hj : j.val = t.val % 12 * 512 + (y 1).val) :
    f ((win0_5.blk t).view.emb y) = f (ix2 (row t p) j) := by
  blk_point [idx5 t, row]

/-- The keys the kernel leaves are the reference's keys. -/
theorem final5 (c : Dev nD) : (dats m 0 c).arrAt 5 cfg0.N
    = refKey (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  have ht : t.val % 12 < 12 := Nat.mod_lt _ (by decide)
  canon_tiles x h
  case piece0 =>
    obtain ⟨p, d, rfl⟩ : ∃ p d, x = ix2 p d := ⟨x 0, x 1, eq_ix2 x⟩
    refine Eq.trans ?_ (emb5 _ t y p ⟨t.val % 12 * 512 + (y 1).val, by omega⟩ h0.symm rfl).symm
    refine Eq.trans ?_ (refKey_rope _ _ _ _ _ (head t 1) d _ (by
      have h1' : (y 1).val = 384 + d.val := h1
      show t.val % 12 * 512 + (y 1).val = (t.val % 12 * 2 + 1) * 256 + 128 + d.val
      omega)).symm
    refine Eq.trans ?_ (block3 m c t p d)
    exact View.ld_unit_apply_of _ _ _ _ _ (ix2 p d) fun a => by fin_cases a <;> exact (Nat.zero_add _).symm
  case piece1 =>
    obtain ⟨p, d, rfl⟩ : ∃ p d, x = ix2 p d := ⟨x 0, x 1, eq_ix2 x⟩
    refine Eq.trans ?_ (emb5 _ t y p ⟨t.val % 12 * 512 + (y 1).val, by omega⟩ h0.symm rfl).symm
    refine Eq.trans ?_ (refKey_nope _ _ _ _ _ (head t 1) d _ (by
      have h1' : (y 1).val = 256 + d.val := h1
      show t.val % 12 * 512 + (y 1).val = (t.val % 12 * 2 + 1) * 256 + d.val
      omega)).symm
    simp (disch := decide) only [View.ld_unit_lit', View.readAt_eq_ld]
    rw [pay1_at, nope, block4]
    simp only [block0, up, fun e f => block1 m c t e 1 f ⟨128 + f.val, by omega⟩ (by simp)]
  case piece2 =>
    obtain ⟨p, d, rfl⟩ : ∃ p d, x = ix2 p d := ⟨x 0, x 1, eq_ix2 x⟩
    refine Eq.trans ?_ (emb5 _ t y p ⟨t.val % 12 * 512 + (y 1).val, by omega⟩ h0.symm rfl).symm
    refine Eq.trans ?_ (refKey_rope _ _ _ _ _ (head t 0) d _ (by
      have h1' : (y 1).val = 128 + d.val := h1
      show t.val % 12 * 512 + (y 1).val = (t.val % 12 * 2 + 0) * 256 + 128 + d.val
      omega)).symm
    refine Eq.trans ?_ (block3 m c t p d)
    exact View.ld_unit_apply_of _ _ _ _ _ (ix2 p d) fun a => by fin_cases a <;> exact (Nat.zero_add _).symm
  case piece3 =>
    obtain ⟨p, d, rfl⟩ : ∃ p d, x = ix2 p d := ⟨x 0, x 1, eq_ix2 x⟩
    refine Eq.trans ?_ (emb5 _ t y p ⟨t.val % 12 * 512 + (y 1).val, by omega⟩ h0.symm rfl).symm
    refine Eq.trans ?_ (refKey_nope _ _ _ _ _ (head t 0) d _ (by
      have h1' : (y 1).val = 0 + d.val := h1.trans (Nat.zero_add _).symm
      show t.val % 12 * 512 + (y 1).val = (t.val % 12 * 2 + 0) * 256 + d.val
      omega)).symm
    simp (disch := decide) only [View.ld_unit_lit', View.readAt_eq_ld]
    rw [pay4_at, nope, block4]
    simp only [block0, up, fun e f => block1 m c t e 0 f ⟨f.val, by omega⟩ (by simp)]

/-- An entry of the second output's block sits at this entry of the array. -/
theorem emb6 {α : Type} (f : S16384x3072.Idx → α) (t : Fin cfg0.N) (p : Fin 1024) (d : Fin 256) (j : Fin 3072)
    (hj : j.val = t.val % 12 * 256 + d.val) :
    f ((win0_6.blk t).view.emb (ix2 p d)) = f (ix2 (row t p) j) := by
  blk_point [idx6 t, row]

/-- The values the kernel leaves are the reference's values. -/
theorem final6 (c : Dev nD) : (dats m 0 c).arrAt 6 cfg0.N
    = refVal (m ((c : Thread nD τ).loc main_arg0)) (m ((c : Thread nD τ).loc main_arg1)) := by
  refine (dats m 0 c).arrAt_eq_of_covers 6 _ (by decide +kernel) fun t hf y => ?_
  blk_simp
  rw [after0_6]
  frame_out
  have ht : t.val % 12 < 12 := Nat.mod_lt _ (by decide)
  obtain ⟨p, d, rfl⟩ : ∃ (p : Fin 1024) (d : Fin 256), y = ix2 p d := ⟨y 0, y 1, eq_ix2 y⟩
  obtain ⟨o, e, he⟩ : ∃ (o : Fin 2) (e : Fin 128), d.val = o.val * 128 + e.val :=
    ⟨⟨d.val / 128, by omega⟩, ⟨d.val % 128, by omega⟩, by dsimp only; omega⟩
  refine Eq.trans ?_ (emb6 _ t p d ⟨t.val % 12 * 256 + d.val, by omega⟩ rfl).symm
  refine Eq.trans ?_ (refVal_at _ _ _ (head t o) e _ (by dsimp only [head]; omega)).symm
  pointwise [k0_pay2]
  simp only [block0, up, fun x => block2 m c t x o e d he]

end Cert.Proof.KvUpValue

end
-- ==== Proof.KvDownValue.lean ====
/-
  THE DOWN-PROJECTION, at the ideal instance: the kernel leaves the normalised latent, and beside it the shared rotary half
  of the keys, normalised, turned by its position's angles and padded — what the plain formula computes.
-/
module

public import proofs.«01_k».proof.Proof.Norm
public import proofs.«01_k».proof.Proof.Rope
public import proofs.«01_k».proof.Proof.Gen.KvDownIdeal.Value
public import proofs.«01_k».proof.Proof.Gen.KvDownRefIdeal.Run
public import Idealize.ShloMosaic.Lib.Pipeline.ValueKit
public import Idealize.ShloMosaic.Lib.Pointwise

@[expose] public section

set_option maxRecDepth 16384

noncomputable section

namespace Cert.Proof.KvDownRef

open Cert.KvDownRefIdeal Cert.KvDownRefIdeal.Gen Idealize.ShloMosaic Cert.Proof.Rope
open scoped BigOperators

/-- The product of the rows and the weights. -/
def refDown (a0 : FVec Ideal S16384x4096 .bf16) (a1 : FVec Ideal S4096x576 .f32) : FVec Ideal S16384x576 .f32 :=
  Host.dotGeneral (F := Ideal) dot_S16384x4096_S4096x576_S16384x576_1_0_0_1_n_n none (extf .f32 a0 bitsLt_bf16_f32) a1

/-- The angle of each position at each frequency. -/
def refAng (a4 : IVec S2x8192 32) : FVec Ideal S16384x32 .f32 :=
  mulf (broadcastInDim S16384x32 ![0, 1] bcast_S16384x1_S16384x32_0_1 (shapeCast S16384x1 (sitofp .f32 a4) shapeCasts_S2x8192_S16384x1)) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The rotary columns, normalised. -/
def refRo (a0 : FVec Ideal S16384x4096 .bf16) (a1 : FVec Ideal S4096x576 .f32) (a3 : FVec Ideal S64 .f32) : FVec Ideal S16384x64 .f32 :=
  mulf (mulf (extractStridedSlice S16384x64 ![0, 512] (refDown a0 a1) slices_S16384x576_S16384x64_0_512) (broadcastInDim S16384x64 ![0, 1] bcast_S16384x1_S16384x64_0_1 (Host.rsqrt (addf (Host.divf (broadcastInDim S16384x1 ![0] bcast_S16384_S16384x1_0 (Host.reduceAdd (mulf (extractStridedSlice S16384x64 ![0, 512] (refDown a0 a1) slices_S16384x576_S16384x64_0_512) (extractStridedSlice S16384x64 ![0, 512] (refDown a0 a1) slices_S16384x576_S16384x64_0_512)) (constant S_ .f32 0x00000000#32) reducesTo_S16384x64_S16384_d1 h_S_)) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 a3))

/-- The reference's latent as one term of its arrays. -/
abbrev refLat (a0 : FVec Ideal S16384x4096 .bf16) (a1 : FVec Ideal S4096x576 .f32) (a2 : FVec Ideal S512 .f32) : FVec Ideal S16384x512 .bf16 :=
  truncf .bf16 (mulf (mulf (extractStridedSlice S16384x512 ![0, 0] (refDown a0 a1) slices_S16384x576_S16384x512_0_0) (broadcastInDim S16384x512 ![0, 1] bcast_S16384x1_S16384x512_0_1 (Host.rsqrt (addf (Host.divf (broadcastInDim S16384x1 ![0] bcast_S16384_S16384x1_0 (Host.reduceAdd (mulf (extractStridedSlice S16384x512 ![0, 0] (refDown a0 a1) slices_S16384x576_S16384x512_0_0) (extractStridedSlice S16384x512 ![0, 0] (refDown a0 a1) slices_S16384x576_S16384x512_0_0)) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 a2))) bitsLt_bf16_f32

/-- The reference's rotary half as one term of its arrays. -/
abbrev refKr (a0 : FVec Ideal S16384x4096 .bf16) (a1 : FVec Ideal S4096x576 .f32) (a3 : FVec Ideal S64 .f32) (a4 : IVec S2x8192 32) : FVec Ideal S16384x128 .bf16 :=
  truncf .bf16 (pad S16384x128 ![0, 0] ![0, 64] ![0, 0] (concatenate S16384x64 1 [⟨S16384x32, (subf (mulf (extractStridedSlice S16384x32 ![0, 0] (refRo a0 a1 a3) slices_S16384x64_S16384x32_0_0) (Host.cos (refAng a4))) (mulf (extractStridedSlice S16384x32 ![0, 32] (refRo a0 a1 a3) slices_S16384x64_S16384x32_0_32) (Host.sin (refAng a4))))⟩, ⟨S16384x32, (addf (mulf (extractStridedSlice S16384x32 ![0, 32] (refRo a0 a1 a3) slices_S16384x64_S16384x32_0_32) (Host.cos (refAng a4))) (mulf (extractStridedSlice S16384x32 ![0, 0] (refRo a0 a1 a3) slices_S16384x64_S16384x32_0_0) (Host.sin (refAng a4))))⟩] concatenates_S16384x32_S16384x32_S16384x64_d1) (sitofp .f32 (constantI S_ 32 0#32)) pads_S16384x64_S16384x128_000_0640 h_S_) bitsLt_bf16_f32

theorem res_eq (m : (ℓ : Loc nD τ sig) → Buf (Elt Ideal) ℓ) (c : Dev nD) :
    Cert.KvDownRefIdeal.Value.res_main_v59 m c = refKr (m ((c.tc : Thread nD τ).loc main_arg0)) (m ((c.tc : Thread nD τ).loc main_arg1))
      (m ((c.tc : Thread nD τ).loc main_arg3)) (m ((c.tc : Thread nD τ).loc main_arg4)) := rfl

theorem refDown_at (a0 : FVec Ideal S16384x4096 .bf16) (a1 : FVec Ideal S4096x576 .f32) (r : Fin 16384) (j : Fin 576) :
    refDown a0 a1 (ix2 r j) = ∑ e : Fin 4096, a0 (ix2 r e) * a1 (ix2 e j) := by
  pointwise [refDown]

/-- An integer zero is a zero. -/
theorem zero_int : (FloatOps.sitofp FTy.f32 0#32 : Ideal .f32) = (0 : EReal) := by
  simp [FloatOps.sitofp]

/-- A row's normalised rotary column. -/
def ro (a0 : FVec Ideal S16384x4096 .bf16) (a1 : FVec Ideal S4096x576 .f32) (a3 : FVec Ideal S64 .f32) (r : Fin 16384) (j : Fin 64) : EReal :=
  (∑ e : Fin 4096, a0 (ix2 r e) * a1 (ix2 e ⟨512 + j.val, by omega⟩))
    * Ideal.rsqrt (Ideal.div (∑ x : Fin 64, (∑ e : Fin 4096, a0 (ix2 r e) * a1 (ix2 e ⟨512 + x.val, by omega⟩))
        * (∑ e : Fin 4096, a0 (ix2 r e) * a1 (ix2 e ⟨512 + x.val, by omega⟩))) (Ideal.ofBits .f32 0x42800000#32)
      + Ideal.ofBits .f32 0x358637BD#32) * a3 (ix1 j)

theorem refRo_at (a0 : FVec Ideal S16384x4096 .bf16) (a1 : FVec Ideal S4096x576 .f32) (a3 : FVec Ideal S64 .f32) (r : Fin 16384) (j : Fin 64) :
    refRo a0 a1 a3 (ix2 r j) = ro a0 a1 a3 r j := by
  pointwise [refRo]
  simp only [refDown_at]
  rfl

/-- The reference's rotary half, entry by entry. -/
theorem refKr_at (a0 : FVec Ideal S16384x4096 .bf16) (a1 : FVec Ideal S4096x576 .f32) (a3 : FVec Ideal S64 .f32) (a4 : IVec S2x8192 32) (r : Fin 16384) (j : Fin 128) :
    refKr a0 a1 a3 a4 (ix2 r j) = turned (ro a0 a1 a3 r) (fun k => Ideal.cos (refAng a4 (ix2 r k)))
      (fun k => Ideal.sin (refAng a4 (ix2 r k))) j := by
  pointwise [refKr]
  simp only [refRo_at, turned, zero_int]
  have e : 32 + (j.val - 32) = j.val ∨ j.val < 32 := by omega
  split_ifs <;> first | rfl | (rcases e with e | e <;> first | (simp only [e]; done) | omega)

end Cert.Proof.KvDownRef

namespace Cert.Proof.KvDownValue

open Cert.KvDownIdeal Cert.KvDownIdeal.Gen Idealize.ShloMosaic Idealize.ShloMosaic.TcCoe Idealize.SL.Sem
open Cert.Proof.Norm Cert.Proof.Rope Cert.Proof.KvDownRef
open scoped BigOperators

variable (m : (ℓ : Loc nD τ sig) → Buf (Elt Ideal) ℓ)

/-- Where each window's block sits at grid point `t`. -/
theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![t.val, 0] :=
  (by decide +kernel : ∀ t : Fin grid0.N, _)
theorem idx5 : ∀ t : Fin cfg0.N, win0_5.index t = ![t.val, 0] :=
  (by decide +kernel : ∀ t : Fin grid0.N, _)
theorem idx6 : ∀ t : Fin cfg0.N, win0_6.index t = ![t.val, 0] :=
  (by decide +kernel : ∀ t : Fin grid0.N, _)
theorem idx7 : ∀ t : Fin cfg0.N, win0_7.index t = ![t.val, 0] :=
  (by decide +kernel : ∀ t : Fin grid0.N, _)

theorem angles (c : Dev nD) : V m c main_v15 = refAng (m ((c : Thread nD τ).loc main_arg4)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The table of cosines as the kernel is given it. -/
theorem cosT (c : Dev nD) : V m c main_v19 = concatenate S16384x128 1
    [⟨S16384x32, Host.cos (refAng (m ((c : Thread nD τ).loc main_arg4)))⟩,
     ⟨S16384x32, Host.cos (refAng (m ((c : Thread nD τ).loc main_arg4)))⟩,
     ⟨S16384x64, broadcastInDim S16384x64 ![] bcast_S_S16384x64 (constant (F := Ideal) S_ .f32 0x00000000#32)⟩]
    concatenates_S16384x32_S16384x32_S16384x64_S16384x128_d1 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The table of sines as the kernel is given it. -/
theorem sinT (c : Dev nD) : V m c main_v23 = concatenate S16384x128 1
    [⟨S16384x32, Host.negf (Host.sin (refAng (m ((c : Thread nD τ).loc main_arg4))))⟩,
     ⟨S16384x32, Host.sin (refAng (m ((c : Thread nD τ).loc main_arg4)))⟩,
     ⟨S16384x64, broadcastInDim S16384x64 ![] bcast_S_S16384x64 (constant (F := Ideal) S_ .f32 0x00000000#32)⟩]
    concatenates_S16384x32_S16384x32_S16384x64_S16384x128_d1 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

/-- The weights with zero columns after them. -/
def padW (a1 : FVec Ideal S4096x576 .f32) : FVec Ideal S4096x640 .bf16 :=
  truncf .bf16 (pad S4096x640 ![0, 0] ![0, 64] ![0, 0] a1 (sitofp .f32 (constantI S_ 32 0#32)) pads_S4096x576_S4096x640_000_0640 h_S_) bitsLt_bf16_f32

/-- The gain with zeros after it. -/
def padG (a3 : FVec Ideal S64 .f32) : FVec Ideal S1x128 .f32 :=
  pad S1x128 ![0, 0] ![0, 64] ![0, 0] (shapeCast S1x64 a3 shapeCasts_S64_S1x64) (sitofp .f32 (constantI S_ 32 0#32)) pads_S1x64_S1x128_000_0640 h_S_

theorem weights (c : Dev nD) : V m c main_v25 = padW (m ((c : Thread nD τ).loc main_arg1)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem gains (c : Dev nD) : V m c main_v27 = padG (m ((c : Thread nD τ).loc main_arg3)) := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem gain (c : Dev nD) : V m c main_v28 = shapeCast S1x512 (m ((c : Thread nD τ).loc main_arg2)) shapeCasts_S512_S1x512 := by
  dsimp only [V, hostOps0, hostOps0_1, hostOps0_2, hostOps0_3, hostOps0_4, List.flatten, List.append]
  simp only [StableHlo.TRef.binary, StableHlo.TRef.unary, StableHlo.TRef.toBuf, StableHlo.TRef.ofBuf, cast_eq]
  after_results
  rfl

theorem padW_at (a1 : FVec Ideal S4096x576 .f32) (e : Fin 4096) (j : Fin 640) :
    padW a1 (ix2 e j) = if h : j.val < 576 then a1 (ix2 e ⟨j.val, h⟩) else 0 := by
  pointwise [padW]
  rw [zero_int]

theorem padG_at (a3 : FVec Ideal S64 .f32) (j : Fin 128) : padG a3 (ix2 0 j) = wide (fun i => a3 (ix1 i)) j := by
  pointwise [padG]
  rw [zero_int]
  rfl

theorem cosT_at (c : Dev nD) (r : Fin 16384) (j : Fin 128) :
    V m c main_v19 (ix2 r j) = cosRow (fun k => Ideal.cos (refAng (m ((c : Thread nD τ).loc main_arg4)) (ix2 r k))) j := by
  rw [cosT]
  pointwise
  rfl

theorem sinT_at (c : Dev nD) (r : Fin 16384) (j : Fin 128) :
    V m c main_v23 (ix2 r j) = sinRow (fun k => Ideal.sin (refAng (m ((c : Thread nD τ).loc main_arg4)) (ix2 r k))) j := by
  rw [sinT]
  pointwise
  rfl

/-- Row `p` of grid point `t`'s blocks is this row of the array. -/
def row (t : Fin cfg0.N) (p : Fin 1024) : Fin 16384 :=
  ⟨t.val * 1024 + p.val, by have : t.val < 16 := t.isLt; omega⟩

theorem block0 (c : Dev nD) (t : Fin cfg0.N) (p : Fin 1024) (e : Fin 4096) : iblk m c 0 t (ix2 p e)
    = m ((c : Thread nD τ).loc main_arg0) (ix2 (row t p) e) := by
  blk_point [iblk, V, idx0 t, row]

theorem block1 (c : Dev nD) (t : Fin cfg0.N) (e : Fin 4096) (j : Fin 640) : iblk m c 1 t (ix2 e j)
    = padW (m ((c : Thread nD τ).loc main_arg1)) (ix2 e j) := by
  rw [← weights]
  blk_point [iblk, idx1 t]

theorem block2 (c : Dev nD) (t : Fin cfg0.N) (j : Fin 512) : iblk m c 2 t (ix2 0 j)
    = m ((c : Thread nD τ).loc main_arg2) (ix1 j) := by
  have h : V m c main_v28 (ix2 0 j) = m ((c : Thread nD τ).loc main_arg2) (ix1 j) := by
    rw [gain]
    pointwise
  rw [← h]
  blk_point [iblk, idx2 t]

theorem block3 (c : Dev nD) (t : Fin cfg0.N) (j : Fin 128) : iblk m c 3 t (ix2 0 j)
    = wide (fun i => m ((c : Thread nD τ).loc main_arg3) (ix1 i)) j := by
  rw [← padG_at, ← gains]
  blk_point [iblk, idx3 t]

theorem block4 (c : Dev nD) (t : Fin cfg0.N) (p : Fin 1024) (j : Fin 128) : iblk m c 4 t (ix2 p j)
    = cosRow (fun k => Ideal.cos (refAng (m ((c : Thread nD τ).loc main_arg4)) (ix2 (row t p) k))) j := by
  rw [← cosT_at]
  blk_point [iblk, idx4 t, row]

theorem block5 (c : Dev nD) (t : Fin cfg0.N) (p : Fin 1024) (j : Fin 128) : iblk m c 5 t (ix2 p j)
    = sinRow (fun k => Ideal.sin (refAng (m ((c : Thread nD τ).loc main_arg4)) (ix2 (row t p) k))) j := by
  rw [← sinT_at]
  blk_point [iblk, idx5 t, row]

/-- A latent column's product with the padded weights is its product with the weights. -/
theorem low (a0 : Fin 4096 → EReal) (a1 : FVec Ideal S4096x576 .f32) (j : Fin 512) :
    (∑ e : Fin 4096, a0 e * padW a1 (ix2 e ⟨j.val, by omega⟩)) = ∑ e : Fin 4096, a0 e * a1 (ix2 e ⟨j.val, by omega⟩) := by
  refine Finset.sum_congr rfl fun e _ => ?_
  rw [padW_at, dif_pos (show j.val < 576 by omega)]

/-- A rotary column's product with the padded weights is its product with the weights, or zero past them. -/
theorem high (a0 : Fin 4096 → EReal) (a1 : FVec Ideal S4096x576 .f32) (j : Fin 128) :
    (∑ e : Fin 4096, a0 e * padW a1 (ix2 e ⟨512 + j.val, by omega⟩))
      = wide (fun i => ∑ e : Fin 4096, a0 e * a1 (ix2 e ⟨512 + i.val, by omega⟩)) j := by
  unfold wide
  split
  · rename_i h
    refine Finset.sum_congr rfl fun e _ => ?_
    rw [padW_at, dif_pos (show 512 + j.val < 576 by omega)]
  · refine Finset.sum_eq_zero fun e _ => ?_
    rw [padW_at, dif_neg (show ¬ 512 + j.val < 576 by omega), mul_zero]

/-- A stored rotary row before it is turned. -/
theorem pay4_at (x0 : Vec Ideal S1024x4096 .bf16) (x1 : Vec Ideal S4096x640 .bf16) (x3 : Vec Ideal S1x128 .f32) (p : Fin 1024) (j : Fin 128) :
    k0_pay4 x0 x1 x3 (ix2 p j) = (∑ e : Fin 4096, x0 (ix2 p e) * x1 (ix2 e ⟨512 + j.val, by omega⟩))
      * Ideal.rsqrt (Ideal.div (∑ x : Fin 128, (∑ e : Fin 4096, x0 (ix2 p e) * x1 (ix2 e ⟨512 + x.val, by omega⟩))
          * (∑ e : Fin 4096, x0 (ix2 p e) * x1 (ix2 e ⟨512 + x.val, by omega⟩))) (Ideal.ofBits .f32 0x42800000#32)
        + Ideal.ofBits .f32 0x358637BD#32) * x3 (ix2 0 j) := by
  pointwise [k0_pay4, k0_pay2]
  rw [mean64]

theorem ro_at (c : Dev nD) (t : Fin cfg0.N) (p : Fin 1024) (j : Fin 128) :
    k0_pay4 (iblk m c 0 t) (iblk m c 1 t) (iblk m c 3 t) (ix2 p j)
      = wide (ro (m ((c : Thread nD τ).loc main_arg0)) (m ((c : Thread nD τ).loc main_arg1)) (m ((c : Thread nD τ).loc main_arg3)) (row t p)) j := by
  rw [pay4_at, block3]
  simp only [block0, block1]
  rw [high (fun e => m ((c : Thread nD τ).loc main_arg0) (ix2 (row t p) e))]
  simp only [fun x => high (fun e => m ((c : Thread nD τ).loc main_arg0) (ix2 (row t p) e)) (m ((c : Thread nD τ).loc main_arg1)) x]
  rw [sum_wide, wide_mul]
  rfl

/-- The latent the kernel leaves is the reference's. -/
theorem final6 (c : Dev nD) : (dats m 0 c).arrAt 6 cfg0.N
    = refLat (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  obtain ⟨p, d, rfl⟩ : ∃ (p : Fin 1024) (d : Fin 512), y = ix2 p d := ⟨y 0, y 1, eq_ix2 y⟩
  pointwise [k0_pay3, k0_pay2, refLat, refDown]
  rw [mean512]
  simp only [block0, block1, block2]
  simp only [fun x => low (fun e => m ((c : Thread nD τ).loc main_arg0) (ix2 (row t p) e)) (m ((c : Thread nD τ).loc main_arg1)) x]
  blk_point [iblk, V, idx2 t, idx6 t, row]

/-- The rotary half the kernel leaves is the reference's. -/
theorem final7 (c : Dev nD) : (dats m 0 c).arrAt 7 cfg0.N
    = refKr (m ((c : Thread nD τ).loc main_arg0)) (m ((c : Thread nD τ).loc main_arg1)) (m ((c : Thread nD τ).loc main_arg3))
        (m ((c : Thread nD τ).loc main_arg4)) := by
  refine (dats m 0 c).arrAt_eq_of_covers 7 _ (by decide +kernel) fun t hf y => ?_
  blk_simp
  rw [after0_7]
  frame_out
  obtain ⟨p, d, rfl⟩ : ∃ (p : Fin 1024) (d : Fin 128), y = ix2 p d := ⟨y 0, y 1, eq_ix2 y⟩
  have e : (win0_7.blk t).view.emb (ix2 p d) = ix2 (row t p) d := by
    blk_point [idx7 t, row]
  rw [e, refKr_at]
  pointwise [k0_pay1, k0_pay5]
  simp only [ro_at, block4, block5]
  exact turn _ _ _ d

end Cert.Proof.KvDownValue

end
-- ==== Proof.MemKvValue.lean ====
/-
  THE MEMORY'S KEYS AND VALUES, at the ideal instance: layer by layer and block by block of columns the kernel leaves the
  product of the normalised memory rows and the layer's weights, normalised once more where the block is a head's keys — what
  the plain formula computes.
-/
module

public import proofs.«01_k».proof.Proof.Norm
public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise

@[expose] public section

set_option maxRecDepth 16384

noncomputable section

namespace Cert.Proof.MemKvRef

open Cert.MemKvRefIdeal Cert.MemKvRefIdeal.Gen Idealize.ShloMosaic
open scoped BigOperators

/-- The normalised memory rows, for each layer. -/
def refHn (a0 : FVec Ideal S512x4096 .f32) (a1 : FVec Ideal S2x4096 .f32) : FVec Ideal S2x512x4096 .f32 :=
  mulf (broadcastInDim S2x512x4096 ![0, 1, 2] bcast_S1x512x4096_S2x512x4096_0_1_2 (mulf (broadcastInDim S1x512x4096 ![1, 2] bcast_S512x4096_S1x512x4096_1_2 a0) (broadcastInDim S1x512x4096 ![0, 1, 2] bcast_S1x512x1_S1x512x4096_0_1_2 (Host.rsqrt (addf (Host.divf (broadcastInDim S1x512x1 ![0, 1] bcast_S1x512_S1x512x1_0_1 (Host.reduceAdd (mulf (broadcastInDim S1x512x4096 ![1, 2] bcast_S512x4096_S1x512x4096_1_2 a0) (broadcastInDim S1x512x4096 ![1, 2] bcast_S512x4096_S1x512x4096_1_2 a0)) (constant S_ .f32 0x00000000#32) reducesTo_S1x512x4096_S1x512_d2 h_S_)) (broadcastInDim S1x512x1 ![] bcast_S_S1x512x1 (constant S_ .f32 0x45800000#32))) (broadcastInDim S1x512x1 ![] bcast_S_S1x512x1 (constant S_ .f32 0x358637BD#32))))))) (broadcastInDim S2x512x4096 ![0, 1, 2] bcast_S2x1x4096_S2x512x4096_0_1_2 (broadcastInDim S2x1x4096 ![0, 2] bcast_S2x4096_S2x1x4096_0_2 a1))

/-- Their product with each layer's weights. -/
def refKv (a0 : FVec Ideal S512x4096 .f32) (a1 : FVec Ideal S2x4096 .f32) (a2 : FVec Ideal S2x4096x2048 .f32) : FVec Ideal S2x512x2048 .f32 :=
  Host.dotGeneral (F := Ideal) dot_S2x512x4096_S2x4096x2048_S2x512x2048_2_1_1_2_0_0 none (refHn a0 a1) a2

/-- The first half of the columns, head by head. -/
def refHeads (a0 : FVec Ideal S512x4096 .f32) (a1 : FVec Ideal S2x4096 .f32) (a2 : FVec Ideal S2x4096x2048 .f32) : FVec Ideal S2x512x4x256 .f32 :=
  shapeCast S2x512x4x256 (extractStridedSlice S2x512x1024 ![0, 0, 0] (refKv a0 a1 a2) slices_S2x512x2048_S2x512x1024_0_0_0) shapeCasts_S2x512x1024_S2x512x4x256

/-- The same normalised: the keys. -/
def refKeys (a0 : FVec Ideal S512x4096 .f32) (a1 : FVec Ideal S2x4096 .f32) (a2 : FVec Ideal S2x4096x2048 .f32) (a3 : FVec Ideal S2x256 .f32) : FVec Ideal S2x512x4x256 .f32 :=
  mulf (mulf (refHeads a0 a1 a2) (broadcastInDim S2x512x4x256 ![0, 1, 2, 3] bcast_S2x512x4x1_S2x512x4x256_0_1_2_3 (Host.rsqrt (addf (Host.divf (broadcastInDim S2x512x4x1 ![0, 1, 2] bcast_S2x512x4_S2x512x4x1_0_1_2 (Host.reduceAdd (mulf (refHeads a0 a1 a2) (refHeads a0 a1 a2)) (constant S_ .f32 0x00000000#32) reducesTo_S2x512x4x256_S2x512x4_d3 h_S_)) (broadcastInDim S2x512x4x1 ![] bcast_S_S2x512x4x1 (constant S_ .f32 0x43800000#32))) (broadcastInDim S2x512x4x1 ![] bcast_S_S2x512x4x1 (constant S_ .f32 0x358637BD#32)))))) (broadcastInDim S2x512x4x256 ![0, 1, 2, 3] bcast_S2x1x1x256_S2x512x4x256_0_1_2_3 (broadcastInDim S2x1x1x256 ![0, 3] bcast_S2x256_S2x1x1x256_0_3 a3))

/-- The reference's result as one term of its arrays. -/
abbrev ref (a0 : FVec Ideal S512x4096 .f32) (a1 : FVec Ideal S2x4096 .f32) (a2 : FVec Ideal S2x4096x2048 .f32) (a3 : FVec Ideal S2x256 .f32) : FVec Ideal S2x512x2048 .bf16 :=
  truncf .bf16 (concatenate S2x512x2048 2 [⟨S2x512x1024, (shapeCast S2x512x1024 (refKeys a0 a1 a2 a3) shapeCasts_S2x512x4x256_S2x512x1024)⟩, ⟨S2x512x1024, (extractStridedSlice S2x512x1024 ![0, 0, 1024] (refKv a0 a1 a2) slices_S2x512x2048_S2x512x1024_0_0_1024)⟩] concatenates_S2x512x1024_S2x512x1024_S2x512x2048_d2) bitsLt_bf16_f32

theorem res_eq (m : (ℓ : Loc nD τ sig) → Buf (Elt Ideal) ℓ) (c : Dev nD) :
    Cert.MemKvRefIdeal.Value.res_main_v34 m c = ref (m ((c.tc : Thread nD τ).loc main_arg0)) (m ((c.tc : Thread nD τ).loc main_arg1))
      (m ((c.tc : Thread nD τ).loc main_arg2)) (m ((c.tc : Thread nD τ).loc main_arg3)) := rfl

/-- An entry of a normalised memory row. -/
def hn (a0 : FVec Ideal S512x4096 .f32) (a1 : FVec Ideal S2x4096 .f32) (l : Fin 2) (p : Fin 512) (e : Fin 4096) : EReal :=
  a0 (ix2 p e) * Ideal.rsqrt (Ideal.div (∑ x : Fin 4096, a0 (ix2 p x) * a0 (ix2 p x)) (Ideal.ofBits .f32 0x45800000#32)
    + Ideal.ofBits .f32 0x358637BD#32) * a1 (ix2 l e)

/-- An entry of the product. -/
def kv (a0 : FVec Ideal S512x4096 .f32) (a1 : FVec Ideal S2x4096 .f32) (a2 : FVec Ideal S2x4096x2048 .f32) (l : Fin 2) (p : Fin 512) (j : Fin 2048) : EReal :=
  ∑ e : Fin 4096, hn a0 a1 l p e * a2 (ix3 l e j)

/-- An entry of a head's keys. -/
def key (a0 : FVec Ideal S512x4096 .f32) (a1 : FVec Ideal S2x4096 .f32) (a2 : FVec Ideal S2x4096x2048 .f32) (a3 : FVec Ideal S2x256 .f32) (l : Fin 2) (p : Fin 512) (h : Fin 4) (d : Fin 256) : EReal :=
  kv a0 a1 a2 l p ⟨h.val * 256 + d.val, by omega⟩ * Ideal.rsqrt (Ideal.div (∑ x : Fin 256,
      kv a0 a1 a2 l p ⟨h.val * 256 + x.val, by omega⟩ * kv a0 a1 a2 l p ⟨h.val * 256 + x.val, by omega⟩)
        (Ideal.ofBits .f32 0x43800000#32) + Ideal.ofBits .f32 0x358637BD#32) * a3 (ix2 l d)

theorem refHn_at (a0 : FVec Ideal S512x4096 .f32) (a1 : FVec Ideal S2x4096 .f32) (l : Fin 2) (p : Fin 512) (e : Fin 4096) : refHn a0 a1 (ix3 l p e) = hn a0 a1 l p e := by
  pointwise [refHn]
  rfl

theorem refKv_at (a0 : FVec Ideal S512x4096 .f32) (a1 : FVec Ideal S2x4096 .f32) (a2 : FVec Ideal S2x4096x2048 .f32) (l : Fin 2) (p : Fin 512) (j : Fin 2048) : refKv a0 a1 a2 (ix3 l p j) = kv a0 a1 a2 l p j := by
  pointwise [refKv]
  simp only [refHn_at]
  rfl

theorem refHeads_at (a0 : FVec Ideal S512x4096 .f32) (a1 : FVec Ideal S2x4096 .f32) (a2 : FVec Ideal S2x4096x2048 .f32) (l : Fin 2) (p : Fin 512) (h : Fin 4) (d : Fin 256) :
    refHeads a0 a1 a2 (ix4 l p h d) = kv a0 a1 a2 l p ⟨h.val * 256 + d.val, by omega⟩ := by
  rw [← refKv_at]
  pointwise [refHeads]

theorem refKeys_at (a0 : FVec Ideal S512x4096 .f32) (a1 : FVec Ideal S2x4096 .f32) (a2 : FVec Ideal S2x4096x2048 .f32) (a3 : FVec Ideal S2x256 .f32) (l : Fin 2) (p : Fin 512) (h : Fin 4) (d : Fin 256) :
    refKeys a0 a1 a2 a3 (ix4 l p h d) = key a0 a1 a2 a3 l p h d := by
  pointwise [refKeys]
  simp only [refHeads_at]
  rfl

/-- The first columns are the keys. -/
theorem ref_keys (a0 : FVec Ideal S512x4096 .f32) (a1 : FVec Ideal S2x4096 .f32) (a2 : FVec Ideal S2x4096x2048 .f32) (a3 : FVec Ideal S2x256 .f32) (l : Fin 2) (p : Fin 512) (h : Fin 4) (d : Fin 256) (j : Fin 2048) (hj : j.val = h.val * 256 + d.val) :
    ref a0 a1 a2 a3 (ix3 l p j) = key a0 a1 a2 a3 l p h d := by
  rw [← refKeys_at]
  pointwise [ref]
  rw [dif_pos (by omega)]
  exact congrArg _ (congrArg₂ (ix4 l p) (Fin.ext (by dsimp only; omega)) (Fin.ext (by dsimp only; omega)))

/-- The rest are the product as it is. -/
theorem ref_values (a0 : FVec Ideal S512x4096 .f32) (a1 : FVec Ideal S2x4096 .f32) (a2 : FVec Ideal S2x4096x2048 .f32) (a3 : FVec Ideal S2x256 .f32) (l : Fin 2) (p : Fin 512) (j : Fin 2048) (hj : 1024 ≤ j.val) :
    ref a0 a1 a2 a3 (ix3 l p j) = kv a0 a1 a2 l p j := by
  rw [← refKv_at]
  pointwise [ref]
  rw [dif_neg (by omega)]
  exact congrArg _ (congrArg (ix3 l p) (Fin.ext (by dsimp only; omega)))

end Cert.Proof.MemKvRef

namespace Cert.Proof.MemKvValue

open Cert.MemKvIdeal Cert.MemKvIdeal.Gen Idealize.ShloMosaic Idealize.ShloMosaic.TcCoe Idealize.SL.Sem
open Cert.Proof.Norm Cert.Proof.MemKvRef
open scoped BigOperators

variable (m : (ℓ : Loc nD τ sig) → Buf (Elt Ideal) ℓ)

/-- Where each window's block sits at grid point `t`. -/
theorem idx0 : ∀ t : Fin cfg0.N, win0_0.index t = ![0, 0] :=
  (by decide +kernel : ∀ t : Fin grid0.N, _)
theorem idx1 : ∀ t : Fin cfg0.N, win0_1.index t = ![t.val / 8, 0, 0] :=
  (by decide +kernel : ∀ t : Fin grid0.N, _)
theorem idx2 : ∀ t : Fin cfg0.N, win0_2.index t = ![t.val / 8, 0, t.val % 8] :=
  (by decide +kernel : ∀ t : Fin grid0.N, _)
theorem idx3 : ∀ t : Fin cfg0.N, win0_3.index t = ![t.val / 8, 0, 0] :=
  (by decide +kernel : ∀ t : Fin grid0.N, _)
theorem idx4 : ∀ t : Fin cfg0.N, win0_4.index t = ![t.val / 8, 0, t.val % 8] :=
  (by decide +kernel : ∀ t : Fin grid0.N, _)
theorem coord : ∀ t : Fin cfg0.N, ((grid0.coords t) 1).val = t.val % 8 :=
  (by decide +kernel : ∀ t : Fin grid0.N, _)

/-- The layer of grid point `t`. -/
def layer (t : Fin cfg0.N) : Fin 2 := ⟨t.val / 8, by have : t.val < 16 := t.isLt; omega⟩

/-- Column `d` of grid point `t`'s block. -/
def col (t : Fin cfg0.N) (d : Fin 256) : Fin 2048 := ⟨t.val % 8 * 256 + d.val, by omega⟩

theorem block0 (c : Dev nD) (t : Fin cfg0.N) (p : Fin 512) (e : Fin 4096) : iblk m c 0 t (ix2 p e)
    = m ((c : Thread nD τ).loc main_arg0) (ix2 p e) := by
  blk_point [iblk, V, idx0 t]

theorem block1 (c : Dev nD) (t : Fin cfg0.N) (e : Fin 4096) : iblk m c 1 t (ix3 0 0 e)
    = m ((c : Thread nD τ).loc main_arg1) (ix2 (layer t) e) := by
  blk_point [iblk, V, idx1 t, layer]

theorem block2 (c : Dev nD) (t : Fin cfg0.N) (e : Fin 4096) (d : Fin 256) : iblk m c 2 t (ix3 0 e d)
    = m ((c : Thread nD τ).loc main_arg2) (ix3 (layer t) e (col t d)) := by
  blk_point [iblk, V, idx2 t, layer, col]

theorem block3 (c : Dev nD) (t : Fin cfg0.N) (e : Fin 256) : iblk m c 3 t (ix3 0 0 e)
    = m ((c : Thread nD τ).loc main_arg3) (ix2 (layer t) e) := by
  blk_point [iblk, V, idx3 t, layer]

/-- The comparison the kernel makes of its second coordinate. -/
theorem below : ∀ v : Fin 8, Scalar.cmpi .slt (BitVec.ofNat 32 v.val) 4#32 = if v.val < 4 then 1#1 else 0#1 := by decide

/-- A row of the block's product. -/
def prod (x0 : Vec Ideal S512x4096 .f32) (x1 : Vec Ideal S1x1x4096 .f32) (x2 : Vec Ideal S1x4096x256 .bf16) (p : Fin 512)
    (d : Fin 256) : EReal :=
  ∑ e : Fin 4096, x0 (ix2 p e) * Ideal.rsqrt (Ideal.div (∑ x : Fin 4096, x0 (ix2 p x) * x0 (ix2 p x)) (Ideal.ofBits .f32 0x45800000#32)
    + Ideal.ofBits .f32 0x358637BD#32) * x1 (ix3 0 0 e) * x2 (ix3 0 e d)

/-- The stored block where its columns are keys. -/
theorem pay_key (i : grid0.Coords) (hi : (i 1).val < 4) (x0 : Vec Ideal S512x4096 .f32) (x1 : Vec Ideal S1x1x4096 .f32)
    (x2 : Vec Ideal S1x4096x256 .bf16) (x3 : Vec Ideal S1x1x256 .f32) (p : Fin 512) (d : Fin 256) :
    k0_pay1 (k0_pay2 i x0 x1 x2 x3) (ix3 0 p d) = prod x0 x1 x2 p d * Ideal.rsqrt (Ideal.div (∑ x : Fin 256,
      prod x0 x1 x2 p x * prod x0 x1 x2 p x) (Ideal.ofBits .f32 0x43800000#32) + Ideal.ofBits .f32 0x358637BD#32) * x3 (ix3 0 0 d) := by
  have h := below (i 1)
  rw [if_pos hi] at h
  pointwise [k0_pay1, k0_pay2]
  rw [h, mean256]
  simp only [mean4096]
  rfl

/-- The stored block where its columns are values. -/
theorem pay_value (i : grid0.Coords) (hi : ¬ (i 1).val < 4) (x0 : Vec Ideal S512x4096 .f32) (x1 : Vec Ideal S1x1x4096 .f32)
    (x2 : Vec Ideal S1x4096x256 .bf16) (x3 : Vec Ideal S1x1x256 .f32) (p : Fin 512) (d : Fin 256) :
    k0_pay1 (k0_pay2 i x0 x1 x2 x3) (ix3 0 p d) = prod x0 x1 x2 p d := by
  have h := below (i 1)
  rw [if_neg hi] at h
  pointwise [k0_pay1, k0_pay2]
  rw [h]
  simp only [mean4096]
  rfl

theorem prod_at (c : Dev nD) (t : Fin cfg0.N) (p : Fin 512) (d : Fin 256) :
    prod (iblk m c 0 t) (iblk m c 1 t) (iblk m c 2 t) p d = kv (m ((c : Thread nD τ).loc main_arg0)) (m ((c : Thread nD τ).loc main_arg1))
      (m ((c : Thread nD τ).loc main_arg2)) (layer t) p (col t d) := by
  simp only [prod, block0, block1, block2]
  rfl

/-- The array the kernel leaves is the reference's term of its arrays. -/
theorem final (c : Dev nD) : (dats m 0 c).arrAt 4 cfg0.N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  obtain ⟨p, d, rfl⟩ : ∃ (p : Fin 512) (d : Fin 256), y = ix3 (0 : Fin 1) p d :=
    ⟨y 1, y 2, (eq_ix3 y).trans (congrArg (fun a : Fin 1 => ix3 a (y 1) (y 2)) (Subsingleton.elim _ _))⟩
  have e : (win0_4.blk t).view.emb (ix3 0 p d) = ix3 (layer t) p (col t d) := by
    blk_point [idx4 t, layer, col]
  rw [e]
  by_cases h : t.val % 8 < 4
  · rw [pay_key _ (by rw [coord]; exact h)]
    simp only [prod_at, block3]
    exact (ref_keys _ _ _ _ (layer t) p ⟨t.val % 8, h⟩ d (col t d) rfl).symm
  · rw [pay_value _ (by rw [coord]; exact h), prod_at]
    exact (ref_values _ _ _ _ (layer t) p (col t d) (by dsimp only [col]; omega)).symm

end Cert.Proof.MemKvValue

end
-- ==== Proof.MemMath.lean ====
/-
  ONE ENTRY OF THE MEMORY ATTENTION, on extended reals and without any program: a normalised query of 256 features, the scores
  against 256 keys, and the values under their softmax. The kernel folds the score's scale into the gain and divides once at the
  end; the plain formula scales the scores and divides every weight.
-/
module

public import proofs.«01_k».proof.Proof.AttentionMath
public import proofs.«01_k».proof.Proof.Norm

@[expose] public section

noncomputable section

namespace Cert.Proof.Mem

open Idealize.ShloMosaic Cert.Proof.Attention Cert.Proof.Norm
open scoped BigOperators

/-- The score's scale, one over the square root of 256. -/
abbrev scale : EReal := Ideal.ofBits .f32 0x3D800000#32

theorem scale_real : ∃ r : ℝ, 0 ≤ r ∧ scale = (r : EReal) := by
  refine ⟨_, ?_, by simp [scale, Ideal.ofBits, Ideal.ieee]; norm_num; rw [← EReal.coe_mul]⟩
  positivity

/-- The small number under the root is a positive real. -/
theorem eps_real : ∃ r : ℝ, 0 < r ∧ Ideal.ofBits .f32 0x358637BD#32 = (r : EReal) := by
  refine ⟨_, ?_, by simp [Ideal.ofBits, Ideal.ieee]; norm_num; rw [← EReal.coe_mul]⟩
  positivity

/-- The factor that normalises a row: one over the root of its mean square. -/
def inv (x : Fin 256 → EReal) : EReal :=
  Ideal.rsqrt (Ideal.div (∑ e : Fin 256, x e * x e) (Ideal.ofBits .f32 0x43800000#32) + Ideal.ofBits .f32 0x358637BD#32)

theorem square_nonneg (x : EReal) : 0 ≤ x * x := by
  induction x using EReal.rec with
  | bot => simp
  | top => simp
  | coe r => exact_mod_cast mul_self_nonneg r

/-- An entry of a normalised row is a real, whatever the row: with an infinite entry the mean square is `⊤` and the factor 0. -/
theorem unit_real (x : Fin 256 → EReal) (d : Fin 256) : ∃ r : ℝ, x d * inv x = (r : EReal) := by
  obtain ⟨ε, hε, he⟩ := eps_real
  have h256 : Ideal.ofBits .f32 0x43800000#32 = ((256 : ℝ) : EReal) := by simp [Ideal.ofBits, Ideal.ieee]; norm_num; rw [← EReal.coe_mul]; norm_num
  have h0 : 0 ≤ ∑ e : Fin 256, x e * x e := Finset.sum_nonneg fun e _ => square_nonneg (x e)
  have hd : x d * x d ≤ ∑ e : Fin 256, x e * x e := Finset.single_le_sum (f := fun e => x e * x e) (fun e _ => square_nonneg (x e)) (Finset.mem_univ d)
  unfold inv
  rw [he, h256, div_real _ _ (by norm_num)]
  generalize ∑ e : Fin 256, x e * x e = s at h0 hd
  induction s using EReal.rec with
  | bot => simp at h0
  | top =>
    refine ⟨0, ?_⟩
    rw [EReal.top_mul_coe_of_pos (by norm_num), EReal.top_add_coe]
    exact mul_zero _
  | coe s =>
    have hs : 0 ≤ s := by exact_mod_cast h0
    have hx : ∃ r : ℝ, x d = (r : EReal) := by
      generalize x d = y at hd
      induction y using EReal.rec with
      | bot => simp at hd
      | top => simp at hd
      | coe r => exact ⟨r, rfl⟩
    obtain ⟨r, hr⟩ := hx
    have hp : 0 < s * (256 : ℝ)⁻¹ + ε := by positivity
    rw [← EReal.coe_mul, ← EReal.coe_add, hr]
    refine ⟨r * (Real.sqrt (s * (256 : ℝ)⁻¹ + ε))⁻¹, ?_⟩
    rw [EReal.coe_mul]
    refine congrArg _ ?_
    show (if _ then _ else if _ then _ else _) = _
    rw [if_neg (not_lt.mpr hp.le), if_neg hp.ne']

/-- The score of a query and a key: the product of the normalised query, times the gain, with the key, scaled. -/
def score (x g k : Fin 256 → EReal) : EReal := (∑ d : Fin 256, x d * inv x * g d * k d) * scale

/-- The kernel's score, with the scale in the gain, is the same. -/
theorem score_folded (x g k : Fin 256 → EReal) : ∑ d : Fin 256, x d * inv x * (g d * scale) * k d = score x g k := by
  obtain ⟨r, h0, hr⟩ := scale_real
  unfold score
  rw [hr, mul_comm, real_mul_sum _ h0]
  exact Finset.sum_congr rfl fun d _ => by rw [mul_comm (g d), mul_left_comm, mul_assoc]

/-- A score under real gains and a real key is a real. -/
theorem score_real (x g k : Fin 256 → EReal) (hg : ∀ d, ∃ r : ℝ, g d = (r : EReal)) (hk : ∀ d, ∃ r : ℝ, k d = (r : EReal)) :
    ∃ r : ℝ, score x g k = (r : EReal) := by
  obtain ⟨σ, -, hσ⟩ := scale_real
  choose a ha using unit_real x
  choose b hb using hg
  choose c hc using hk
  refine ⟨(∑ d, a d * b d * c d) * σ, ?_⟩
  unfold score
  rw [hσ, EReal.coe_mul, coe_sum]
  refine congrArg (· * (σ : EReal)) (Finset.sum_congr rfl fun d _ => ?_)
  rw [ha, hb, hc, ← EReal.coe_mul, ← EReal.coe_mul]

/-- The maximum of a row of scores. -/
def top (s : Fin 256 → EReal) : EReal := Finset.univ.fold max ⊥ s

/-- The values under the softmax of a row of scores. -/
def soft (s w : Fin 256 → EReal) : EReal :=
  ∑ j : Fin 256, Ideal.div (Ideal.exp (s j - top s)) (∑ i : Fin 256, Ideal.exp (s i - top s)) * w j

/-- DIVIDING ONCE IS DIVIDING EVERY WEIGHT, for real scores and any values. -/
theorem soft_eq (s w : Fin 256 → EReal) (hs : ∀ j, ∃ r : ℝ, s j = (r : EReal)) :
    Ideal.div (∑ j : Fin 256, Ideal.exp (s j - top s) * w j) (∑ j : Fin 256, Ideal.exp (s j - top s)) = soft s w := by
  have hT : ∀ j, s j ≠ ⊤ := fun j => by obtain ⟨r, hr⟩ := hs j; rw [hr]; exact EReal.coe_ne_top r
  have hB : ∀ j, s j ≠ ⊥ := fun j => by obtain ⟨r, hr⟩ := hs j; rw [hr]; exact EReal.coe_ne_bot r
  obtain ⟨μ, hμ⟩ := fold_max_real s hT Finset.univ (Finset.mem_univ (0 : Fin 256)) (hB 0)
  have hpos : 0 < ∑ j : Fin 256, wt (s j) μ := Finset.sum_pos (fun j _ => wt_pos μ (hB j)) ⟨0, Finset.mem_univ _⟩
  unfold soft top
  rw [hμ]
  simp only [fun j => exp_sub (s j) μ (hT j)]
  rw [← coe_sum, div_real _ _ hpos.ne', mul_comm, real_mul_sum _ (inv_nonneg.mpr hpos.le)]
  refine Finset.sum_congr rfl fun j _ => ?_
  rw [div_real _ _ hpos.ne', mul_comm ((wt (s j) μ : ℝ) : EReal) ((_ : ℝ) : EReal), mul_assoc]

end Cert.Proof.Mem

end
-- ==== Proof.MemAValue.lean ====
/-
  THE ATTENTION OVER THE MEMORY, first application, at the ideal instance: for each of four heads the kernel normalises a query
  of 256 features, scores it against its batch's 256 memory keys and leaves the memory's values under the softmax of the
  scores — entry by entry what the plain formula computes.
-/
module

public import proofs.«01_k».proof.Proof.MemMath
public import proofs.«01_k».proof.Proof.AttentionValue
public import proofs.«01_k».proof.Proof.Gen.Pre_finite_a
public import proofs.«01_k».proof.Proof.Gen.MemAIdeal.Value
public import proofs.«01_k».proof.Proof.Gen.MemARefIdeal.Run
public import proofs.«01_k».proof.Defs
public import Idealize.ShloMosaic.Lib.Pipeline.ValueKit
public import Idealize.ShloMosaic.Lib.Pointwise
public import Idealize.ShloMosaic.Lib.ReduceAll

@[expose] public section

set_option maxRecDepth 16384

noncomputable section

namespace Cert.Proof.MemARef

open Cert.MemARefIdeal Cert.MemARefIdeal.Gen Idealize.ShloMosaic Cert.Proof.Attention Cert.Proof.Mem
open scoped BigOperators

/-- The queries, one per batch, position and head. -/
def refX (a0 : FVec Ideal S16384x7168 .f32) : FVec Ideal S2x8192x4x256 .f32 :=
  shapeCast S2x8192x4x256 (extractStridedSlice S16384x1024 ![0, 6144] a0 slices_S16384x7168_S16384x1024_0_6144) shapeCasts_S16384x1024_S2x8192x4x256

/-- The queries normalised, times the gain. -/
def refQ (x : FVec Ideal S2x8192x4x256 .f32) (a2 : FVec Ideal S256 .f32) : FVec Ideal S2x8192x4x256 .f32 :=
  mulf (mulf x (broadcastInDim S2x8192x4x256 ![0, 1, 2, 3] bcast_S2x8192x4x1_S2x8192x4x256_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x256_S2x8192x4_d3 h_S_)) (broadcastInDim S2x8192x4x1 ![] bcast_S_S2x8192x4x1 (constant S_ .f32 0x43800000#32))) (broadcastInDim S2x8192x4x1 ![] bcast_S_S2x8192x4x1 (constant S_ .f32 0x358637BD#32)))))) (broadcastInDim S2x8192x4x256 ![0, 1, 2, 3] bcast_S1x1x1x256_S2x8192x4x256_0_1_2_3 (broadcastInDim S1x1x1x256 ![3] bcast_S256_S1x1x1x256_3 a2))

/-- The layer's memory: per batch and memory position, keys then values, four heads each. -/
def refMem (a1 : FVec Ideal S2x512x2048 .bf16) : FVec Ideal S2x256x2x4x256 .f32 :=
  shapeCast S2x256x2x4x256 (extf .f32 (shapeCast S512x2048 (extractStridedSlice S1x512x2048 ![0, 0, 0] a1 slices_S2x512x2048_S1x512x2048_0_0_0) shapeCasts_S1x512x2048_S512x2048) bitsLt_bf16_f32) shapeCasts_S512x2048_S2x256x2x4x256

/-- The memory's keys. -/
def refKey (a1 : FVec Ideal S2x512x2048 .bf16) : FVec Ideal S2x256x4x256 .f32 :=
  shapeCast S2x256x4x256 (extractStridedSlice S2x256x1x4x256 ![0, 0, 0, 0, 0] (refMem a1) slices_S2x256x2x4x256_S2x256x1x4x256_0_0_0_0_0) shapeCasts_S2x256x1x4x256_S2x256x4x256

/-- The memory's values. -/
def refVal (a1 : FVec Ideal S2x512x2048 .bf16) : FVec Ideal S2x256x4x256 .f32 :=
  shapeCast S2x256x4x256 (extractStridedSlice S2x256x1x4x256 ![0, 0, 1, 0, 0] (refMem a1) slices_S2x256x2x4x256_S2x256x1x4x256_0_0_1_0_0) shapeCasts_S2x256x1x4x256_S2x256x4x256

/-- The scaled scores. -/
def refScore (q : FVec Ideal S2x8192x4x256 .f32) (k : FVec Ideal S2x256x4x256 .f32) : FVec Ideal S2x4x8192x256 .f32 :=
  mulf (Host.dotGeneral (F := Ideal) dot_S2x8192x4x256_S2x256x4x256_S2x4x8192x256_3_3_1_1_02_02 none q k) (broadcastInDim S2x4x8192x256 ![] bcast_S_S2x4x8192x256 (constant S_ .f32 0x3D800000#32))

/-- The maximum of each row of scores. -/
def refMax (s : FVec Ideal S2x4x8192x256 .f32) : FVec Ideal S2x4x8192 .f32 :=
  maximumf (broadcastInDim S2x4x8192 ![] bcast_S_S2x4x8192 (constant S_ .f32 0xFF800000#32)) (Host.reduce FloatOps.maximumf s (constant S_ .f32 0xFF800000#32) reducesTo_S2x4x8192x256_S2x4x8192_d3 h_S_)

/-- The exponentials of the scores under the row's maximum. -/
def refExp (s : FVec Ideal S2x4x8192x256 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (refMax s))))

/-- The softmax weights from the exponentials. -/
def refSoft (x : FVec Ideal S2x4x8192x256 .f32) : FVec Ideal S2x4x8192x256 .f32 :=
  Host.divf x (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd x (constant S_ .f32 0x00000000#32) reducesTo_S2x4x8192x256_S2x4x8192_d3 h_S_)))

/-- The values under the weights, back in rows. -/
def refOut (v : FVec Ideal S2x256x4x256 .f32) (p : FVec Ideal S2x4x8192x256 .f32) : FVec Ideal S16384x1024 .bf16 :=
  truncf .bf16 (shapeCast S16384x1024 (transpose S2x8192x4x256 [0, 3, 1, 2] (Host.dotGeneral (F := Ideal) dot_S2x256x4x256_S2x4x8192x256_S2x4x256x8192_1_3_3_2_02_01 none v p) transposes_S2x4x256x8192_S2x8192x4x256_0_3_1_2) shapeCasts_S2x8192x4x256_S16384x1024) bitsLt_bf16_f32

/-- The reference's result as one term of its arrays. -/
abbrev ref (a0 : FVec Ideal S16384x7168 .f32) (a1 : FVec Ideal S2x512x2048 .bf16) (a2 : FVec Ideal S256 .f32) : FVec Ideal S16384x1024 .bf16 :=
  refOut (refVal a1) (refSoft (refExp (refScore (refQ (refX a0) a2) (refKey a1))))

theorem res_eq (m : (ℓ : Loc nD τ sig) → Buf (Elt Ideal) ℓ) (c : Dev nD) :
    Cert.MemARefIdeal.Value.res_main_v40 m c = ref (m ((c.tc : Thread nD τ).loc main_arg0)) (m ((c.tc : Thread nD τ).loc main_arg1))
      (m ((c.tc : Thread nD τ).loc main_arg2)) := rfl

/-- A row of the flat array: a batch and a position. -/
abbrev flat (b : Fin 2) (i : Fin 8192) : Fin 16384 := ⟨b.val * 8192 + i.val, by omega⟩

/-- The query of a row and head. -/
def query (a0 : FVec Ideal S16384x7168 .f32) (r : Fin 16384) (h : Fin 4) (e : Fin 256) : EReal :=
  a0 (ix2 r ⟨6144 + (h.val * 256 + e.val), by omega⟩)

/-- The key of a batch, memory position and head. -/
def key (a1 : FVec Ideal S2x512x2048 .bf16) (b : Fin 2) (h : Fin 4) (j e : Fin 256) : EReal :=
  a1 (ix3 0 ⟨b.val * 256 + j.val, by omega⟩ ⟨h.val * 256 + e.val, by omega⟩)

/-- The value of a batch, memory position and head. -/
def value (a1 : FVec Ideal S2x512x2048 .bf16) (b : Fin 2) (h : Fin 4) (j d : Fin 256) : EReal :=
  a1 (ix3 0 ⟨b.val * 256 + j.val, by omega⟩ ⟨1024 + (h.val * 256 + d.val), by omega⟩)

theorem refX_at (a0 : FVec Ideal S16384x7168 .f32) (b : Fin 2) (i : Fin 8192) (h : Fin 4) (d : Fin 256) :
    refX a0 (ix4 b i h d) = query a0 (flat b i) h d := by
  pointwise [refX]
  rfl

theorem refQ_at (x : FVec Ideal S2x8192x4x256 .f32) (a2 : FVec Ideal S256 .f32) (b : Fin 2) (i : Fin 8192) (h : Fin 4) (d : Fin 256) :
    refQ x a2 (ix4 b i h d) = x (ix4 b i h d) * inv (fun e => x (ix4 b i h e)) * a2 (ix1 d) := by
  pointwise [refQ]
  rfl

theorem refKey_at (a1 : FVec Ideal S2x512x2048 .bf16) (b : Fin 2) (j : Fin 256) (h : Fin 4) (d : Fin 256) :
    refKey a1 (ix4 b j h d) = key a1 b h j d := by
  pointwise [refKey, refMem]
  refine congrArg a1 ?_
  funext a
  match a with
  | ⟨0, _⟩ => rfl
  | ⟨1, _⟩ => rfl
  | ⟨2, _⟩ => rfl

theorem refVal_at (a1 : FVec Ideal S2x512x2048 .bf16) (b : Fin 2) (j : Fin 256) (h : Fin 4) (d : Fin 256) :
    refVal a1 (ix4 b j h d) = value a1 b h j d := by
  pointwise [refVal, refMem]
  refine congrArg a1 ?_
  funext a
  match a with
  | ⟨0, _⟩ => rfl
  | ⟨1, _⟩ => rfl
  | ⟨2, _⟩ => exact Fin.ext (by dsimp; omega)

theorem refScore_at (q : FVec Ideal S2x8192x4x256 .f32) (k : FVec Ideal S2x256x4x256 .f32) (b : Fin 2) (h : Fin 4) (i : Fin 8192) (j : Fin 256) :
    refScore q k (ix4 b h i j) = (∑ e : Fin 256, q (ix4 b i h e) * k (ix4 b j h e)) * scale := by
  pointwise [refScore]

theorem refMax_at (s : FVec Ideal S2x4x8192x256 .f32) (b : Fin 2) (h : Fin 4) (i : Fin 8192) :
    refMax s (ix3 b h i) = top fun j => s (ix4 b h i j) := by
  have e := host_max_last 0xFF800000#32 s bcast_S_S2x4x8192 reducesTo_S2x4x8192x256_S2x4x8192_d3 h_S_ b h i
  rw [neg_inf] at e
  exact e.trans (max_eq_right bot_le)

theorem refExp_at (s : FVec Ideal S2x4x8192x256 .f32) (b : Fin 2) (h : Fin 4) (i : Fin 8192) (j : Fin 256) :
    refExp s (ix4 b h i j) = Ideal.exp (s (ix4 b h i j) - top fun j => s (ix4 b h i j)) := by
  rw [← refMax_at]
  pointwise [refExp]

theorem refSoft_at (x : FVec Ideal S2x4x8192x256 .f32) (b : Fin 2) (h : Fin 4) (i : Fin 8192) (j : Fin 256) :
    refSoft x (ix4 b h i j) = Ideal.div (x (ix4 b h i j)) (∑ k : Fin 256, x (ix4 b h i k)) := by
  pointwise [refSoft]

theorem refOut_at (v : FVec Ideal S2x256x4x256 .f32) (p : FVec Ideal S2x4x8192x256 .f32) (b : Fin 2) (h : Fin 4) (i : Fin 8192) (d : Fin 256)
    (r : Fin 16384) (z : Fin 1024) (hr : r.val = b.val * 8192 + i.val) (hz : z.val = h.val * 256 + d.val) :
    refOut v p (ix2 r z) = ∑ j : Fin 256, p (ix4 b h i j) * v (ix4 b j h d) := by
  have e1 : z.val / 256 = h.val := by omega
  have e2 : z.val % 256 = d.val := by omega
  have e3 : r.val / 8192 = b.val := by omega
  have e4 : r.val % 8192 = i.val := by omega
  pointwise [refOut]
  refine Finset.sum_congr rfl fun j _ => ?_
  rw [mul_comm]
  refine congrArg₂ (· * ·) (congrArg p ?_) (congrArg v ?_)
  · funext a
    match a with
    | ⟨0, _⟩ => exact Fin.ext e3
    | ⟨1, _⟩ => exact Fin.ext e1
    | ⟨2, _⟩ => exact Fin.ext e4
    | ⟨3, _⟩ => rfl
  · funext a
    match a with
    | ⟨0, _⟩ => exact Fin.ext e3
    | ⟨1, _⟩ => rfl
    | ⟨2, _⟩ => exact Fin.ext e1
    | ⟨3, _⟩ => exact Fin.ext e2

/-- THE REFERENCE'S ENTRY: the memory's values under the softmax of the row's scores. -/
theorem ref_at (a0 : FVec Ideal S16384x7168 .f32) (a1 : FVec Ideal S2x512x2048 .bf16) (a2 : FVec Ideal S256 .f32) (b : Fin 2) (h : Fin 4)
    (i : Fin 8192) (d : Fin 256) (r : Fin 16384) (z : Fin 1024) (hr : r.val = b.val * 8192 + i.val) (hz : z.val = h.val * 256 + d.val) :
    ref a0 a1 a2 (ix2 r z) = soft (fun j => score (query a0 r h) (fun e => a2 (ix1 e)) (key a1 b h j)) (fun j => value a1 b h j d) := by
  obtain rfl : r = flat b i := Fin.ext hr
  have hs : ∀ j : Fin 256, refScore (refQ (refX a0) a2) (refKey a1) (ix4 b h i j)
      = score (query a0 (flat b i) h) (fun e => a2 (ix1 e)) (key a1 b h j) := fun j => by
    rw [refScore_at]
    simp only [refQ_at, refX_at, refKey_at]
    rfl
  rw [ref, refOut_at _ _ b h i d _ z hr hz]
  simp only [refSoft_at, refExp_at, hs, refVal_at]
  rfl

end Cert.Proof.MemARef

namespace Cert.Proof.MemAValue

open Cert.MemAIdeal Cert.MemAIdeal.Gen Idealize.ShloMosaic Idealize.ShloMosaic.TcCoe Idealize.SL.Sem
open Cert.Proof.Norm Cert.Proof.Attention Cert.Proof.Mem Cert.Proof.MemARef
open scoped BigOperators

variable (m : (ℓ : Loc nD τ sig) → Buf (Elt Ideal) ℓ)

instance : Subsingleton Cert.Pre_finite_a.S_.Idx := ⟨fun a b => funext fun i => i.elim0⟩

/-- The precondition makes the layer's keys and the gain real. -/
theorem real_of_finite (a0) (a1 : FVec Ideal Cert.Pre_finite_a.S2x512x2048 .bf16) (a2 : FVec Ideal Cert.Pre_finite_a.S256 .f32)
    (h : Cert.Pre_finite_a.fn (F := Ideal) a0 a1 a2 = fun _ => 1#1) :
    (∀ (b : Fin 2) (h : Fin 4) (j e : Fin 256), ∃ r : ℝ, key a1 b h j e = (r : EReal)) ∧ ∀ e : Fin 256, ∃ r : ℝ, a2 (ix1 e) = (r : EReal) := by
  have e := congrFun h (fun a => a.elim0)
  unfold Cert.Pre_finite_a.fn at e
  dsimp only at e
  obtain ⟨e1, e2⟩ := IntOp.andi_eq_one.mp e
  refine ⟨fun b h j d => ?_, fun d => ?_⟩
  · have e3 := Host.reduce_andi_all _ _ _ _ _ e1 (ix2 ⟨b.val * 256 + j.val, by omega⟩ ⟨h.val * 256 + d.val, by omega⟩)
    refine AttentionValue.real_of_abs _ ?_
    rw [← AttentionValue.pos_inf]
    refine Eq.trans ?_ e3
    pointwise
    rfl
  · have e3 := Host.reduce_andi_all _ _ _ _ _ e2 (ix1 d)
    refine AttentionValue.real_of_abs _ ?_
    rw [← AttentionValue.pos_inf]
    exact e3

/-- Where each window's block sits at grid point `t`. -/
theorem idx0 : ∀ t : Fin cfg0.N, win0_0.index t = ![t.val, 6] :=
  (by decide +kernel : ∀ t : Fin grid0.N, _)
theorem idx1 : ∀ t : Fin cfg0.N, win0_1.index t = ![0, t.val / 16, 0] :=
  (by decide +kernel : ∀ t : Fin grid0.N, _)
theorem idx2 : ∀ t : Fin cfg0.N, win0_2.index t = ![0, t.val / 16, 1] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![t.val, 0] :=
  (by decide +kernel : ∀ t : Fin grid0.N, _)

/-- The row of the array that row `p` of grid point `t`'s blocks is. -/
def row (t : Fin cfg0.N) (p : Fin 512) : Fin 16384 :=
  ⟨t.val * 512 + p.val, by have : t.val < 32 := t.isLt; omega⟩

/-- The batch of grid point `t`. -/
def batch (t : Fin cfg0.N) : Fin 2 := ⟨t.val / 16, by have : t.val < 32 := t.isLt; omega⟩

theorem gain (c : Dev nD) : V m c main_v0 = shapeCast S1x256 (m ((c : Thread nD τ).loc main_arg2)) shapeCasts_S256_S1x256 := by
  dsimp only [V, hostOps0]
  after_results
  rfl

theorem block0 (c : Dev nD) (t : Fin cfg0.N) (p : Fin 512) (h : Fin 4) (e : Fin 256) (z : Fin 1024) (hz : z.val = h.val * 256 + e.val) :
    iblk m c 0 t (ix2 p z) = query (m ((c : Thread nD τ).loc main_arg0)) (row t p) h e := by
  have hz' : 6144 + (h.val * 256 + e.val) = 6 * 1024 + z.val := by omega
  unfold query
  simp only [hz']
  blk_point [iblk, V, idx0 t, row]

theorem block1 (c : Dev nD) (t : Fin cfg0.N) (j : Fin 256) (h : Fin 4) (e : Fin 256) (z : Fin 1024) (hz : z.val = h.val * 256 + e.val) :
    iblk m c 1 t (ix3 0 j z) = key (m ((c : Thread nD τ).loc main_arg1)) (batch t) h j e := by
  unfold key
  simp only [← hz]
  blk_point [iblk, V, idx1 t, batch]

theorem block2 (c : Dev nD) (t : Fin cfg0.N) (j : Fin 256) (h : Fin 4) (e : Fin 256) (z : Fin 1024) (hz : z.val = h.val * 256 + e.val) :
    iblk m c 2 t (ix3 0 j z) = value (m ((c : Thread nD τ).loc main_arg1)) (batch t) h j e := by
  have hz' : 1024 + (h.val * 256 + e.val) = 1 * 1024 + z.val := by omega
  unfold MemARef.value
  simp only [hz']
  blk_point [iblk, V, idx2 t, batch]

theorem block3 (c : Dev nD) (t : Fin cfg0.N) (e : Fin 256) : iblk m c 3 t (ix2 0 e) = m ((c : Thread nD τ).loc main_arg2) (ix1 e) := by
  have h : V m c main_v0 (ix2 0 e) = m ((c : Thread nD τ).loc main_arg2) (ix1 e) := by
    rw [gain]
    pointwise
  rw [← h]
  blk_point [iblk, idx3 t]

/-- One head's stored block, at real gains and keys: the values under the softmax of the row's scores. -/
theorem pay_at (x : Vec Ideal S512x256 .f32) (g : Vec Ideal S1x256 .f32) (k v : Vec Ideal S1x256x256 .bf16) (p : Fin 512) (d : Fin 256)
    (hg : ∀ e, ∃ r : ℝ, g (ix2 0 e) = (r : EReal)) (hk : ∀ j e, ∃ r : ℝ, k (ix3 0 j e) = (r : EReal)) :
    k0_pay2 x g k v (ix2 p d) = soft (fun j => score (fun e => x (ix2 p e)) (fun e => g (ix2 0 e)) (fun e => k (ix3 0 j e))) (fun j => v (ix3 0 j d)) := by
  rw [← soft_eq _ _ fun j => score_real _ _ _ hg (hk j)]
  simp only [← score_folded]
  pointwise [k0_pay2]
  rw [mean256, neg_inf]
  rfl

/-- One head's stored block in the windows' blocks. -/
theorem head_at (c : Dev nD) (t : Fin cfg0.N) (h : Fin 4) (x : Vec Ideal S512x256 .f32) (g : Vec Ideal S1x256 .f32) (k v : Vec Ideal S1x256x256 .bf16)
    (hp : Cert.Pre_MemAIdeal_finite_a m)
    (hx : ∀ p e, x (ix2 p e) = iblk m c 0 t (ix2 p ⟨h.val * 256 + e.val, by omega⟩)) (hg : ∀ e, g (ix2 0 e) = iblk m c 3 t (ix2 0 e))
    (hk : ∀ j e, k (ix3 0 j e) = iblk m c 1 t (ix3 0 j ⟨h.val * 256 + e.val, by omega⟩))
    (hv : ∀ j e, v (ix3 0 j e) = iblk m c 2 t (ix3 0 j ⟨h.val * 256 + e.val, by omega⟩)) (p : Fin 512) (d : Fin 256) (z : Fin 1024)
    (hz : z.val = h.val * 256 + d.val) :
    k0_pay2 x g k v (ix2 p d) = ref (m ((c : Thread nD τ).loc main_arg0)) (m ((c : Thread nD τ).loc main_arg1)) (m ((c : Thread nD τ).loc main_arg2))
      (ix2 (row t p) z) := by
  obtain ⟨rk, rg⟩ := real_of_finite _ _ _ (hp c)
  have ht : t.val < 32 := t.isLt
  have hx' : ∀ p e, x (ix2 p e) = query (m ((c : Thread nD τ).loc main_arg0)) (row t p) h e := fun p e => (hx p e).trans (block0 m c t p h e _ rfl)
  have hg' : ∀ e, g (ix2 0 e) = m ((c : Thread nD τ).loc main_arg2) (ix1 e) := fun e => (hg e).trans (block3 m c t e)
  have hk' : ∀ j e, k (ix3 0 j e) = key (m ((c : Thread nD τ).loc main_arg1)) (batch t) h j e := fun j e => (hk j e).trans (block1 m c t j h e _ rfl)
  have hv' : ∀ j e, v (ix3 0 j e) = value (m ((c : Thread nD τ).loc main_arg1)) (batch t) h j e := fun j e => (hv j e).trans (block2 m c t j h e _ rfl)
  rw [pay_at x g k v p d (fun e => by rw [hg']; exact rg e) (fun j e => by rw [hk']; exact rk _ _ _ _),
    ref_at _ _ _ (batch t) h ⟨t.val % 16 * 512 + p.val, by omega⟩ d (row t p) z (by dsimp only [row, batch]; omega) hz]
  simp only [hx', hg', hk', hv']

/-- A head's columns of the query block, loaded. -/
theorem ldQ (x : Vec Ideal S512x1024 .f32) (o : Nat) (inb) (p : Fin 512) (e : Fin 256) (z : Fin 1024) (hz : z.val = o + e.val) :
    View.ld x (Rect.unit (s := S512x1024) ![0, o] S512x256.size inb) (ix2 p e) = x (ix2 p z) :=
  View.ld_unit_apply_of x _ _ inb (ix2 p e) (ix2 p z) fun a => by
    match a with
    | ⟨0, _⟩ => exact (Nat.zero_add _).symm
    | ⟨1, _⟩ => exact hz

/-- A head's columns of a memory block, loaded. -/
theorem ldM (x : Vec Ideal S1x256x1024 .bf16) (o : Nat) (inb) (j e : Fin 256) (z : Fin 1024) (hz : z.val = o + e.val) :
    View.ld x (Rect.unit (s := S1x256x1024) ![0, 0, o] S1x256x256.size inb) (ix3 0 j e) = x (ix3 0 j z) :=
  View.ld_unit_apply_of x _ _ inb (ix3 0 j e) (ix3 0 j z) fun a => by
    match a with
    | ⟨0, _⟩ => rfl
    | ⟨1, _⟩ => exact (Nat.zero_add _).symm
    | ⟨2, _⟩ => exact hz

/-- The gain, loaded. -/
theorem ldG (x : Vec Ideal S1x256 .f32) (inb) (e : Fin 256) :
    View.ld x (Rect.unit (s := S1x256) ![0, 0] S1x256.size inb) (ix2 0 e) = x (ix2 0 e) :=
  View.ld_unit_apply_of x _ _ inb (ix2 0 e) (ix2 0 e) fun a => by
    match a with
    | ⟨0, _⟩ => rfl
    | ⟨1, _⟩ => exact (Nat.zero_add _).symm

/-- An entry of the output's block sits at this entry of the array. -/
theorem emb4 {α : Type} (f : S16384x1024.Idx → α) (t : Fin cfg0.N) (y : S512x1024.Idx) (p : Fin 512) (j : Fin 1024)
    (hp : p.val = (y 0).val) (hj : j.val = (y 1).val) :
    f ((win0_4.blk t).view.emb y) = f (ix2 (row t p) j) := by
  blk_point [idx4 t, row]

/-- The array the kernel leaves is the reference's term of the argument arrays. -/
theorem final (c : Dev nD) (hpre : Cert.Pre_MemAIdeal_finite_a m) : (dats m 0 c).arrAt 4 cfg0.N
    = ref (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  canon_tiles x h
  case piece0 =>
    obtain ⟨p, d, rfl⟩ : ∃ p d, x = ix2 p d := ⟨x 0, x 1, eq_ix2 x⟩
    have h1' : (y 1).val = 768 + d.val := h1
    refine Eq.trans ?_ (emb4 _ t y p ⟨(y 1).val, (y 1).isLt⟩ h0.symm rfl).symm
    exact head_at m c t 3 _ _ _ _ hpre (fun p e => ldQ _ 768 _ p e _ rfl) (fun e => ldG _ _ e)
      (fun j e => ldM _ 768 _ j e _ rfl) (fun j e => ldM _ 768 _ j e _ rfl)
      p d _ h1'
  case piece1 =>
    obtain ⟨p, d, rfl⟩ : ∃ p d, x = ix2 p d := ⟨x 0, x 1, eq_ix2 x⟩
    have h1' : (y 1).val = 512 + d.val := h1
    refine Eq.trans ?_ (emb4 _ t y p ⟨(y 1).val, (y 1).isLt⟩ h0.symm rfl).symm
    exact head_at m c t 2 _ _ _ _ hpre (fun p e => ldQ _ 512 _ p e _ rfl) (fun e => ldG _ _ e)
      (fun j e => ldM _ 512 _ j e _ rfl) (fun j e => ldM _ 512 _ j e _ rfl)
      p d _ h1'
  case piece2 =>
    obtain ⟨p, d, rfl⟩ : ∃ p d, x = ix2 p d := ⟨x 0, x 1, eq_ix2 x⟩
    have h1' : (y 1).val = 256 + d.val := h1
    refine Eq.trans ?_ (emb4 _ t y p ⟨(y 1).val, (y 1).isLt⟩ h0.symm rfl).symm
    exact head_at m c t 1 _ _ _ _ hpre (fun p e => ldQ _ 256 _ p e _ rfl) (fun e => ldG _ _ e)
      (fun j e => ldM _ 256 _ j e _ rfl) (fun j e => ldM _ 256 _ j e _ rfl)
      p d _ h1'
  case piece3 =>
    obtain ⟨p, d, rfl⟩ : ∃ p d, x = ix2 p d := ⟨x 0, x 1, eq_ix2 x⟩
    have h1' : (y 1).val = 0 + d.val := h1.trans (Nat.zero_add _).symm
    refine Eq.trans ?_ (emb4 _ t y p ⟨(y 1).val, (y 1).isLt⟩ h0.symm rfl).symm
    exact head_at m c t 0 _ _ _ _ hpre (fun p e => ldQ _ 0 _ p e _ rfl) (fun e => ldG _ _ e)
      (fun j e => ldM _ 0 _ j e _ rfl) (fun j e => ldM _ 0 _ j e _ rfl)
      p d _ h1'

end Cert.Proof.MemAValue

end
-- ==== Proof.MemBValue.lean ====
/-
  THE ATTENTION OVER THE MEMORY, second application, at the ideal instance: for each of four heads the kernel normalises a query
  of 256 features, scores it against its batch's 256 memory keys and leaves the memory's values under the softmax of the
  scores — entry by entry what the plain formula computes.
-/
module

public import proofs.«01_k».proof.Proof.MemMath
public import proofs.«01_k».proof.Proof.AttentionValue
public import proofs.«01_k».proof.Proof.Gen.Pre_finite_b
public import proofs.«01_k».proof.Proof.Gen.MemBIdeal.Value
public import proofs.«01_k».proof.Proof.Gen.MemBRefIdeal.Run
public import proofs.«01_k».proof.Defs
public import Idealize.ShloMosaic.Lib.Pipeline.ValueKit
public import Idealize.ShloMosaic.Lib.Pointwise
public import Idealize.ShloMosaic.Lib.ReduceAll

@[expose] public section

set_option maxRecDepth 16384

noncomputable section

namespace Cert.Proof.MemBRef

open Cert.MemBRefIdeal Cert.MemBRefIdeal.Gen Idealize.ShloMosaic Cert.Proof.Attention Cert.Proof.Mem
open scoped BigOperators

/-- The queries, one per batch, position and head. -/
def refX (a0 : FVec Ideal S16384x2048 .f32) : FVec Ideal S2x8192x4x256 .f32 :=
  shapeCast S2x8192x4x256 (extractStridedSlice S16384x1024 ![0, 1024] a0 slices_S16384x2048_S16384x1024_0_1024) shapeCasts_S16384x1024_S2x8192x4x256

/-- The queries normalised, times the gain. -/
def refQ (x : FVec Ideal S2x8192x4x256 .f32) (a2 : FVec Ideal S256 .f32) : FVec Ideal S2x8192x4x256 .f32 :=
  mulf (mulf x (broadcastInDim S2x8192x4x256 ![0, 1, 2, 3] bcast_S2x8192x4x1_S2x8192x4x256_0_1_2_3 (Host.rsqrt (addf (Host.divf (broadcastInDim S2x8192x4x1 ![0, 1, 2] bcast_S2x8192x4_S2x8192x4x1_0_1_2 (Host.reduceAdd (mulf x x) (constant S_ .f32 0x00000000#32) reducesTo_S2x8192x4x256_S2x8192x4_d3 h_S_)) (broadcastInDim S2x8192x4x1 ![] bcast_S_S2x8192x4x1 (constant S_ .f32 0x43800000#32))) (broadcastInDim S2x8192x4x1 ![] bcast_S_S2x8192x4x1 (constant S_ .f32 0x358637BD#32)))))) (broadcastInDim S2x8192x4x256 ![0, 1, 2, 3] bcast_S1x1x1x256_S2x8192x4x256_0_1_2_3 (broadcastInDim S1x1x1x256 ![3] bcast_S256_S1x1x1x256_3 a2))

/-- The layer's memory: per batch and memory position, keys then values, four heads each. -/
def refMem (a1 : FVec Ideal S2x512x2048 .bf16) : FVec Ideal S2x256x2x4x256 .f32 :=
  shapeCast S2x256x2x4x256 (extf .f32 (shapeCast S512x2048 (extractStridedSlice S1x512x2048 ![1, 0, 0] a1 slices_S2x512x2048_S1x512x2048_1_0_0) shapeCasts_S1x512x2048_S512x2048) bitsLt_bf16_f32) shapeCasts_S512x2048_S2x256x2x4x256

/-- The memory's keys. -/
def refKey (a1 : FVec Ideal S2x512x2048 .bf16) : FVec Ideal S2x256x4x256 .f32 :=
  shapeCast S2x256x4x256 (extractStridedSlice S2x256x1x4x256 ![0, 0, 0, 0, 0] (refMem a1) slices_S2x256x2x4x256_S2x256x1x4x256_0_0_0_0_0) shapeCasts_S2x256x1x4x256_S2x256x4x256

/-- The memory's values. -/
def refVal (a1 : FVec Ideal S2x512x2048 .bf16) : FVec Ideal S2x256x4x256 .f32 :=
  shapeCast S2x256x4x256 (extractStridedSlice S2x256x1x4x256 ![0, 0, 1, 0, 0] (refMem a1) slices_S2x256x2x4x256_S2x256x1x4x256_0_0_1_0_0) shapeCasts_S2x256x1x4x256_S2x256x4x256

/-- The scaled scores. -/
def refScore (q : FVec Ideal S2x8192x4x256 .f32) (k : FVec Ideal S2x256x4x256 .f32) : FVec Ideal S2x4x8192x256 .f32 :=
  mulf (Host.dotGeneral (F := Ideal) dot_S2x8192x4x256_S2x256x4x256_S2x4x8192x256_3_3_1_1_02_02 none q k) (broadcastInDim S2x4x8192x256 ![] bcast_S_S2x4x8192x256 (constant S_ .f32 0x3D800000#32))

/-- The maximum of each row of scores. -/
def refMax (s : FVec Ideal S2x4x8192x256 .f32) : FVec Ideal S2x4x8192 .f32 :=
  maximumf (broadcastInDim S2x4x8192 ![] bcast_S_S2x4x8192 (constant S_ .f32 0xFF800000#32)) (Host.reduce FloatOps.maximumf s (constant S_ .f32 0xFF800000#32) reducesTo_S2x4x8192x256_S2x4x8192_d3 h_S_)

/-- The exponentials of the scores under the row's maximum. -/
def refExp (s : FVec Ideal S2x4x8192x256 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (refMax s))))

/-- The softmax weights from the exponentials. -/
def refSoft (x : FVec Ideal S2x4x8192x256 .f32) : FVec Ideal S2x4x8192x256 .f32 :=
  Host.divf x (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd x (constant S_ .f32 0x00000000#32) reducesTo_S2x4x8192x256_S2x4x8192_d3 h_S_)))

/-- The values under the weights, back in rows. -/
def refOut (v : FVec Ideal S2x256x4x256 .f32) (p : FVec Ideal S2x4x8192x256 .f32) : FVec Ideal S16384x1024 .bf16 :=
  truncf .bf16 (shapeCast S16384x1024 (transpose S2x8192x4x256 [0, 3, 1, 2] (Host.dotGeneral (F := Ideal) dot_S2x256x4x256_S2x4x8192x256_S2x4x256x8192_1_3_3_2_02_01 none v p) transposes_S2x4x256x8192_S2x8192x4x256_0_3_1_2) shapeCasts_S2x8192x4x256_S16384x1024) bitsLt_bf16_f32

/-- The reference's result as one term of its arrays. -/
abbrev ref (a0 : FVec Ideal S16384x2048 .f32) (a1 : FVec Ideal S2x512x2048 .bf16) (a2 : FVec Ideal S256 .f32) : FVec Ideal S16384x1024 .bf16 :=
  refOut (refVal a1) (refSoft (refExp (refScore (refQ (refX a0) a2) (refKey a1))))

theorem res_eq (m : (ℓ : Loc nD τ sig) → Buf (Elt Ideal) ℓ) (c : Dev nD) :
    Cert.MemBRefIdeal.Value.res_main_v40 m c = ref (m ((c.tc : Thread nD τ).loc main_arg0)) (m ((c.tc : Thread nD τ).loc main_arg1))
      (m ((c.tc : Thread nD τ).loc main_arg2)) := rfl

/-- A row of the flat array: a batch and a position. -/
abbrev flat (b : Fin 2) (i : Fin 8192) : Fin 16384 := ⟨b.val * 8192 + i.val, by omega⟩

/-- The query of a row and head. -/
def query (a0 : FVec Ideal S16384x2048 .f32) (r : Fin 16384) (h : Fin 4) (e : Fin 256) : EReal :=
  a0 (ix2 r ⟨1024 + (h.val * 256 + e.val), by omega⟩)

/-- The key of a batch, memory position and head. -/
def key (a1 : FVec Ideal S2x512x2048 .bf16) (b : Fin 2) (h : Fin 4) (j e : Fin 256) : EReal :=
  a1 (ix3 1 ⟨b.val * 256 + j.val, by omega⟩ ⟨h.val * 256 + e.val, by omega⟩)

/-- The value of a batch, memory position and head. -/
def value (a1 : FVec Ideal S2x512x2048 .bf16) (b : Fin 2) (h : Fin 4) (j d : Fin 256) : EReal :=
  a1 (ix3 1 ⟨b.val * 256 + j.val, by omega⟩ ⟨1024 + (h.val * 256 + d.val), by omega⟩)

theorem refX_at (a0 : FVec Ideal S16384x2048 .f32) (b : Fin 2) (i : Fin 8192) (h : Fin 4) (d : Fin 256) :
    refX a0 (ix4 b i h d) = query a0 (flat b i) h d := by
  pointwise [refX]
  rfl

theorem refQ_at (x : FVec Ideal S2x8192x4x256 .f32) (a2 : FVec Ideal S256 .f32) (b : Fin 2) (i : Fin 8192) (h : Fin 4) (d : Fin 256) :
    refQ x a2 (ix4 b i h d) = x (ix4 b i h d) * inv (fun e => x (ix4 b i h e)) * a2 (ix1 d) := by
  pointwise [refQ]
  rfl

theorem refKey_at (a1 : FVec Ideal S2x512x2048 .bf16) (b : Fin 2) (j : Fin 256) (h : Fin 4) (d : Fin 256) :
    refKey a1 (ix4 b j h d) = key a1 b h j d := by
  pointwise [refKey, refMem]
  refine congrArg a1 ?_
  funext a
  match a with
  | ⟨0, _⟩ => rfl
  | ⟨1, _⟩ => rfl
  | ⟨2, _⟩ => rfl

theorem refVal_at (a1 : FVec Ideal S2x512x2048 .bf16) (b : Fin 2) (j : Fin 256) (h : Fin 4) (d : Fin 256) :
    refVal a1 (ix4 b j h d) = value a1 b h j d := by
  pointwise [refVal, refMem]
  refine congrArg a1 ?_
  funext a
  match a with
  | ⟨0, _⟩ => rfl
  | ⟨1, _⟩ => rfl
  | ⟨2, _⟩ => exact Fin.ext (by dsimp; omega)

theorem refScore_at (q : FVec Ideal S2x8192x4x256 .f32) (k : FVec Ideal S2x256x4x256 .f32) (b : Fin 2) (h : Fin 4) (i : Fin 8192) (j : Fin 256) :
    refScore q k (ix4 b h i j) = (∑ e : Fin 256, q (ix4 b i h e) * k (ix4 b j h e)) * scale := by
  pointwise [refScore]

theorem refMax_at (s : FVec Ideal S2x4x8192x256 .f32) (b : Fin 2) (h : Fin 4) (i : Fin 8192) :
    refMax s (ix3 b h i) = top fun j => s (ix4 b h i j) := by
  have e := host_max_last 0xFF800000#32 s bcast_S_S2x4x8192 reducesTo_S2x4x8192x256_S2x4x8192_d3 h_S_ b h i
  rw [neg_inf] at e
  exact e.trans (max_eq_right bot_le)

theorem refExp_at (s : FVec Ideal S2x4x8192x256 .f32) (b : Fin 2) (h : Fin 4) (i : Fin 8192) (j : Fin 256) :
    refExp s (ix4 b h i j) = Ideal.exp (s (ix4 b h i j) - top fun j => s (ix4 b h i j)) := by
  rw [← refMax_at]
  pointwise [refExp]

theorem refSoft_at (x : FVec Ideal S2x4x8192x256 .f32) (b : Fin 2) (h : Fin 4) (i : Fin 8192) (j : Fin 256) :
    refSoft x (ix4 b h i j) = Ideal.div (x (ix4 b h i j)) (∑ k : Fin 256, x (ix4 b h i k)) := by
  pointwise [refSoft]

theorem refOut_at (v : FVec Ideal S2x256x4x256 .f32) (p : FVec Ideal S2x4x8192x256 .f32) (b : Fin 2) (h : Fin 4) (i : Fin 8192) (d : Fin 256)
    (r : Fin 16384) (z : Fin 1024) (hr : r.val = b.val * 8192 + i.val) (hz : z.val = h.val * 256 + d.val) :
    refOut v p (ix2 r z) = ∑ j : Fin 256, p (ix4 b h i j) * v (ix4 b j h d) := by
  have e1 : z.val / 256 = h.val := by omega
  have e2 : z.val % 256 = d.val := by omega
  have e3 : r.val / 8192 = b.val := by omega
  have e4 : r.val % 8192 = i.val := by omega
  pointwise [refOut]
  refine Finset.sum_congr rfl fun j _ => ?_
  rw [mul_comm]
  refine congrArg₂ (· * ·) (congrArg p ?_) (congrArg v ?_)
  · funext a
    match a with
    | ⟨0, _⟩ => exact Fin.ext e3
    | ⟨1, _⟩ => exact Fin.ext e1
    | ⟨2, _⟩ => exact Fin.ext e4
    | ⟨3, _⟩ => rfl
  · funext a
    match a with
    | ⟨0, _⟩ => exact Fin.ext e3
    | ⟨1, _⟩ => rfl
    | ⟨2, _⟩ => exact Fin.ext e1
    | ⟨3, _⟩ => exact Fin.ext e2

/-- THE REFERENCE'S ENTRY: the memory's values under the softmax of the row's scores. -/
theorem ref_at (a0 : FVec Ideal S16384x2048 .f32) (a1 : FVec Ideal S2x512x2048 .bf16) (a2 : FVec Ideal S256 .f32) (b : Fin 2) (h : Fin 4)
    (i : Fin 8192) (d : Fin 256) (r : Fin 16384) (z : Fin 1024) (hr : r.val = b.val * 8192 + i.val) (hz : z.val = h.val * 256 + d.val) :
    ref a0 a1 a2 (ix2 r z) = soft (fun j => score (query a0 r h) (fun e => a2 (ix1 e)) (key a1 b h j)) (fun j => value a1 b h j d) := by
  obtain rfl : r = flat b i := Fin.ext hr
  have hs : ∀ j : Fin 256, refScore (refQ (refX a0) a2) (refKey a1) (ix4 b h i j)
      = score (query a0 (flat b i) h) (fun e => a2 (ix1 e)) (key a1 b h j) := fun j => by
    rw [refScore_at]
    simp only [refQ_at, refX_at, refKey_at]
    rfl
  rw [ref, refOut_at _ _ b h i d _ z hr hz]
  simp only [refSoft_at, refExp_at, hs, refVal_at]
  rfl

end Cert.Proof.MemBRef

namespace Cert.Proof.MemBValue

open Cert.MemBIdeal Cert.MemBIdeal.Gen Idealize.ShloMosaic Idealize.ShloMosaic.TcCoe Idealize.SL.Sem
open Cert.Proof.Norm Cert.Proof.Attention Cert.Proof.Mem Cert.Proof.MemBRef
open scoped BigOperators

variable (m : (ℓ : Loc nD τ sig) → Buf (Elt Ideal) ℓ)

instance : Subsingleton Cert.Pre_finite_b.S_.Idx := ⟨fun a b => funext fun i => i.elim0⟩

/-- The precondition makes the layer's keys and the gain real. -/
theorem real_of_finite (a0) (a1 : FVec Ideal Cert.Pre_finite_b.S2x512x2048 .bf16) (a2 : FVec Ideal Cert.Pre_finite_b.S256 .f32)
    (h : Cert.Pre_finite_b.fn (F := Ideal) a0 a1 a2 = fun _ => 1#1) :
    (∀ (b : Fin 2) (h : Fin 4) (j e : Fin 256), ∃ r : ℝ, key a1 b h j e = (r : EReal)) ∧ ∀ e : Fin 256, ∃ r : ℝ, a2 (ix1 e) = (r : EReal) := by
  have e := congrFun h (fun a => a.elim0)
  unfold Cert.Pre_finite_b.fn at e
  dsimp only at e
  obtain ⟨e1, e2⟩ := IntOp.andi_eq_one.mp e
  refine ⟨fun b h j d => ?_, fun d => ?_⟩
  · have e3 := Host.reduce_andi_all _ _ _ _ _ e1 (ix2 ⟨b.val * 256 + j.val, by omega⟩ ⟨h.val * 256 + d.val, by omega⟩)
    refine AttentionValue.real_of_abs _ ?_
    rw [← AttentionValue.pos_inf]
    refine Eq.trans ?_ e3
    pointwise
    rfl
  · have e3 := Host.reduce_andi_all _ _ _ _ _ e2 (ix1 d)
    refine AttentionValue.real_of_abs _ ?_
    rw [← AttentionValue.pos_inf]
    exact e3

/-- Where each window's block sits at grid point `t`. -/
theorem idx0 : ∀ t : Fin cfg0.N, win0_0.index t = ![t.val, 1] :=
  (by decide +kernel : ∀ t : Fin grid0.N, _)
theorem idx1 : ∀ t : Fin cfg0.N, win0_1.index t = ![1, t.val / 16, 0] :=
  (by decide +kernel : ∀ t : Fin grid0.N, _)
theorem idx2 : ∀ t : Fin cfg0.N, win0_2.index t = ![1, t.val / 16, 1] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![t.val, 0] :=
  (by decide +kernel : ∀ t : Fin grid0.N, _)

/-- The row of the array that row `p` of grid point `t`'s blocks is. -/
def row (t : Fin cfg0.N) (p : Fin 512) : Fin 16384 :=
  ⟨t.val * 512 + p.val, by have : t.val < 32 := t.isLt; omega⟩

/-- The batch of grid point `t`. -/
def batch (t : Fin cfg0.N) : Fin 2 := ⟨t.val / 16, by have : t.val < 32 := t.isLt; omega⟩

theorem gain (c : Dev nD) : V m c main_v0 = shapeCast S1x256 (m ((c : Thread nD τ).loc main_arg2)) shapeCasts_S256_S1x256 := by
  dsimp only [V, hostOps0]
  after_results
  rfl

theorem block0 (c : Dev nD) (t : Fin cfg0.N) (p : Fin 512) (h : Fin 4) (e : Fin 256) (z : Fin 1024) (hz : z.val = h.val * 256 + e.val) :
    iblk m c 0 t (ix2 p z) = query (m ((c : Thread nD τ).loc main_arg0)) (row t p) h e := by
  have hz' : 1024 + (h.val * 256 + e.val) = 1 * 1024 + z.val := by omega
  unfold query
  simp only [hz']
  blk_point [iblk, V, idx0 t, row]

theorem block1 (c : Dev nD) (t : Fin cfg0.N) (j : Fin 256) (h : Fin 4) (e : Fin 256) (z : Fin 1024) (hz : z.val = h.val * 256 + e.val) :
    iblk m c 1 t (ix3 0 j z) = key (m ((c : Thread nD τ).loc main_arg1)) (batch t) h j e := by
  unfold key
  simp only [← hz]
  blk_point [iblk, V, idx1 t, batch]

theorem block2 (c : Dev nD) (t : Fin cfg0.N) (j : Fin 256) (h : Fin 4) (e : Fin 256) (z : Fin 1024) (hz : z.val = h.val * 256 + e.val) :
    iblk m c 2 t (ix3 0 j z) = value (m ((c : Thread nD τ).loc main_arg1)) (batch t) h j e := by
  have hz' : 1024 + (h.val * 256 + e.val) = 1 * 1024 + z.val := by omega
  unfold MemBRef.value
  simp only [hz']
  blk_point [iblk, V, idx2 t, batch]

theorem block3 (c : Dev nD) (t : Fin cfg0.N) (e : Fin 256) : iblk m c 3 t (ix2 0 e) = m ((c : Thread nD τ).loc main_arg2) (ix1 e) := by
  have h : V m c main_v0 (ix2 0 e) = m ((c : Thread nD τ).loc main_arg2) (ix1 e) := by
    rw [gain]
    pointwise
  rw [← h]
  blk_point [iblk, idx3 t]

/-- One head's stored block, at real gains and keys: the values under the softmax of the row's scores. -/
theorem pay_at (x : Vec Ideal S512x256 .f32) (g : Vec Ideal S1x256 .f32) (k v : Vec Ideal S1x256x256 .bf16) (p : Fin 512) (d : Fin 256)
    (hg : ∀ e, ∃ r : ℝ, g (ix2 0 e) = (r : EReal)) (hk : ∀ j e, ∃ r : ℝ, k (ix3 0 j e) = (r : EReal)) :
    k0_pay2 x g k v (ix2 p d) = soft (fun j => score (fun e => x (ix2 p e)) (fun e => g (ix2 0 e)) (fun e => k (ix3 0 j e))) (fun j => v (ix3 0 j d)) := by
  rw [← soft_eq _ _ fun j => score_real _ _ _ hg (hk j)]
  simp only [← score_folded]
  pointwise [k0_pay2]
  rw [mean256, neg_inf]
  rfl

/-- One head's stored block in the windows' blocks. -/
theorem head_at (c : Dev nD) (t : Fin cfg0.N) (h : Fin 4) (x : Vec Ideal S512x256 .f32) (g : Vec Ideal S1x256 .f32) (k v : Vec Ideal S1x256x256 .bf16)
    (hp : Cert.Pre_MemBIdeal_finite_b m)
    (hx : ∀ p e, x (ix2 p e) = iblk m c 0 t (ix2 p ⟨h.val * 256 + e.val, by omega⟩)) (hg : ∀ e, g (ix2 0 e) = iblk m c 3 t (ix2 0 e))
    (hk : ∀ j e, k (ix3 0 j e) = iblk m c 1 t (ix3 0 j ⟨h.val * 256 + e.val, by omega⟩))
    (hv : ∀ j e, v (ix3 0 j e) = iblk m c 2 t (ix3 0 j ⟨h.val * 256 + e.val, by omega⟩)) (p : Fin 512) (d : Fin 256) (z : Fin 1024)
    (hz : z.val = h.val * 256 + d.val) :
    k0_pay2 x g k v (ix2 p d) = ref (m ((c : Thread nD τ).loc main_arg0)) (m ((c : Thread nD τ).loc main_arg1)) (m ((c : Thread nD τ).loc main_arg2))
      (ix2 (row t p) z) := by
  obtain ⟨rk, rg⟩ := real_of_finite _ _ _ (hp c)
  have ht : t.val < 32 := t.isLt
  have hx' : ∀ p e, x (ix2 p e) = query (m ((c : Thread nD τ).loc main_arg0)) (row t p) h e := fun p e => (hx p e).trans (block0 m c t p h e _ rfl)
  have hg' : ∀ e, g (ix2 0 e) = m ((c : Thread nD τ).loc main_arg2) (ix1 e) := fun e => (hg e).trans (block3 m c t e)
  have hk' : ∀ j e, k (ix3 0 j e) = key (m ((c : Thread nD τ).loc main_arg1)) (batch t) h j e := fun j e => (hk j e).trans (block1 m c t j h e _ rfl)
  have hv' : ∀ j e, v (ix3 0 j e) = value (m ((c : Thread nD τ).loc main_arg1)) (batch t) h j e := fun j e => (hv j e).trans (block2 m c t j h e _ rfl)
  rw [pay_at x g k v p d (fun e => by rw [hg']; exact rg e) (fun j e => by rw [hk']; exact rk _ _ _ _),
    ref_at _ _ _ (batch t) h ⟨t.val % 16 * 512 + p.val, by omega⟩ d (row t p) z (by dsimp only [row, batch]; omega) hz]
  simp only [hx', hg', hk', hv']

/-- A head's columns of the query block, loaded. -/
theorem ldQ (x : Vec Ideal S512x1024 .f32) (o : Nat) (inb) (p : Fin 512) (e : Fin 256) (z : Fin 1024) (hz : z.val = o + e.val) :
    View.ld x (Rect.unit (s := S512x1024) ![0, o] S512x256.size inb) (ix2 p e) = x (ix2 p z) :=
  View.ld_unit_apply_of x _ _ inb (ix2 p e) (ix2 p z) fun a => by
    match a with
    | ⟨0, _⟩ => exact (Nat.zero_add _).symm
    | ⟨1, _⟩ => exact hz

/-- A head's columns of a memory block, loaded. -/
theorem ldM (x : Vec Ideal S1x256x1024 .bf16) (o : Nat) (inb) (j e : Fin 256) (z : Fin 1024) (hz : z.val = o + e.val) :
    View.ld x (Rect.unit (s := S1x256x1024) ![0, 0, o] S1x256x256.size inb) (ix3 0 j e) = x (ix3 0 j z) :=
  View.ld_unit_apply_of x _ _ inb (ix3 0 j e) (ix3 0 j z) fun a => by
    match a with
    | ⟨0, _⟩ => rfl
    | ⟨1, _⟩ => exact (Nat.zero_add _).symm
    | ⟨2, _⟩ => exact hz

/-- The gain, loaded. -/
theorem ldG (x : Vec Ideal S1x256 .f32) (inb) (e : Fin 256) :
    View.ld x (Rect.unit (s := S1x256) ![0, 0] S1x256.size inb) (ix2 0 e) = x (ix2 0 e) :=
  View.ld_unit_apply_of x _ _ inb (ix2 0 e) (ix2 0 e) fun a => by
    match a with
    | ⟨0, _⟩ => rfl
    | ⟨1, _⟩ => exact (Nat.zero_add _).symm

/-- An entry of the output's block sits at this entry of the array. -/
theorem emb4 {α : Type} (f : S16384x1024.Idx → α) (t : Fin cfg0.N) (y : S512x1024.Idx) (p : Fin 512) (j : Fin 1024)
    (hp : p.val = (y 0).val) (hj : j.val = (y 1).val) :
    f ((win0_4.blk t).view.emb y) = f (ix2 (row t p) j) := by
  blk_point [idx4 t, row]

/-- The array the kernel leaves is the reference's term of the argument arrays. -/
theorem final (c : Dev nD) (hpre : Cert.Pre_MemBIdeal_finite_b m) : (dats m 0 c).arrAt 4 cfg0.N
    = ref (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  canon_tiles x h
  case piece0 =>
    obtain ⟨p, d, rfl⟩ : ∃ p d, x = ix2 p d := ⟨x 0, x 1, eq_ix2 x⟩
    have h1' : (y 1).val = 768 + d.val := h1
    refine Eq.trans ?_ (emb4 _ t y p ⟨(y 1).val, (y 1).isLt⟩ h0.symm rfl).symm
    exact head_at m c t 3 _ _ _ _ hpre (fun p e => ldQ _ 768 _ p e _ rfl) (fun e => ldG _ _ e)
      (fun j e => ldM _ 768 _ j e _ rfl) (fun j e => ldM _ 768 _ j e _ rfl)
      p d _ h1'
  case piece1 =>
    obtain ⟨p, d, rfl⟩ : ∃ p d, x = ix2 p d := ⟨x 0, x 1, eq_ix2 x⟩
    have h1' : (y 1).val = 512 + d.val := h1
    refine Eq.trans ?_ (emb4 _ t y p ⟨(y 1).val, (y 1).isLt⟩ h0.symm rfl).symm
    exact head_at m c t 2 _ _ _ _ hpre (fun p e => ldQ _ 512 _ p e _ rfl) (fun e => ldG _ _ e)
      (fun j e => ldM _ 512 _ j e _ rfl) (fun j e => ldM _ 512 _ j e _ rfl)
      p d _ h1'
  case piece2 =>
    obtain ⟨p, d, rfl⟩ : ∃ p d, x = ix2 p d := ⟨x 0, x 1, eq_ix2 x⟩
    have h1' : (y 1).val = 256 + d.val := h1
    refine Eq.trans ?_ (emb4 _ t y p ⟨(y 1).val, (y 1).isLt⟩ h0.symm rfl).symm
    exact head_at m c t 1 _ _ _ _ hpre (fun p e => ldQ _ 256 _ p e _ rfl) (fun e => ldG _ _ e)
      (fun j e => ldM _ 256 _ j e _ rfl) (fun j e => ldM _ 256 _ j e _ rfl)
      p d _ h1'
  case piece3 =>
    obtain ⟨p, d, rfl⟩ : ∃ p d, x = ix2 p d := ⟨x 0, x 1, eq_ix2 x⟩
    have h1' : (y 1).val = 0 + d.val := h1.trans (Nat.zero_add _).symm
    refine Eq.trans ?_ (emb4 _ t y p ⟨(y 1).val, (y 1).isLt⟩ h0.symm rfl).symm
    exact head_at m c t 0 _ _ _ _ hpre (fun p e => ldQ _ 0 _ p e _ rfl) (fun e => ldG _ _ e)
      (fun j e => ldM _ 0 _ j e _ rfl) (fun j e => ldM _ 0 _ j e _ rfl)
      p d _ h1'

end Cert.Proof.MemBValue

end
-- ==== Proof.NormOneValue.lean ====
/-
  THE NORMALISATION BEFORE A PRODUCT, at the ideal instance: the kernel leaves, entry by entry, the row over the root of
  its mean square, times the gain — what the plain formula computes.
-/
module

public import proofs.«01_k».proof.Proof.Norm
public import proofs.«01_k».proof.Proof.Gen.NormOneIdeal.Value
public import proofs.«01_k».proof.Proof.Gen.NormOneRefIdeal.Run
public import Idealize.ShloMosaic.Lib.Pipeline.ValueKit
public import Idealize.ShloMosaic.Lib.Pointwise

@[expose] public section

set_option maxRecDepth 16384

noncomputable section

namespace Cert.Proof.NormOneRef

open Cert.NormOneRefIdeal Cert.NormOneRefIdeal.Gen Idealize.ShloMosaic

/-- The reference's result as one term of its arrays. -/
abbrev ref (x : FVec Ideal S16384x4096 .f32) (g : FVec Ideal S4096 .f32) :
    FVec Ideal S16384x4096 .bf16 :=
  truncf .bf16 (mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) bitsLt_bf16_f32

end Cert.Proof.NormOneRef

namespace Cert.Proof.NormOneValue

open Cert.NormOneIdeal Cert.NormOneIdeal.Gen Idealize.ShloMosaic Idealize.ShloMosaic.TcCoe Idealize.SL.Sem
open Cert.Proof.Norm Cert.Proof.NormOneRef
open scoped BigOperators

variable (m : (ℓ : Loc nD τ sig) → Buf (Elt Ideal) ℓ)

/-- Where each window's block sits at grid point `t`. -/
theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

/-- The array the kernel leaves is the reference's term of the argument arrays. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  rw [mean4096]
  blk_point [iblk, V, idx0 t, idx1 t, idx2 t]

end Cert.Proof.NormOneValue

end
-- ==== Proof.NormTwoValue.lean ====
/-
  THE NORMALISATION BEFORE TWO PRODUCTS, at the ideal instance: the kernel leaves, entry by entry, the row over the root
  of its mean square, times the one gain and times the other — what the plain formula computes.
-/
module

public import proofs.«01_k».proof.Proof.Norm
public import proofs.«01_k».proof.Proof.Gen.NormTwoIdeal.Value
public import proofs.«01_k».proof.Proof.Gen.NormTwoRefIdeal.Run
public import Idealize.ShloMosaic.Lib.Pipeline.ValueKit
public import Idealize.ShloMosaic.Lib.Pointwise

@[expose] public section

set_option maxRecDepth 16384

noncomputable section

namespace Cert.Proof.NormTwoRef

open Cert.NormTwoRefIdeal Cert.NormTwoRefIdeal.Gen Idealize.ShloMosaic

/-- The reference's result as one term of its arrays. -/
abbrev ref (x : FVec Ideal S16384x4096 .f32) (g : FVec Ideal S4096 .f32) :
    FVec Ideal S16384x4096 .bf16 :=
  truncf .bf16 (mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) bitsLt_bf16_f32

end Cert.Proof.NormTwoRef

namespace Cert.Proof.NormTwoValue

open Cert.NormTwoIdeal Cert.NormTwoIdeal.Gen Idealize.ShloMosaic Idealize.ShloMosaic.TcCoe Idealize.SL.Sem
open Cert.Proof.Norm Cert.Proof.NormTwoRef
open scoped BigOperators

variable (m : (ℓ : Loc nD τ sig) → Buf (Elt Ideal) ℓ)

/-- Where each window's block sits at grid point `t`. -/
theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![t.val, 0] :=
  (by decide +kernel : ∀ t : Fin grid0.N, _)

/-- The two gains as the kernel is given them: one above the other. -/
theorem gains (c : Dev nD) : V m c main_v2 = concatenate S2x4096 0
    [⟨S1x4096, broadcastInDim S1x4096 ![1] bcast_S4096_S1x4096_1 (m ((c : Thread nD τ).loc main_arg1))⟩,
     ⟨S1x4096, broadcastInDim S1x4096 ![1] bcast_S4096_S1x4096_1 (m ((c : Thread nD τ).loc main_arg2))⟩]
    concatenates_S1x4096_S1x4096_S2x4096_d0 := by
  dsimp only [V, hostOps0]
  after_results

theorem gain0 (c : Dev nD) (j : Fin 4096) : V m c main_v2 (ix2 0 j) = m ((c : Thread nD τ).loc main_arg1) (ix1 j) := by
  rw [gains]
  pointwise

theorem gain1 (c : Dev nD) (j : Fin 4096) : V m c main_v2 (ix2 1 j) = m ((c : Thread nD τ).loc main_arg2) (ix1 j) := by
  rw [gains]
  pointwise

/-- The first array the kernel leaves is the reference's term of the row and the first gain. -/
theorem final2 (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, k0_pay2, k0_pay3, ref]
  rw [mean4096]
  refine congrArg₂ (· * ·) ?_ ?_
  · blk_point [iblk, V, idx0 t, idx2 t]
  · refine Eq.trans ?_ ((gain0 m c (y 1)).trans ?_)
    · blk_point [iblk, idx1 t]
    · blk_point [idx2 t]

/-- The second array the kernel leaves is the reference's term of the row and the second gain. -/
theorem final3 (c : Dev nD) : (dats m 0 c).arrAt 3 cfg0.N
    = ref (m ((c : Thread nD τ).loc main_arg0)) (m ((c : Thread nD τ).loc main_arg2)) := by
  refine (dats m 0 c).arrAt_eq_of_covers 3 _ (by decide +kernel) fun t hf y => ?_
  blk_simp
  rw [after0_3]
  frame_out
  pointwise [k0_pay1, k0_pay2, k0_pay3, ref]
  rw [mean4096]
  refine congrArg₂ (· * ·) ?_ ?_
  · blk_point [iblk, V, idx0 t, idx3 t]
  · refine Eq.trans ?_ ((gain1 m c (y 1)).trans ?_)
    · blk_point [iblk, idx1 t]
    · blk_point [idx3 t]

end Cert.Proof.NormTwoValue

end
-- ==== Proof.ConvRef.lean ====
/-
  THE CONVOLUTION MODULE, in plain words: each channel's gated product is summed over the last thirty-one positions of its
  sequence, zeros before the sequence's start, then the row is normalised and passed through a sigmoid-weighted unit. Here
  the formula is stated entry by entry, and the reference's own term is shown to be it.
-/
module

public import proofs.«01_k».proof.Proof.Gen.ConvRefIdeal.Run
public import Idealize.ShloMosaic.Lib.Pointwise

@[expose] public section

set_option maxRecDepth 16384

noncomputable section

namespace Cert.Proof.ConvRef

open Cert.ConvRefIdeal Cert.ConvRefIdeal.Gen Cert.ConvRefIdeal.Value Idealize.ShloMosaic Idealize.ShloMosaic.TcCoe
  Idealize.SL.Sem Idealize.ShloMosaic.StableHlo
open scoped BigOperators

/-- The sum of the first `n + 1` values, one after the other. -/
def acc (f : Nat → EReal) : Nat → EReal
  | 0 => f 0
  | n + 1 => acc f n + f (n + 1)

/-- Sums of equal values are equal. -/
theorem acc_congr (f g : Nat → EReal) (n : Nat) (h : ∀ j ≤ n, f j = g j) : acc f n = acc g n := by
  induction n with
  | zero => exact h 0 le_rfl
  | succ n ih => rw [acc, acc, ih fun j hj => h j (hj.trans n.le_succ), h (n + 1) le_rfl]

/-- A channel's gated product at row `r`. -/
def prod (u : FVec Ideal S16384x7168 .f32) (r : Fin 16384) (e : Fin 3072) : EReal :=
  u (ix2 r ⟨e.val, by omega⟩) * Ideal.logistic (u (ix2 r ⟨3072 + e.val, by omega⟩))

/-- The gated product of sequence `b` at position `k`, thirty zeros put before it. -/
def gate (u : FVec Ideal S16384x7168 .f32) (b : Fin 2) (k : Nat) (e : Fin 3072) : EReal :=
  if h : 30 ≤ k ∧ k - 30 < 8192 then prod u ⟨b.val * 8192 + (k - 30), by omega⟩ e else 0

/-- The weight of tap `j`. -/
def tap (w : FVec Ideal S31x3072 .f32) (j : Nat) (e : Fin 3072) : EReal :=
  w (ix2 ⟨j % 31, Nat.mod_lt _ (by decide)⟩ e)

/-- A channel's convolution at position `s`. -/
def conv (u : FVec Ideal S16384x7168 .f32) (w : FVec Ideal S31x3072 .f32) (cb : Fin 3072 → EReal) (b : Fin 2) (s : Nat)
    (e : Fin 3072) : EReal :=
  acc (fun j => gate u b (s + j) e * tap w j e) 30 + cb e

/-- The mean of a row. -/
def mean (f : Fin 3072 → EReal) : EReal := Ideal.div (∑ e, f e) (Ideal.ofBits .f32 0x45400000#32)

/-- A row normalised, with its gain and its shift. -/
def norm (f g s : Fin 3072 → EReal) (e : Fin 3072) : EReal :=
  (f e - mean f) * Ideal.rsqrt (mean (fun k => (f k - mean f) * (f k - mean f)) + Ideal.ofBits .f32 0x358637BD#32) * g e + s e

/-- A value times its own sigmoid. -/
def silu (y : EReal) : EReal := y * Ideal.logistic y

/-- The gated product, thirty zeros before each sequence. -/
def refGate (u : FVec Ideal S16384x7168 .f32) : FVec Ideal S2x8222x3072 .f32 :=
  pad S2x8222x3072 ![0, 30, 0] ![0, 0, 0] ![0, 0, 0] (mulf (shapeCast S2x8192x3072 (extractStridedSlice S16384x3072 ![0, 0] u slices_S16384x7168_S16384x3072_0_0) shapeCasts_S16384x3072_S2x8192x3072) (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf (shapeCast S2x8192x3072 (extractStridedSlice S16384x3072 ![0, 3072] u slices_S16384x7168_S16384x3072_0_3072) shapeCasts_S16384x3072_S2x8192x3072)))))) (sitofp .f32 (constantI S_ 32 0#32)) pads_S2x8192x3072_S2x8222x3072_000_3000_000 h_S_

/-- The first eleven taps. -/
def refLow (G : FVec Ideal S2x8222x3072 .f32) (w : FVec Ideal S31x3072 .f32) : FVec Ideal S2x8192x3072 .f32 :=
  addf (addf (addf (addf (addf (addf (addf (addf (addf (addf (addf (broadcastInDim S2x8192x3072 ![] bcast_S_S2x8192x3072 (constant S_ .f32 0x00000000#32)) (mulf (extractStridedSlice S2x8192x3072 ![0, 0, 0] G slices_S2x8222x3072_S2x8192x3072_0_0_0) (broadcastInDim S2x8192x3072 ![0, 1, 2] bcast_S1x1x3072_S2x8192x3072_0_1_2 (broadcastInDim S1x1x3072 ![2] bcast_S3072_S1x1x3072_2 (shapeCast S3072 (extractStridedSlice S1x3072 ![0, 0] w slices_S31x3072_S1x3072_0_0) shapeCasts_S1x3072_S3072))))) (mulf (extractStridedSlice S2x8192x3072 ![0, 1, 0] G slices_S2x8222x3072_S2x8192x3072_0_1_0) (broadcastInDim S2x8192x3072 ![0, 1, 2] bcast_S1x1x3072_S2x8192x3072_0_1_2 (broadcastInDim S1x1x3072 ![2] bcast_S3072_S1x1x3072_2 (shapeCast S3072 (extractStridedSlice S1x3072 ![1, 0] w slices_S31x3072_S1x3072_1_0) shapeCasts_S1x3072_S3072))))) (mulf (extractStridedSlice S2x8192x3072 ![0, 2, 0] G slices_S2x8222x3072_S2x8192x3072_0_2_0) (broadcastInDim S2x8192x3072 ![0, 1, 2] bcast_S1x1x3072_S2x8192x3072_0_1_2 (broadcastInDim S1x1x3072 ![2] bcast_S3072_S1x1x3072_2 (shapeCast S3072 (extractStridedSlice S1x3072 ![2, 0] w slices_S31x3072_S1x3072_2_0) shapeCasts_S1x3072_S3072))))) (mulf (extractStridedSlice S2x8192x3072 ![0, 3, 0] G slices_S2x8222x3072_S2x8192x3072_0_3_0) (broadcastInDim S2x8192x3072 ![0, 1, 2] bcast_S1x1x3072_S2x8192x3072_0_1_2 (broadcastInDim S1x1x3072 ![2] bcast_S3072_S1x1x3072_2 (shapeCast S3072 (extractStridedSlice S1x3072 ![3, 0] w slices_S31x3072_S1x3072_3_0) shapeCasts_S1x3072_S3072))))) (mulf (extractStridedSlice S2x8192x3072 ![0, 4, 0] G slices_S2x8222x3072_S2x8192x3072_0_4_0) (broadcastInDim S2x8192x3072 ![0, 1, 2] bcast_S1x1x3072_S2x8192x3072_0_1_2 (broadcastInDim S1x1x3072 ![2] bcast_S3072_S1x1x3072_2 (shapeCast S3072 (extractStridedSlice S1x3072 ![4, 0] w slices_S31x3072_S1x3072_4_0) shapeCasts_S1x3072_S3072))))) (mulf (extractStridedSlice S2x8192x3072 ![0, 5, 0] G slices_S2x8222x3072_S2x8192x3072_0_5_0) (broadcastInDim S2x8192x3072 ![0, 1, 2] bcast_S1x1x3072_S2x8192x3072_0_1_2 (broadcastInDim S1x1x3072 ![2] bcast_S3072_S1x1x3072_2 (shapeCast S3072 (extractStridedSlice S1x3072 ![5, 0] w slices_S31x3072_S1x3072_5_0) shapeCasts_S1x3072_S3072))))) (mulf (extractStridedSlice S2x8192x3072 ![0, 6, 0] G slices_S2x8222x3072_S2x8192x3072_0_6_0) (broadcastInDim S2x8192x3072 ![0, 1, 2] bcast_S1x1x3072_S2x8192x3072_0_1_2 (broadcastInDim S1x1x3072 ![2] bcast_S3072_S1x1x3072_2 (shapeCast S3072 (extractStridedSlice S1x3072 ![6, 0] w slices_S31x3072_S1x3072_6_0) shapeCasts_S1x3072_S3072))))) (mulf (extractStridedSlice S2x8192x3072 ![0, 7, 0] G slices_S2x8222x3072_S2x8192x3072_0_7_0) (broadcastInDim S2x8192x3072 ![0, 1, 2] bcast_S1x1x3072_S2x8192x3072_0_1_2 (broadcastInDim S1x1x3072 ![2] bcast_S3072_S1x1x3072_2 (shapeCast S3072 (extractStridedSlice S1x3072 ![7, 0] w slices_S31x3072_S1x3072_7_0) shapeCasts_S1x3072_S3072))))) (mulf (extractStridedSlice S2x8192x3072 ![0, 8, 0] G slices_S2x8222x3072_S2x8192x3072_0_8_0) (broadcastInDim S2x8192x3072 ![0, 1, 2] bcast_S1x1x3072_S2x8192x3072_0_1_2 (broadcastInDim S1x1x3072 ![2] bcast_S3072_S1x1x3072_2 (shapeCast S3072 (extractStridedSlice S1x3072 ![8, 0] w slices_S31x3072_S1x3072_8_0) shapeCasts_S1x3072_S3072))))) (mulf (extractStridedSlice S2x8192x3072 ![0, 9, 0] G slices_S2x8222x3072_S2x8192x3072_0_9_0) (broadcastInDim S2x8192x3072 ![0, 1, 2] bcast_S1x1x3072_S2x8192x3072_0_1_2 (broadcastInDim S1x1x3072 ![2] bcast_S3072_S1x1x3072_2 (shapeCast S3072 (extractStridedSlice S1x3072 ![9, 0] w slices_S31x3072_S1x3072_9_0) shapeCasts_S1x3072_S3072))))) (mulf (extractStridedSlice S2x8192x3072 ![0, 10, 0] G slices_S2x8222x3072_S2x8192x3072_0_10_0) (broadcastInDim S2x8192x3072 ![0, 1, 2] bcast_S1x1x3072_S2x8192x3072_0_1_2 (broadcastInDim S1x1x3072 ![2] bcast_S3072_S1x1x3072_2 (shapeCast S3072 (extractStridedSlice S1x3072 ![10, 0] w slices_S31x3072_S1x3072_10_0) shapeCasts_S1x3072_S3072))))

/-- Eleven more taps. -/
def refMid (G : FVec Ideal S2x8222x3072 .f32) (w : FVec Ideal S31x3072 .f32) (c : FVec Ideal S2x8192x3072 .f32) : FVec Ideal S2x8192x3072 .f32 :=
  addf (addf (addf (addf (addf (addf (addf (addf (addf (addf (addf c (mulf (extractStridedSlice S2x8192x3072 ![0, 11, 0] G slices_S2x8222x3072_S2x8192x3072_0_11_0) (broadcastInDim S2x8192x3072 ![0, 1, 2] bcast_S1x1x3072_S2x8192x3072_0_1_2 (broadcastInDim S1x1x3072 ![2] bcast_S3072_S1x1x3072_2 (shapeCast S3072 (extractStridedSlice S1x3072 ![11, 0] w slices_S31x3072_S1x3072_11_0) shapeCasts_S1x3072_S3072))))) (mulf (extractStridedSlice S2x8192x3072 ![0, 12, 0] G slices_S2x8222x3072_S2x8192x3072_0_12_0) (broadcastInDim S2x8192x3072 ![0, 1, 2] bcast_S1x1x3072_S2x8192x3072_0_1_2 (broadcastInDim S1x1x3072 ![2] bcast_S3072_S1x1x3072_2 (shapeCast S3072 (extractStridedSlice S1x3072 ![12, 0] w slices_S31x3072_S1x3072_12_0) shapeCasts_S1x3072_S3072))))) (mulf (extractStridedSlice S2x8192x3072 ![0, 13, 0] G slices_S2x8222x3072_S2x8192x3072_0_13_0) (broadcastInDim S2x8192x3072 ![0, 1, 2] bcast_S1x1x3072_S2x8192x3072_0_1_2 (broadcastInDim S1x1x3072 ![2] bcast_S3072_S1x1x3072_2 (shapeCast S3072 (extractStridedSlice S1x3072 ![13, 0] w slices_S31x3072_S1x3072_13_0) shapeCasts_S1x3072_S3072))))) (mulf (extractStridedSlice S2x8192x3072 ![0, 14, 0] G slices_S2x8222x3072_S2x8192x3072_0_14_0) (broadcastInDim S2x8192x3072 ![0, 1, 2] bcast_S1x1x3072_S2x8192x3072_0_1_2 (broadcastInDim S1x1x3072 ![2] bcast_S3072_S1x1x3072_2 (shapeCast S3072 (extractStridedSlice S1x3072 ![14, 0] w slices_S31x3072_S1x3072_14_0) shapeCasts_S1x3072_S3072))))) (mulf (extractStridedSlice S2x8192x3072 ![0, 15, 0] G slices_S2x8222x3072_S2x8192x3072_0_15_0) (broadcastInDim S2x8192x3072 ![0, 1, 2] bcast_S1x1x3072_S2x8192x3072_0_1_2 (broadcastInDim S1x1x3072 ![2] bcast_S3072_S1x1x3072_2 (shapeCast S3072 (extractStridedSlice S1x3072 ![15, 0] w slices_S31x3072_S1x3072_15_0) shapeCasts_S1x3072_S3072))))) (mulf (extractStridedSlice S2x8192x3072 ![0, 16, 0] G slices_S2x8222x3072_S2x8192x3072_0_16_0) (broadcastInDim S2x8192x3072 ![0, 1, 2] bcast_S1x1x3072_S2x8192x3072_0_1_2 (broadcastInDim S1x1x3072 ![2] bcast_S3072_S1x1x3072_2 (shapeCast S3072 (extractStridedSlice S1x3072 ![16, 0] w slices_S31x3072_S1x3072_16_0) shapeCasts_S1x3072_S3072))))) (mulf (extractStridedSlice S2x8192x3072 ![0, 17, 0] G slices_S2x8222x3072_S2x8192x3072_0_17_0) (broadcastInDim S2x8192x3072 ![0, 1, 2] bcast_S1x1x3072_S2x8192x3072_0_1_2 (broadcastInDim S1x1x3072 ![2] bcast_S3072_S1x1x3072_2 (shapeCast S3072 (extractStridedSlice S1x3072 ![17, 0] w slices_S31x3072_S1x3072_17_0) shapeCasts_S1x3072_S3072))))) (mulf (extractStridedSlice S2x8192x3072 ![0, 18, 0] G slices_S2x8222x3072_S2x8192x3072_0_18_0) (broadcastInDim S2x8192x3072 ![0, 1, 2] bcast_S1x1x3072_S2x8192x3072_0_1_2 (broadcastInDim S1x1x3072 ![2] bcast_S3072_S1x1x3072_2 (shapeCast S3072 (extractStridedSlice S1x3072 ![18, 0] w slices_S31x3072_S1x3072_18_0) shapeCasts_S1x3072_S3072))))) (mulf (extractStridedSlice S2x8192x3072 ![0, 19, 0] G slices_S2x8222x3072_S2x8192x3072_0_19_0) (broadcastInDim S2x8192x3072 ![0, 1, 2] bcast_S1x1x3072_S2x8192x3072_0_1_2 (broadcastInDim S1x1x3072 ![2] bcast_S3072_S1x1x3072_2 (shapeCast S3072 (extractStridedSlice S1x3072 ![19, 0] w slices_S31x3072_S1x3072_19_0) shapeCasts_S1x3072_S3072))))) (mulf (extractStridedSlice S2x8192x3072 ![0, 20, 0] G slices_S2x8222x3072_S2x8192x3072_0_20_0) (broadcastInDim S2x8192x3072 ![0, 1, 2] bcast_S1x1x3072_S2x8192x3072_0_1_2 (broadcastInDim S1x1x3072 ![2] bcast_S3072_S1x1x3072_2 (shapeCast S3072 (extractStridedSlice S1x3072 ![20, 0] w slices_S31x3072_S1x3072_20_0) shapeCasts_S1x3072_S3072))))) (mulf (extractStridedSlice S2x8192x3072 ![0, 21, 0] G slices_S2x8222x3072_S2x8192x3072_0_21_0) (broadcastInDim S2x8192x3072 ![0, 1, 2] bcast_S1x1x3072_S2x8192x3072_0_1_2 (broadcastInDim S1x1x3072 ![2] bcast_S3072_S1x1x3072_2 (shapeCast S3072 (extractStridedSlice S1x3072 ![21, 0] w slices_S31x3072_S1x3072_21_0) shapeCasts_S1x3072_S3072))))

/-- The last nine taps. -/
def refHigh (G : FVec Ideal S2x8222x3072 .f32) (w : FVec Ideal S31x3072 .f32) (c : FVec Ideal S2x8192x3072 .f32) : FVec Ideal S2x8192x3072 .f32 :=
  addf (addf (addf (addf (addf (addf (addf (addf (addf c (mulf (extractStridedSlice S2x8192x3072 ![0, 22, 0] G slices_S2x8222x3072_S2x8192x3072_0_22_0) (broadcastInDim S2x8192x3072 ![0, 1, 2] bcast_S1x1x3072_S2x8192x3072_0_1_2 (broadcastInDim S1x1x3072 ![2] bcast_S3072_S1x1x3072_2 (shapeCast S3072 (extractStridedSlice S1x3072 ![22, 0] w slices_S31x3072_S1x3072_22_0) shapeCasts_S1x3072_S3072))))) (mulf (extractStridedSlice S2x8192x3072 ![0, 23, 0] G slices_S2x8222x3072_S2x8192x3072_0_23_0) (broadcastInDim S2x8192x3072 ![0, 1, 2] bcast_S1x1x3072_S2x8192x3072_0_1_2 (broadcastInDim S1x1x3072 ![2] bcast_S3072_S1x1x3072_2 (shapeCast S3072 (extractStridedSlice S1x3072 ![23, 0] w slices_S31x3072_S1x3072_23_0) shapeCasts_S1x3072_S3072))))) (mulf (extractStridedSlice S2x8192x3072 ![0, 24, 0] G slices_S2x8222x3072_S2x8192x3072_0_24_0) (broadcastInDim S2x8192x3072 ![0, 1, 2] bcast_S1x1x3072_S2x8192x3072_0_1_2 (broadcastInDim S1x1x3072 ![2] bcast_S3072_S1x1x3072_2 (shapeCast S3072 (extractStridedSlice S1x3072 ![24, 0] w slices_S31x3072_S1x3072_24_0) shapeCasts_S1x3072_S3072))))) (mulf (extractStridedSlice S2x8192x3072 ![0, 25, 0] G slices_S2x8222x3072_S2x8192x3072_0_25_0) (broadcastInDim S2x8192x3072 ![0, 1, 2] bcast_S1x1x3072_S2x8192x3072_0_1_2 (broadcastInDim S1x1x3072 ![2] bcast_S3072_S1x1x3072_2 (shapeCast S3072 (extractStridedSlice S1x3072 ![25, 0] w slices_S31x3072_S1x3072_25_0) shapeCasts_S1x3072_S3072))))) (mulf (extractStridedSlice S2x8192x3072 ![0, 26, 0] G slices_S2x8222x3072_S2x8192x3072_0_26_0) (broadcastInDim S2x8192x3072 ![0, 1, 2] bcast_S1x1x3072_S2x8192x3072_0_1_2 (broadcastInDim S1x1x3072 ![2] bcast_S3072_S1x1x3072_2 (shapeCast S3072 (extractStridedSlice S1x3072 ![26, 0] w slices_S31x3072_S1x3072_26_0) shapeCasts_S1x3072_S3072))))) (mulf (extractStridedSlice S2x8192x3072 ![0, 27, 0] G slices_S2x8222x3072_S2x8192x3072_0_27_0) (broadcastInDim S2x8192x3072 ![0, 1, 2] bcast_S1x1x3072_S2x8192x3072_0_1_2 (broadcastInDim S1x1x3072 ![2] bcast_S3072_S1x1x3072_2 (shapeCast S3072 (extractStridedSlice S1x3072 ![27, 0] w slices_S31x3072_S1x3072_27_0) shapeCasts_S1x3072_S3072))))) (mulf (extractStridedSlice S2x8192x3072 ![0, 28, 0] G slices_S2x8222x3072_S2x8192x3072_0_28_0) (broadcastInDim S2x8192x3072 ![0, 1, 2] bcast_S1x1x3072_S2x8192x3072_0_1_2 (broadcastInDim S1x1x3072 ![2] bcast_S3072_S1x1x3072_2 (shapeCast S3072 (extractStridedSlice S1x3072 ![28, 0] w slices_S31x3072_S1x3072_28_0) shapeCasts_S1x3072_S3072))))) (mulf (extractStridedSlice S2x8192x3072 ![0, 29, 0] G slices_S2x8222x3072_S2x8192x3072_0_29_0) (broadcastInDim S2x8192x3072 ![0, 1, 2] bcast_S1x1x3072_S2x8192x3072_0_1_2 (broadcastInDim S1x1x3072 ![2] bcast_S3072_S1x1x3072_2 (shapeCast S3072 (extractStridedSlice S1x3072 ![29, 0] w slices_S31x3072_S1x3072_29_0) shapeCasts_S1x3072_S3072))))) (mulf (extractStridedSlice S2x8192x3072 ![0, 30, 0] G slices_S2x8222x3072_S2x8192x3072_0_30_0) (broadcastInDim S2x8192x3072 ![0, 1, 2] bcast_S1x1x3072_S2x8192x3072_0_1_2 (broadcastInDim S1x1x3072 ![2] bcast_S3072_S1x1x3072_2 (shapeCast S3072 (extractStridedSlice S1x3072 ![30, 0] w slices_S31x3072_S1x3072_30_0) shapeCasts_S1x3072_S3072))))

/-- The convolution with its bias. -/
def refConv (u : FVec Ideal S16384x7168 .f32) (w : FVec Ideal S31x3072 .f32) (cb : FVec Ideal S3072 .f32) : FVec Ideal S2x8192x3072 .f32 :=
  addf (refHigh (refGate u) w (refMid (refGate u) w (refLow (refGate u) w))) (broadcastInDim S2x8192x3072 ![0, 1, 2] bcast_S1x1x3072_S2x8192x3072_0_1_2 (broadcastInDim S1x1x3072 ![2] bcast_S3072_S1x1x3072_2 cb))

/-- The mean of each row. -/
def refMean (c : FVec Ideal S2x8192x3072 .f32) : FVec Ideal S2x8192x1 .f32 :=
  Host.divf (broadcastInDim S2x8192x1 ![0, 1] bcast_S2x8192_S2x8192x1_0_1 (Host.reduceAdd c (constant S_ .f32 0x00000000#32) reducesTo_S2x8192x3072_S2x8192_d2 h_S_)) (broadcastInDim S2x8192x1 ![] bcast_S_S2x8192x1 (constant S_ .f32 0x45400000#32))

/-- Each row less its mean. -/
def refDev (c : FVec Ideal S2x8192x3072 .f32) : FVec Ideal S2x8192x3072 .f32 :=
  subf c (broadcastInDim S2x8192x3072 ![0, 1, 2] bcast_S2x8192x1_S2x8192x3072_0_1_2 (refMean c))

/-- Each row normalised. -/
def refNorm (c : FVec Ideal S2x8192x3072 .f32) (g s : FVec Ideal S3072 .f32) : FVec Ideal S2x8192x3072 .f32 :=
  addf (mulf (mulf (refDev c) (broadcastInDim S2x8192x3072 ![0, 1, 2] bcast_S2x8192x1_S2x8192x3072_0_1_2 (Host.rsqrt (addf (refMean (mulf (refDev c) (refDev c))) (broadcastInDim S2x8192x1 ![] bcast_S_S2x8192x1 (constant S_ .f32 0x358637BD#32)))))) (broadcastInDim S2x8192x3072 ![0, 1, 2] bcast_S1x1x3072_S2x8192x3072_0_1_2 (broadcastInDim S1x1x3072 ![2] bcast_S3072_S1x1x3072_2 g))) (broadcastInDim S2x8192x3072 ![0, 1, 2] bcast_S1x1x3072_S2x8192x3072_0_1_2 (broadcastInDim S1x1x3072 ![2] bcast_S3072_S1x1x3072_2 s))

/-- Each entry times its own sigmoid. -/
def refSilu (y : FVec Ideal S2x8192x3072 .f32) : FVec Ideal S2x8192x3072 .f32 :=
  mulf y (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf y))))

/-- The reference's result as one term of its arrays. -/
def ref (u : FVec Ideal S16384x7168 .f32) (w : FVec Ideal S31x3072 .f32) (cb g s : FVec Ideal S3072 .f32) : FVec Ideal S16384x3072 .bf16 :=
  truncf .bf16 (shapeCast S16384x3072 (refSilu (refNorm (refConv u w cb) g s)) shapeCasts_S2x8192x3072_S16384x3072) bitsLt_bf16_f32

/-- The run's result is that term. -/
theorem res_eq (m : (ℓ : Loc nD τ sig) → Buf (Elt Ideal) ℓ) (c : Dev nD) :
    truncf .bf16 (shapeCast S16384x3072 (mulf (res_main_v256 (launchContents m c)) (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf (res_main_v256 (launchContents m c))))))) shapeCasts_S2x8192x3072_S16384x3072) bitsLt_bf16_f32
      = ref (m ((c : Thread nD τ).loc main_arg0)) (m ((c : Thread nD τ).loc main_arg1)) (m ((c : Thread nD τ).loc main_arg2)) (m ((c : Thread nD τ).loc main_arg3)) (m ((c : Thread nD τ).loc main_arg4)) :=
  rfl

/-- The zero put before each sequence. -/
theorem pad_zero : (FloatOps.sitofp FTy.f32 0#32 : Ideal .f32) = (0 : EReal) := by
  simp [FloatOps.sitofp]

/-- An entry of the sigmoid-weighted unit. -/
theorem refSilu_at (y : FVec Ideal S2x8192x3072 .f32) (b : Fin 2) (s : Fin 8192) (e : Fin 3072) :
    refSilu y (ix3 b s e) = silu (y (ix3 b s e)) := by
  pointwise [refSilu]
  rfl

/-- An entry of the padded gated product. -/
theorem refGate_at (u : FVec Ideal S16384x7168 .f32) (b : Fin 2) (k : Fin 8222) (e : Fin 3072) :
    refGate u (ix3 b k e) = gate u b k.val e := by
  pointwise [refGate]
  rw [pad_zero]
  rfl

/-- The mean of one row. -/
theorem refMean_at (c : FVec Ideal S2x8192x3072 .f32) (b : Fin 2) (s : Fin 8192) :
    refMean c (ix3 b s 0) = mean fun e => c (ix3 b s e) := by
  pointwise [refMean]
  rfl

/-- An entry less its row's mean. -/
theorem refDev_at (c : FVec Ideal S2x8192x3072 .f32) (b : Fin 2) (s : Fin 8192) (e : Fin 3072) :
    refDev c (ix3 b s e) = c (ix3 b s e) - mean fun e => c (ix3 b s e) := by
  pointwise [refDev]
  rw [refMean_at]

/-- An entry of a normalised row. -/
theorem refNorm_at (c : FVec Ideal S2x8192x3072 .f32) (g h : FVec Ideal S3072 .f32) (b : Fin 2) (s : Fin 8192) (e : Fin 3072) :
    refNorm c g h (ix3 b s e) = norm (fun e => c (ix3 b s e)) (fun e => g (ix1 e)) (fun e => h (ix1 e)) e := by
  pointwise [refNorm]
  simp only [refMean_at, refDev_at]
  pointwise
  simp only [refMean_at, refDev_at]
  rfl

/-- An entry of the convolution. -/
theorem refConv_at (u : FVec Ideal S16384x7168 .f32) (w : FVec Ideal S31x3072 .f32) (cb : FVec Ideal S3072 .f32) (b : Fin 2)
    (s : Fin 8192) (e : Fin 3072) :
    refConv u w cb (ix3 b s e) = conv u w (fun e => cb (ix1 e)) b s.val e := by
  pointwise [refConv, refLow, refMid, refHigh]
  simp only [refGate_at]
  rw [Nat.add_comm 1 s.val, Nat.add_comm 2 s.val, Nat.add_comm 3 s.val, Nat.add_comm 4 s.val, Nat.add_comm 5 s.val, Nat.add_comm 6 s.val, Nat.add_comm 7 s.val, Nat.add_comm 8 s.val, Nat.add_comm 9 s.val, Nat.add_comm 10 s.val, Nat.add_comm 11 s.val, Nat.add_comm 12 s.val, Nat.add_comm 13 s.val, Nat.add_comm 14 s.val, Nat.add_comm 15 s.val, Nat.add_comm 16 s.val, Nat.add_comm 17 s.val, Nat.add_comm 18 s.val, Nat.add_comm 19 s.val, Nat.add_comm 20 s.val, Nat.add_comm 21 s.val, Nat.add_comm 22 s.val, Nat.add_comm 23 s.val, Nat.add_comm 24 s.val, Nat.add_comm 25 s.val, Nat.add_comm 26 s.val, Nat.add_comm 27 s.val, Nat.add_comm 28 s.val, Nat.add_comm 29 s.val, Nat.add_comm 30 s.val]
  rfl

/-- The reference, entry by entry. -/
theorem ref_at (u : FVec Ideal S16384x7168 .f32) (w : FVec Ideal S31x3072 .f32) (cb g h : FVec Ideal S3072 .f32)
    (r : Fin 16384) (e : Fin 3072) :
    ref u w cb g h (ix2 r e) = silu (norm (conv u w (fun e => cb (ix1 e)) ⟨r.val / 8192, by omega⟩ (r.val % 8192))
      (fun e => g (ix1 e)) (fun e => h (ix1 e)) e) := by
  pointwise [ref]
  rw [refSilu_at, refNorm_at]
  simp only [refConv_at]

end Cert.Proof.ConvRef

end
-- ==== Proof.ConvBlock.lean ====
/-
  ONE BLOCK OF THE CONVOLUTION, at the ideal instance: what the kernel keeps in its buffer — the thirty-two rows before the
  block and the block's own sixty-four, gated — and the sixteen rows it computes from the buffer at a time, entry by entry.
-/
module

public import proofs.«01_k».proof.Proof.ConvRef
public import proofs.«01_k».proof.Proof.Gen.ConvIdeal.Value
public import Idealize.ShloMosaic.Lib.Pipeline.ValueKit
public import Idealize.ShloMosaic.Lib.Pointwise

@[expose] public section

set_option maxRecDepth 16384

noncomputable section

namespace Cert.Proof.ConvBlock

open Cert.ConvIdeal Cert.ConvIdeal.Gen Idealize.ShloMosaic Idealize.ShloMosaic.TcCoe Idealize.SL.Sem
open Cert.Proof.ConvRef (acc mean norm silu)
open scoped BigOperators

/-- The sixteen rows' taps, added one after the other. -/
def taps (x : Nat → FVec Ideal S16x3072 .f32) (w : Nat → FVec Ideal S1x3072 .f32) : Nat → FVec Ideal S16x3072 .f32
  | 0 => mulf (x 0) (broadcastTo S16x3072 (w 0) broadcasts_S1x3072_S16x3072)
  | n + 1 => addf (taps x w n) (mulf (x (n + 1)) (broadcastTo S16x3072 (w (n + 1)) broadcasts_S1x3072_S16x3072))

/-- A row vector laid over the sixteen rows. -/
def over (v : FVec Ideal S1x3072 .f32) : FVec Ideal S16x3072 .f32 :=
  broadcastTo S16x3072 (shapeCast S1x3072 v shapeCasts_S1x3072_S1x3072) broadcasts_S1x3072_S16x3072

/-- The mean of each of the sixteen rows. -/
def means (c : FVec Ideal S16x3072 .f32) : FVec Ideal S16x1 .f32 :=
  divf (shapeCast S16x1 (multiReduction .add [1] S16 c 0x00000000#32 reduces_S16x3072_S16 (.inl rfl) rfl) shapeCasts_S16_S16x1)
    (broadcast S16x1 (Scalar.ofBits (F := Ideal) .f32 0x45400000#32))

/-- Each of the sixteen rows less its mean. -/
def dev (c : FVec Ideal S16x3072 .f32) : FVec Ideal S16x3072 .f32 :=
  subf c (broadcastTo S16x3072 (means c) broadcasts_S16x1_S16x3072)

/-- The sixteen rows normalised. -/
def normed (c : FVec Ideal S16x3072 .f32) (g s : FVec Ideal S1x3072 .f32) : FVec Ideal S16x3072 .f32 :=
  addf (mulf (mulf (dev c) (broadcastTo S16x3072 (rsqrt (addf (means (mulf (dev c) (dev c)))
    (broadcast S16x1 (Scalar.ofBits (F := Ideal) .f32 0x358637BD#32)))) broadcasts_S16x1_S16x3072)) (over g)) (over s)

/-- Sixteen rows of the output. -/
def chunk (x : Nat → FVec Ideal S16x3072 .f32) (w : Nat → FVec Ideal S1x3072 .f32) (cb g s : FVec Ideal S1x3072 .f32) :
    FVec Ideal S16x3072 .bf16 :=
  truncf .bf16 (mulf (normed (addf (taps x w 30) (over cb)) g s) (logistic (normed (addf (taps x w 30) (over cb)) g s)))
    bitsLt_bf16_f32

/-- An entry of the added taps. -/
theorem taps_at (x : Nat → FVec Ideal S16x3072 .f32) (w : Nat → FVec Ideal S1x3072 .f32) (n : Nat) (p : Fin 16) (e : Fin 3072) :
    taps x w n (ix2 p e) = acc (fun j => x j (ix2 p e) * w j (ix2 0 e)) n := by
  induction n with
  | zero =>
    pointwise [taps]
    rfl
  | succ n ih =>
    rw [acc, ← ih]
    pointwise [taps]

/-- An entry of a row vector laid over the rows. -/
theorem over_at (v : FVec Ideal S1x3072 .f32) (p : Fin 16) (e : Fin 3072) : over v (ix2 p e) = v (ix2 0 e) := by
  pointwise [over]

/-- The mean of one of the rows. -/
theorem means_at (c : FVec Ideal S16x3072 .f32) (p : Fin 16) : means c (ix2 p 0) = mean fun e => c (ix2 p e) := by
  pointwise [means]
  rfl

/-- An entry less its row's mean. -/
theorem dev_at (c : FVec Ideal S16x3072 .f32) (p : Fin 16) (e : Fin 3072) :
    dev c (ix2 p e) = c (ix2 p e) - mean fun e => c (ix2 p e) := by
  pointwise [dev]
  rw [means_at]

/-- An entry of a normalised row. -/
theorem normed_at (c : FVec Ideal S16x3072 .f32) (g s : FVec Ideal S1x3072 .f32) (p : Fin 16) (e : Fin 3072) :
    normed c g s (ix2 p e) = norm (fun e => c (ix2 p e)) (fun e => g (ix2 0 e)) (fun e => s (ix2 0 e)) e := by
  pointwise [normed]
  simp only [means_at, dev_at, over_at]
  pointwise
  simp only [dev_at]
  rfl

/-- An entry of the sixteen rows of output. -/
theorem chunk_at (x : Nat → FVec Ideal S16x3072 .f32) (w : Nat → FVec Ideal S1x3072 .f32) (cb g s : FVec Ideal S1x3072 .f32)
    (p : Fin 16) (e : Fin 3072) :
    chunk x w cb g s (ix2 p e) = silu (norm (fun e => acc (fun j => x j (ix2 p e) * w j (ix2 0 e)) 30 + cb (ix2 0 e))
      (fun e => g (ix2 0 e)) (fun e => s (ix2 0 e)) e) := by
  pointwise [chunk]
  rw [normed_at]
  pointwise
  simp only [taps_at, over_at]
  rfl

/-- The buffer's row `k`: the rows kept from before the block, then the block's own. -/
def buf (A : Vec Ideal S64x3072 .f32) (B : Vec Ideal S32x3072 .f32) (k : Nat) (e : Fin 3072) : EReal :=
  if h : k < 32 then B (ix2 ⟨k, h⟩ e) else A (ix2 ⟨(k - 32) % 64, Nat.mod_lt _ (by decide)⟩ e)

/-- The buffer's first rows are those kept from before the block. -/
theorem buf_lt (A : Vec Ideal S64x3072 .f32) (B : Vec Ideal S32x3072 .f32) (k : Nat) (e : Fin 3072) (h : k < 32) :
    buf A B k e = B (ix2 ⟨k, h⟩ e) := by
  unfold buf
  exact dif_pos h

/-- The buffer's later rows are the block's own. -/
theorem buf_ge (A : Vec Ideal S64x3072 .f32) (B : Vec Ideal S32x3072 .f32) (k : Nat) (e : Fin 3072) (h : ¬k < 32) :
    buf A B k e = A (ix2 ⟨(k - 32) % 64, Nat.mod_lt _ (by decide)⟩ e) := by
  unfold buf
  exact dif_neg h

/-- Sixteen rows from row `o` on. -/
def rows (f : Nat → Fin 3072 → EReal) (o : Nat) : Vec Ideal S16x3072 .f32 := fun y => f (o + (y 0).val) (y 1)

/-- Row `j` of the taps' weights. -/
def wrow (x : Vec Ideal S31x3072 .f32) (j : Nat) : Vec Ideal S1x3072 .f32 := fun y =>
  x (ix2 ⟨j % 31, Nat.mod_lt _ (by decide)⟩ (y 1))

/-- Sixteen rows loaded from the buffer. -/
theorem ldB (A : Vec Ideal S64x3072 .f32) (B : Vec Ideal S32x3072 .f32) (inA) (inB) (o : Nat) (inb) :
    View.readCov (κ := Proc.kind (Proc.tc (τ := τ))) (s := S96x3072) (e := .f32) (Val := Elt Ideal) (View.whole cc0_scratch0)
      [⟨Rect.unit (s := S96x3072) ![32, 0] ![64, 3072] inA, A⟩, ⟨Rect.unit (s := S96x3072) ![0, 0] ![32, 3072] inB, B⟩]
      (Rect.unit (s := S96x3072) ![o, 0] ![16, 3072] inb).toLoadRect = rows (buf A B) o := by
  rw [View.readCov_eq_canon']
  funext y
  obtain ⟨z, hz⟩ : ∃ z : S96x3072.Idx, (Rect.unit (s := S96x3072) ![o, 0] ![16, 3072] inb).toLoadRect.idx y = z := ⟨_, rfl⟩
  have z0 : o + 1 * (y 0).val = (z 0).val := congrArg (fun z : S96x3072.Idx => (z 0).val) hz
  have z1 : 0 + 1 * (y 1).val = (z 1).val := congrArg (fun z : S96x3072.Idx => (z 1).val) hz
  have hz0 : (z 0).val < 96 := (z 0).isLt
  rw [hz]
  show _ = buf A B (o + (y 0).val) (y 1)
  by_cases h : o + (y 0).val < 32
  · have he : (Rect.unit (s := S96x3072) ![0, 0] ![32, 3072] inB).emb (ix2 ⟨o + (y 0).val, h⟩ (y 1)) = z := by
      funext a
      refine Fin.ext ?_
      match a with
      | ⟨0, _⟩ =>
        show 0 + 1 * (o + (y 0).val) = (z 0).val
        omega
      | ⟨1, _⟩ => exact z1
    rw [View.canon_cons_of_not_mem _ _ (fun hm => by
      have h32 : 32 ≤ (z 0).val := ((Rect.mem_set_unit (s := S96x3072) (inb := inA)).mp hm (0 : Fin 2)).1
      omega), ← he, View.canon_cons_emb]
    exact (buf_lt A B _ _ h).symm
  · have he : (Rect.unit (s := S96x3072) ![32, 0] ![64, 3072] inA).emb
        (ix2 ⟨(o + (y 0).val - 32) % 64, Nat.mod_lt _ (by decide)⟩ (y 1)) = z := by
      funext a
      refine Fin.ext ?_
      match a with
      | ⟨0, _⟩ =>
        show 32 + 1 * ((o + (y 0).val - 32) % 64) = (z 0).val
        omega
      | ⟨1, _⟩ => exact z1
    rw [← he, View.canon_cons_emb]
    exact (buf_ge A B _ _ h).symm

/-- A row of weights loaded. -/
theorem ldW (x : Vec Ideal S31x3072 .f32) (j : Nat) (inb) :
    View.ld x (Rect.unit (s := S31x3072) ![j, 0] ![1, 3072] inb) = wrow x j := by
  have hj : j < 31 := inb 0
  funext y
  refine View.ld_unit_apply_of x _ _ inb y (ix2 ⟨j % 31, Nat.mod_lt _ (by decide)⟩ (y 1)) fun a => ?_
  match a with
  | ⟨0, _⟩ =>
    have hy : (y 0).val < 1 := (y 0).isLt
    show j % 31 = j + (y 0).val
    omega
  | ⟨1, _⟩ => exact (Nat.zero_add _).symm

/-- Whether a grid point begins a sequence, as the kernel computes it. -/
def first (i : grid0.Coords) : BitVec 1 :=
  let v0 : BitVec 32 := Scalar.muli (BitVec.ofNat 32 (i 0).val) 64#32
  let v2 : BitVec 32 := Scalar.select (Scalar.cmpi .eq 8192#32 0#32) 1#32 8192#32
  let v3 : BitVec 32 := Scalar.remsi v0 v2
  let v8 : BitVec 1 := Scalar.andi (Scalar.xori (Scalar.cmpi .slt v3 0#32) (Scalar.cmpi .slt v2 0#32)) (Scalar.cmpi .ne v3 0#32)
  Scalar.cmpi .eq (Scalar.select v8 (Scalar.addi v3 v2) v3) 0#32

/-- A grid point begins a sequence when its number is a multiple of 128. -/
theorem first_eq : ∀ t : Fin cfg0.N, first (grid0.coords t) = if t.val % 128 = 0 then 1#1 else 0#1 :=
  (by decide +kernel : ∀ t : Fin grid0.N, _)

/-- The rows before the block, gated; zeros where a sequence begins. -/
theorem pay2_at (t : Fin cfg0.N) (a g : Vec Ideal S32x3072 .f32) (p : Fin 32) (e : Fin 3072) :
    k0_pay2 (grid0.coords t) a g (ix2 p e)
      = if t.val % 128 = 0 then 0 else a (ix2 p e) * Ideal.logistic (g (ix2 p e)) := by
  show (shapeCast S32x3072 (Scalar.select (first (grid0.coords t)) (broadcast S32x3072 (Scalar.ofBits (F := Ideal) .f32 0x00000000#32))
    (mulf a (logistic g))) shapeCasts_S32x3072_S32x3072 : FVec Ideal S32x3072 .f32) (ix2 p e) = _
  rw [first_eq]
  by_cases h : t.val % 128 = 0
  · rw [if_pos h, if_pos h]
    pointwise [Scalar.select]
    exact congrFun (if_pos rfl) _
  · rw [if_neg h, if_neg h]
    pointwise [Scalar.select]
    exact congrFun (if_neg (by decide)) _

/-- The block's own rows, gated. -/
theorem pay3_at (a g : Vec Ideal S64x3072 .f32) (p : Fin 64) (e : Fin 3072) :
    k0_pay3 a g (ix2 p e) = a (ix2 p e) * Ideal.logistic (g (ix2 p e)) := by
  pointwise [k0_pay3]

end Cert.Proof.ConvBlock

end
-- ==== Proof.ConvValue.lean ====
/-
  THE CONVOLUTION MODULE, at the ideal instance: block by block the kernel gates its rows and the rows before them, adds the
  taps, normalises and passes each entry through the sigmoid-weighted unit — what the plain formula computes.
-/
module

public import proofs.«01_k».proof.Proof.ConvBlock

@[expose] public section

set_option maxRecDepth 16384

noncomputable section

namespace Cert.Proof.ConvValue

open Cert.ConvIdeal Cert.ConvIdeal.Gen Idealize.ShloMosaic Idealize.ShloMosaic.TcCoe Idealize.SL.Sem
open Cert.Proof.ConvBlock
open Cert.Proof.ConvRef (acc acc_congr gate tap conv mean norm silu ref ref_at)
open scoped BigOperators

variable (m : (ℓ : Loc nD τ sig) → Buf (Elt Ideal) ℓ)

/-- Where each window's block sits at grid point `t`. -/
theorem idx0 : ∀ t : Fin cfg0.N, win0_0.index t = ![t.val, 0] :=
  (by decide +kernel : ∀ t : Fin grid0.N, _)
theorem idx1 : ∀ t : Fin cfg0.N, win0_1.index t = ![t.val, 1] :=
  (by decide +kernel : ∀ t : Fin grid0.N, _)
theorem idx2 : ∀ t : Fin cfg0.N, win0_2.index t = ![2 * t.val - 1, 0] :=
  (by decide +kernel : ∀ t : Fin grid0.N, _)
theorem idx3 : ∀ t : Fin cfg0.N, win0_3.index t = ![2 * t.val - 1, 1] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![t.val, 0] :=
  (by decide +kernel : ∀ t : Fin grid0.N, _)

/-- Row `p` of grid point `t`'s block is this row of the array. -/
def row (t : Fin cfg0.N) (p : Fin 64) : Fin 16384 :=
  ⟨t.val * 64 + p.val, by have h : t.val < 256 := t.isLt; omega⟩

/-- Row `p` of the rows before grid point `t`'s block is this row of the array. -/
def prev (t : Fin cfg0.N) (p : Fin 32) : Fin 16384 :=
  ⟨(2 * t.val - 1) * 32 + p.val, by have h : t.val < 256 := t.isLt; omega⟩

/-- The convolution's bias, as the kernel is given it. -/
theorem bias (c : Dev nD) : V m c main_v0 = shapeCast S1x3072 (m ((c : Thread nD τ).loc main_arg2)) shapeCasts_S3072_S1x3072 := by
  dsimp only [V, hostOps0]
  after_results
  rfl

/-- The normalisation's gain, as the kernel is given it. -/
theorem gains (c : Dev nD) : V m c main_v1 = shapeCast S1x3072 (m ((c : Thread nD τ).loc main_arg3)) shapeCasts_S3072_S1x3072 := by
  dsimp only [V, hostOps0]
  after_results
  rfl

/-- The normalisation's shift, as the kernel is given it. -/
theorem shifts (c : Dev nD) : V m c main_v2 = shapeCast S1x3072 (m ((c : Thread nD τ).loc main_arg4)) shapeCasts_S3072_S1x3072 := by
  dsimp only [V, hostOps0]
  after_results
  rfl

/-- An entry of the block's own rows. -/
theorem block0 (c : Dev nD) (t : Fin cfg0.N) (p : Fin 64) (e : Fin 3072) :
    X0_0 m c t (ix2 p e) = m ((c : Thread nD τ).loc main_arg0) (ix2 (row t p) ⟨e.val, by omega⟩) := by
  unfold X0_0 Pipeline.Window.fill
  rw [dif_pos (moved0_0 t _)]
  blk_point [iblk, V, idx0 t, row]

/-- The gate of the block's own rows. -/
theorem block1 (c : Dev nD) (t : Fin cfg0.N) (p : Fin 64) (e : Fin 3072) :
    X0_1 m c t (ix2 p e) = m ((c : Thread nD τ).loc main_arg0) (ix2 (row t p) ⟨3072 + e.val, by omega⟩) := by
  unfold X0_1 Pipeline.Window.fill
  rw [dif_pos (moved0_1 t _)]
  blk_point [iblk, V, idx1 t, row]

/-- The rows before the block. -/
theorem block2 (c : Dev nD) (t : Fin cfg0.N) (p : Fin 32) (e : Fin 3072) :
    X0_2 m c t (ix2 p e) = m ((c : Thread nD τ).loc main_arg0) (ix2 (prev t p) ⟨e.val, by omega⟩) := by
  unfold X0_2 Pipeline.Window.fill
  rw [dif_pos (moved0_2 t _)]
  blk_point [iblk, V, idx2 t, prev]

/-- The gate of the rows before the block. -/
theorem block3 (c : Dev nD) (t : Fin cfg0.N) (p : Fin 32) (e : Fin 3072) :
    X0_3 m c t (ix2 p e) = m ((c : Thread nD τ).loc main_arg0) (ix2 (prev t p) ⟨3072 + e.val, by omega⟩) := by
  unfold X0_3 Pipeline.Window.fill
  rw [dif_pos (moved0_3 t _)]
  blk_point [iblk, V, idx3 t, prev]

/-- The taps' weights. -/
theorem block4 (c : Dev nD) (t : Fin cfg0.N) (j : Fin 31) (e : Fin 3072) :
    iblk m c 4 t (ix2 j e) = m ((c : Thread nD τ).loc main_arg1) (ix2 j e) := by
  blk_point [iblk, V, idx4 t]

/-- The bias. -/
theorem block5 (c : Dev nD) (t : Fin cfg0.N) (e : Fin 3072) :
    iblk m c 5 t (ix2 0 e) = m ((c : Thread nD τ).loc main_arg2) (ix1 e) := by
  have h : iblk m c 5 t (ix2 0 e) = V m c main_v0 (ix2 0 e) := by
    blk_point [iblk, idx5 t]
  rw [h, bias]
  pointwise

/-- The gain. -/
theorem block6 (c : Dev nD) (t : Fin cfg0.N) (e : Fin 3072) :
    iblk m c 6 t (ix2 0 e) = m ((c : Thread nD τ).loc main_arg3) (ix1 e) := by
  have h : iblk m c 6 t (ix2 0 e) = V m c main_v1 (ix2 0 e) := by
    blk_point [iblk, idx6 t]
  rw [h, gains]
  pointwise

/-- The shift. -/
theorem block7 (c : Dev nD) (t : Fin cfg0.N) (e : Fin 3072) :
    iblk m c 7 t (ix2 0 e) = m ((c : Thread nD τ).loc main_arg4) (ix1 e) := by
  have h : iblk m c 7 t (ix2 0 e) = V m c main_v2 (ix2 0 e) := by
    blk_point [iblk, idx7 t]
  rw [h, shifts]
  pointwise

/-- What the buffer holds at grid point `t`. -/
def held (c : Dev nD) (t : Fin cfg0.N) : Nat → Fin 3072 → EReal :=
  buf (k0_pay3 (X0_0 m c t) (X0_1 m c t)) (k0_pay2 (grid0.coords t) (X0_2 m c t) (X0_3 m c t))

/-- The sequence a grid point's rows belong to. -/
def seq (t : Fin cfg0.N) : Fin 2 := ⟨t.val / 128, by have h : t.val < 256 := t.isLt; omega⟩

/-- The buffer's rows are the gated products of the sequence, from two places before the block's first window on. -/
theorem held_at (c : Dev nD) (t : Fin cfg0.N) (k : Nat) (hk : k < 94) (e : Fin 3072) :
    held m c t (2 + k) e = gate (m ((c : Thread nD τ).loc main_arg0)) (seq t) (t.val % 128 * 64 + k) e := by
  have ht : t.val < 256 := t.isLt
  unfold held gate
  by_cases h : 2 + k < 32
  · rw [buf_lt _ _ _ _ h, pay2_at]
    by_cases h0 : t.val % 128 = 0
    · rw [if_pos h0, dif_neg (by omega)]
    · rw [if_neg h0, dif_pos (by omega), block2, block3]
      have hr : prev t ⟨2 + k, h⟩ = ⟨(seq t).val * 8192 + (t.val % 128 * 64 + k - 30), by dsimp only [seq]; omega⟩ :=
        Fin.ext (by dsimp only [prev, seq]; omega)
      rw [hr]
      rfl
  · rw [buf_ge _ _ _ _ h, pay3_at, dif_pos (by omega), block0, block1]
    have hr : row t ⟨(2 + k - 32) % 64, Nat.mod_lt _ (by decide)⟩
        = ⟨(seq t).val * 8192 + (t.val % 128 * 64 + k - 30), by dsimp only [seq]; omega⟩ :=
      Fin.ext (by dsimp only [row, seq]; omega)
    rw [hr]
    rfl

/-- Sixteen rows of a block are the reference's. -/
theorem chunk_ref (c : Dev nD) (t : Fin cfg0.N) (o : Nat) (p : Fin 16) (e : Fin 3072) (q : Fin 64) (hq : q.val = o + p.val) :
    chunk (fun j => rows (held m c t) (o + 2 + j)) (fun j => wrow (iblk m c 4 t) j) (iblk m c 5 t) (iblk m c 6 t)
      (iblk m c 7 t) (ix2 p e)
      = ref (m ((c : Thread nD τ).loc main_arg0)) (m ((c : Thread nD τ).loc main_arg1)) (m ((c : Thread nD τ).loc main_arg2))
        (m ((c : Thread nD τ).loc main_arg3)) (m ((c : Thread nD τ).loc main_arg4)) (ix2 (row t q) e) := by
  have ht : t.val < 256 := t.isLt
  rw [chunk_at, ref_at]
  have hb : (⟨(row t q).val / 8192, by omega⟩ : Fin 2) = seq t := Fin.ext (by dsimp only [row, seq]; omega)
  have hs : (row t q).val % 8192 = t.val % 128 * 64 + q.val := by dsimp only [row]; omega
  rw [hb, hs]
  simp only [block5, block6, block7]
  refine congrArg (fun f => silu (norm f _ _ e)) (funext fun e => congrArg (· + _) (acc_congr _ _ _ fun j hj => ?_))
  have hx : rows (held m c t) (o + 2 + j) (ix2 p e)
      = gate (m ((c : Thread nD τ).loc main_arg0)) (seq t) (t.val % 128 * 64 + q.val + j) e := by
    have hk : o + 2 + j + p.val = 2 + (q.val + j) := by omega
    show held m c t (o + 2 + j + p.val) e = _
    rw [hk, held_at m c t _ (by omega), Nat.add_assoc]
  have hw : wrow (iblk m c 4 t) j (ix2 0 e) = tap (m ((c : Thread nD τ).loc main_arg1)) j e := block4 m c t _ e
  exact congrArg₂ (· * ·) hx hw

/-- An entry of the output's block sits at this entry of the array. -/
theorem emb8 {α : Type} (f : S16384x3072.Idx → α) (t : Fin cfg0.N) (y : S64x3072.Idx) (q : Fin 64) (e : Fin 3072)
    (hq : q.val = (y 0).val) (he : e.val = (y 1).val) :
    f ((win0_8.blk t).view.emb y) = f (ix2 (row t q) e) := by
  blk_point [idx8 t, row]

set_option maxHeartbeats 2000000 in
/-- The array the kernel leaves is the reference's term of the argument arrays. -/
theorem final (c : Dev nD) : (dats m 0 c).arrAt 8 cfg0.N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp
  rw [after0_8]
  unfold outsAt0
  frame_out
  canon_tiles x h
  case piece0 =>
    obtain ⟨p, e, rfl⟩ : ∃ p e, x = ix2 p e := ⟨x 0, x 1, eq_ix2 x⟩
    refine Eq.trans ?_ (emb8 _ t y ⟨(y 0).val, (y 0).isLt⟩ e rfl h1.symm).symm
    refine Eq.trans ?_ (chunk_ref m c t 48 p e ⟨(y 0).val, (y 0).isLt⟩ h0)
    simp only [ldB, ldW]
    rfl
  case piece1 =>
    obtain ⟨p, e, rfl⟩ : ∃ p e, x = ix2 p e := ⟨x 0, x 1, eq_ix2 x⟩
    refine Eq.trans ?_ (emb8 _ t y ⟨(y 0).val, (y 0).isLt⟩ e rfl h1.symm).symm
    refine Eq.trans ?_ (chunk_ref m c t 32 p e ⟨(y 0).val, (y 0).isLt⟩ h0)
    simp only [ldB, ldW]
    rfl
  case piece2 =>
    obtain ⟨p, e, rfl⟩ : ∃ p e, x = ix2 p e := ⟨x 0, x 1, eq_ix2 x⟩
    refine Eq.trans ?_ (emb8 _ t y ⟨(y 0).val, (y 0).isLt⟩ e rfl h1.symm).symm
    refine Eq.trans ?_ (chunk_ref m c t 16 p e ⟨(y 0).val, (y 0).isLt⟩ h0)
    simp only [ldB, ldW]
    rfl
  case piece3 =>
    obtain ⟨p, e, rfl⟩ : ∃ p e, x = ix2 p e := ⟨x 0, x 1, eq_ix2 x⟩
    refine Eq.trans ?_ (emb8 _ t y ⟨(y 0).val, (y 0).isLt⟩ e rfl h1.symm).symm
    refine Eq.trans ?_ (chunk_ref m c t 0 p e ⟨(y 0).val, (y 0).isLt⟩ (h0.trans (Nat.zero_add _).symm))
    simp only [ldB, ldW]
    rfl

end Cert.Proof.ConvValue

end
-- ==== Proof.lean ====
/- The proof of the certificate's claim: the frames are the generated runs, every `preserves` is trivial, and every
   `algebraic` claim joins the kernel call's run to the plain formula's run by the value theorem of its own module. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.AttentionValue
public import proofs.«01_k».proof.Proof.Gen.MlpIn
public import proofs.«01_k».proof.Proof.Gen.MlpIn.Frame
public import proofs.«01_k».proof.Proof.Gen.MlpInIdeal
public import proofs.«01_k».proof.Proof.Gen.MlpInIdeal.Frame
public import proofs.«01_k».proof.Proof.Gen.MlpInRefIdeal
public import proofs.«01_k».proof.Proof.Gen.MlpInIdeal.Value
public import proofs.«01_k».proof.Proof.Gen.MlpInRefIdeal.Run
public import proofs.«01_k».proof.Proof.MlpInValue
public import proofs.«01_k».proof.Proof.Gen.MlpOut
public import proofs.«01_k».proof.Proof.Gen.MlpOut.Frame
public import proofs.«01_k».proof.Proof.Gen.MlpOutIdeal
public import proofs.«01_k».proof.Proof.Gen.MlpOutIdeal.Frame
public import proofs.«01_k».proof.Proof.Gen.MlpOutRefIdeal
public import proofs.«01_k».proof.Proof.Gen.MlpOutIdeal.Value
public import proofs.«01_k».proof.Proof.Gen.MlpOutRefIdeal.Run
public import proofs.«01_k».proof.Proof.MlpOutValue
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.OutProjValue
public import proofs.«01_k».proof.Proof.Gen.AIn
public import proofs.«01_k».proof.Proof.Gen.AIn.Frame
public import proofs.«01_k».proof.Proof.Gen.AInIdeal
public import proofs.«01_k».proof.Proof.Gen.AInIdeal.Frame
public import proofs.«01_k».proof.Proof.Gen.AInRefIdeal
public import proofs.«01_k».proof.Proof.Gen.AInIdeal.Value
public import proofs.«01_k».proof.Proof.Gen.AInRefIdeal.Run
public import proofs.«01_k».proof.Proof.AInValue
public import proofs.«01_k».proof.Proof.Gen.BIn
public import proofs.«01_k».proof.Proof.Gen.BIn.Frame
public import proofs.«01_k».proof.Proof.Gen.BInIdeal
public import proofs.«01_k».proof.Proof.Gen.BInIdeal.Frame
public import proofs.«01_k».proof.Proof.Gen.BInRefIdeal
public import proofs.«01_k».proof.Proof.Gen.BInIdeal.Value
public import proofs.«01_k».proof.Proof.Gen.BInRefIdeal.Run
public import proofs.«01_k».proof.Proof.BInValue
public import proofs.«01_k».proof.Proof.Gen.QProj
public import proofs.«01_k».proof.Proof.Gen.QProj.Frame
public import proofs.«01_k».proof.Proof.Gen.QProjIdeal
public import proofs.«01_k».proof.Proof.Gen.QProjIdeal.Frame
public import proofs.«01_k».proof.Proof.Gen.QProjRefIdeal
public import proofs.«01_k».proof.Proof.Gen.QProjIdeal.Value
public import proofs.«01_k».proof.Proof.Gen.QProjRefIdeal.Run
public import proofs.«01_k».proof.Proof.QProjValue
public import proofs.«01_k».proof.Proof.Gen.KvUp
public import proofs.«01_k».proof.Proof.Gen.KvUp.Frame
public import proofs.«01_k».proof.Proof.Gen.KvUpIdeal
public import proofs.«01_k».proof.Proof.Gen.KvUpIdeal.Frame
public import proofs.«01_k».proof.Proof.Gen.KvUpRefIdeal
public import proofs.«01_k».proof.Proof.Gen.KvUpIdeal.Value
public import proofs.«01_k».proof.Proof.Gen.KvUpRefIdeal.Run
public import proofs.«01_k».proof.Proof.KvUpValue
public import proofs.«01_k».proof.Proof.Gen.KvDown
public import proofs.«01_k».proof.Proof.Gen.KvDown.Frame
public import proofs.«01_k».proof.Proof.Gen.KvDownIdeal
public import proofs.«01_k».proof.Proof.Gen.KvDownIdeal.Frame
public import proofs.«01_k».proof.Proof.Gen.KvDownRefIdeal
public import proofs.«01_k».proof.Proof.Gen.KvDownIdeal.Value
public import proofs.«01_k».proof.Proof.Gen.KvDownRefIdeal.Run
public import proofs.«01_k».proof.Proof.KvDownValue
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvIdeal.Value
public import proofs.«01_k».proof.Proof.Gen.MemKvRefIdeal.Run
public import proofs.«01_k».proof.Proof.MemKvValue
public import proofs.«01_k».proof.Proof.Gen.MemA
public import proofs.«01_k».proof.Proof.Gen.MemA.Frame
public import proofs.«01_k».proof.Proof.Gen.MemAIdeal
public import proofs.«01_k».proof.Proof.Gen.MemAIdeal.Frame
public import proofs.«01_k».proof.Proof.Gen.MemARefIdeal
public import proofs.«01_k».proof.Proof.Gen.MemAIdeal.Value
public import proofs.«01_k».proof.Proof.Gen.MemARefIdeal.Run
public import proofs.«01_k».proof.Proof.MemAValue
public import proofs.«01_k».proof.Proof.Gen.MemB
public import proofs.«01_k».proof.Proof.Gen.MemB.Frame
public import proofs.«01_k».proof.Proof.Gen.MemBIdeal
public import proofs.«01_k».proof.Proof.Gen.MemBIdeal.Frame
public import proofs.«01_k».proof.Proof.Gen.MemBRefIdeal
public import proofs.«01_k».proof.Proof.Gen.MemBIdeal.Value
public import proofs.«01_k».proof.Proof.Gen.MemBRefIdeal.Run
public import proofs.«01_k».proof.Proof.MemBValue
public import proofs.«01_k».proof.Proof.Gen.NormOne
public import proofs.«01_k».proof.Proof.Gen.NormOne.Frame
public import proofs.«01_k».proof.Proof.Gen.NormOneIdeal
public import proofs.«01_k».proof.Proof.Gen.NormOneIdeal.Frame
public import proofs.«01_k».proof.Proof.Gen.NormOneRefIdeal
public import proofs.«01_k».proof.Proof.Gen.NormOneIdeal.Value
public import proofs.«01_k».proof.Proof.Gen.NormOneRefIdeal.Run
public import proofs.«01_k».proof.Proof.NormOneValue
public import proofs.«01_k».proof.Proof.Gen.NormTwo
public import proofs.«01_k».proof.Proof.Gen.NormTwo.Frame
public import proofs.«01_k».proof.Proof.Gen.NormTwoIdeal
public import proofs.«01_k».proof.Proof.Gen.NormTwoIdeal.Frame
public import proofs.«01_k».proof.Proof.Gen.NormTwoRefIdeal
public import proofs.«01_k».proof.Proof.Gen.NormTwoIdeal.Value
public import proofs.«01_k».proof.Proof.Gen.NormTwoRefIdeal.Run
public import proofs.«01_k».proof.Proof.NormTwoValue
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.ConvValue
public import proofs.«01_k».proof.Proof.Gen.Pre_finite
public import proofs.«01_k».proof.Proof.Gen.Pre_finite_a
public import proofs.«01_k».proof.Proof.Gen.Pre_finite_b
public import Idealize.ShloMosaic.Adequacy
public import Idealize.ShloMosaic.Init

@[expose] public section

set_option maxRecDepth 16384

noncomputable section

namespace Cert.Proof

open Idealize.ShloMosaic Idealize.SL.Sem

/-- The attention: the kernel's sweep over blocks of keys and the plain softmax end with the same array. -/
theorem kernel_value [Cert.KernelIdeal.Facts] [Cert.ReferenceIdeal.Facts] [Cert.Pre_finite.Facts] : Cert.algebraic_KernelIdeal_ReferenceIdeal_pre_finite := by
  pair_intro
  · run_from Cert.KernelIdeal.Value.run_blocks m g
  · run_from Cert.ReferenceIdeal.Value.run m' g'
    refine (Cert.Proof.AttentionRef.res_eq m' c).trans ?_
    rw [(hagree c).1, (hagree c).2.1, (hagree c).2.2]
    exact (Cert.Proof.AttentionValue.final m c hpre).symm

/-- The first half of the feed-forward block: the kernel's call and the plain formula end with the same array. -/
theorem mlpIn_value [Cert.MlpInIdeal.Facts] [Cert.MlpInRefIdeal.Facts] : Cert.algebraic_MlpInIdeal_MlpInRefIdeal := by
  pair_intro
  · run_from Cert.MlpInIdeal.Value.run_blocks m g
  · run_from Cert.MlpInRefIdeal.Value.run m' g'
    exact (Cert.Proof.MlpInValue.final m c).symm

/-- The second half of the feed-forward block: the kernel's call and the plain formula end with the same array. -/
theorem mlpOut_value [Cert.MlpOutIdeal.Facts] [Cert.MlpOutRefIdeal.Facts] : Cert.algebraic_MlpOutIdeal_MlpOutRefIdeal := by
  pair_intro
  · run_from Cert.MlpOutIdeal.Value.run_blocks m g
  · run_from Cert.MlpOutRefIdeal.Value.run m' g'
    exact (Cert.Proof.MlpOutValue.final m c).symm

/-- The mixers' out-projection: the kernel's call and the plain formula end with the same array. -/
theorem outProj_value [Cert.OutProjIdeal.Facts] [Cert.OutProjRefIdeal.Facts] : Cert.algebraic_OutProjIdeal_OutProjRefIdeal := by
  pair_intro
  · run_from Cert.OutProjIdeal.Value.run_blocks m g
  · run_from Cert.OutProjRefIdeal.Value.run m' g'
    exact (Cert.Proof.OutProjValue.final m c).symm

/-- The first layer's in-projection: the kernel's call and the plain product end with the same array. -/
theorem aIn_value [Cert.AInIdeal.Facts] [Cert.AInRefIdeal.Facts] : Cert.algebraic_AInIdeal_AInRefIdeal := by
  pair_intro
  · run_from Cert.AInIdeal.Value.run_blocks m g
  · run_from Cert.AInRefIdeal.Value.run m' g'
    exact (Cert.Proof.AInValue.final m c).symm

/-- The second layer's in-projection: the kernel's call and the plain product end with the same array. -/
theorem bIn_value [Cert.BInIdeal.Facts] [Cert.BInRefIdeal.Facts] : Cert.algebraic_BInIdeal_BInRefIdeal := by
  pair_intro
  · run_from Cert.BInIdeal.Value.run_blocks m g
  · run_from Cert.BInRefIdeal.Value.run m' g'
    exact (Cert.Proof.BInValue.final m c).symm

/-- The queries: the kernel's call and the plain formula end with the same array. -/
theorem qProj_value [Cert.QProjIdeal.Facts] [Cert.QProjRefIdeal.Facts] : Cert.algebraic_QProjIdeal_QProjRefIdeal := by
  pair_intro
  · run_from Cert.QProjIdeal.Value.run_blocks m g
  · run_from Cert.QProjRefIdeal.Value.run m' g'
    refine (Cert.Proof.QProjRef.res_eq m' c).trans ?_
    rw [(hagree c).1, (hagree c).2.1, (hagree c).2.2.1, (hagree c).2.2.2.1, (hagree c).2.2.2.2.1, (hagree c).2.2.2.2.2]
    exact (Cert.Proof.QProjValue.final m c).symm

/-- The up-projection: the kernel's keys and values and the plain formula's are the same arrays. -/
theorem kvUp_value [Cert.KvUpIdeal.Facts] [Cert.KvUpRefIdeal.Facts] : Cert.algebraic_KvUpIdeal_KvUpRefIdeal := by
  pair_intro
  · run_from Cert.KvUpIdeal.Value.run_blocks m g
  · run_from Cert.KvUpRefIdeal.Value.run m' g'
    · rw [(hagree c).2.2.2]
      exact (Cert.Proof.KvUpValue.final5 m c).symm
    · exact (Cert.Proof.KvUpValue.final6 m c).symm

/-- The down-projection: the kernel's latent and rotary half and the plain formula's are the same arrays. -/
theorem kvDown_value [Cert.KvDownIdeal.Facts] [Cert.KvDownRefIdeal.Facts] : Cert.algebraic_KvDownIdeal_KvDownRefIdeal := by
  pair_intro
  · run_from Cert.KvDownIdeal.Value.run_blocks m g
  · run_from Cert.KvDownRefIdeal.Value.run m' g'
    · exact (Cert.Proof.KvDownValue.final6 m c).symm
    · refine (Cert.Proof.KvDownRef.res_eq m' c).trans ?_
      rw [(hagree c).1, (hagree c).2.1, (hagree c).2.2.2.1, (hagree c).2.2.2.2]
      exact (Cert.Proof.KvDownValue.final7 m c).symm

/-- The memory's keys and values: the kernel's call and the plain formula end with the same array. -/
theorem memKv_value [Cert.MemKvIdeal.Facts] [Cert.MemKvRefIdeal.Facts] : Cert.algebraic_MemKvIdeal_MemKvRefIdeal := by
  pair_intro
  · run_from Cert.MemKvIdeal.Value.run_blocks m g
  · run_from Cert.MemKvRefIdeal.Value.run m' g'
    refine (Cert.Proof.MemKvRef.res_eq m' c).trans ?_
    rw [(hagree c).1, (hagree c).2.1, (hagree c).2.2.1, (hagree c).2.2.2]
    exact (Cert.Proof.MemKvValue.final m c).symm

/-- The first layer's reading of the memory: the kernel's call and the plain softmax end with the same array. -/
theorem memA_value [Cert.MemAIdeal.Facts] [Cert.MemARefIdeal.Facts] [Cert.Pre_finite_a.Facts] : Cert.algebraic_MemAIdeal_MemARefIdeal_pre_finite_a := by
  pair_intro
  · run_from Cert.MemAIdeal.Value.run_blocks m g
  · run_from Cert.MemARefIdeal.Value.run m' g'
    refine (Cert.Proof.MemARef.res_eq m' c).trans ?_
    rw [(hagree c).1, (hagree c).2.1, (hagree c).2.2]
    exact (Cert.Proof.MemAValue.final m c hpre).symm

/-- The second layer's reading of the memory: the kernel's call and the plain softmax end with the same array. -/
theorem memB_value [Cert.MemBIdeal.Facts] [Cert.MemBRefIdeal.Facts] [Cert.Pre_finite_b.Facts] : Cert.algebraic_MemBIdeal_MemBRefIdeal_pre_finite_b := by
  pair_intro
  · run_from Cert.MemBIdeal.Value.run_blocks m g
  · run_from Cert.MemBRefIdeal.Value.run m' g'
    refine (Cert.Proof.MemBRef.res_eq m' c).trans ?_
    rw [(hagree c).1, (hagree c).2.1, (hagree c).2.2]
    exact (Cert.Proof.MemBValue.final m c hpre).symm

/-- The normalisation with one gain: the kernel's call and the plain formula end with the same array. -/
theorem normOne_value [Cert.NormOneIdeal.Facts] [Cert.NormOneRefIdeal.Facts] : Cert.algebraic_NormOneIdeal_NormOneRefIdeal := by
  pair_intro
  · run_from Cert.NormOneIdeal.Value.run_blocks m g
  · run_from Cert.NormOneRefIdeal.Value.run m' g'
    exact (Cert.Proof.NormOneValue.final m c).symm

/-- The normalisation with two gains: the kernel's call and the plain formula end with the same two arrays. -/
theorem normTwo_value [Cert.NormTwoIdeal.Facts] [Cert.NormTwoRefIdeal.Facts] : Cert.algebraic_NormTwoIdeal_NormTwoRefIdeal := by
  pair_intro
  · run_from Cert.NormTwoIdeal.Value.run_blocks m g
  · run_from Cert.NormTwoRefIdeal.Value.run m' g'
    · exact (Cert.Proof.NormTwoValue.final2 m c).symm
    · exact (Cert.Proof.NormTwoValue.final3 m c).symm

/-- The convolution module of the first layer: the kernel's call and the plain formula end with the same array. -/
theorem conv_value [Cert.ConvIdeal.Facts] [Cert.ConvRefIdeal.Facts] : Cert.algebraic_ConvIdeal_ConvRefIdeal := by
  pair_intro
  · run_from Cert.ConvIdeal.Value.run_blocks m g
  · run_from Cert.ConvRefIdeal.Value.run m' g'
    refine (Cert.Proof.ConvRef.res_eq m' c).trans ?_
    rw [(hagree c).1, (hagree c).2.1, (hagree c).2.2.1, (hagree c).2.2.2.1, (hagree c).2.2.2.2]
    exact (Cert.Proof.ConvValue.final m c).symm

/-- Everything the certificate states. -/
theorem claim : Cert.Claim := ⟨Cert.Kernel.Gen.facts,
  Cert.KernelIdeal.Gen.facts,
  Cert.ReferenceIdeal.Gen.facts,
  Cert.MlpIn.Gen.facts,
  Cert.MlpInIdeal.Gen.facts,
  Cert.MlpInRefIdeal.Gen.facts,
  Cert.MlpOut.Gen.facts,
  Cert.MlpOutIdeal.Gen.facts,
  Cert.MlpOutRefIdeal.Gen.facts,
  Cert.OutProj.Gen.facts,
  Cert.OutProjIdeal.Gen.facts,
  Cert.OutProjRefIdeal.Gen.facts,
  Cert.AIn.Gen.facts,
  Cert.AInIdeal.Gen.facts,
  Cert.AInRefIdeal.Gen.facts,
  Cert.BIn.Gen.facts,
  Cert.BInIdeal.Gen.facts,
  Cert.BInRefIdeal.Gen.facts,
  Cert.QProj.Gen.facts,
  Cert.QProjIdeal.Gen.facts,
  Cert.QProjRefIdeal.Gen.facts,
  Cert.KvUp.Gen.facts,
  Cert.KvUpIdeal.Gen.facts,
  Cert.KvUpRefIdeal.Gen.facts,
  Cert.KvDown.Gen.facts,
  Cert.KvDownIdeal.Gen.facts,
  Cert.KvDownRefIdeal.Gen.facts,
  Cert.MemKv.Gen.facts,
  Cert.MemKvIdeal.Gen.facts,
  Cert.MemKvRefIdeal.Gen.facts,
  Cert.MemA.Gen.facts,
  Cert.MemAIdeal.Gen.facts,
  Cert.MemARefIdeal.Gen.facts,
  Cert.MemB.Gen.facts,
  Cert.MemBIdeal.Gen.facts,
  Cert.MemBRefIdeal.Gen.facts,
  Cert.NormOne.Gen.facts,
  Cert.NormOneIdeal.Gen.facts,
  Cert.NormOneRefIdeal.Gen.facts,
  Cert.NormTwo.Gen.facts,
  Cert.NormTwoIdeal.Gen.facts,
  Cert.NormTwoRefIdeal.Gen.facts,
  Cert.Conv.Gen.facts,
  Cert.ConvIdeal.Gen.facts,
  Cert.ConvRefIdeal.Gen.facts,
  Cert.Pre_finite.Gen.facts,
  Cert.Pre_finite_a.Gen.facts,
  Cert.Pre_finite_b.Gen.facts,
  fun m ρ _ => Cert.Kernel.Gen.frame m ρ,
  fun m ρ _ => Cert.KernelIdeal.Gen.frame m ρ,
  fun m ρ _ => Cert.KernelIdeal.Gen.frame m ρ,
  fun m g _ => (θ_run Cert.ReferenceIdeal.defs _ _).mono (fun r h => ⟨fun c => (h c).2, sem_eq_zero_of_no_sems (by decide) r.2⟩)
    (Cert.ReferenceIdeal.Value.run m g),
  fun m g _ => (θ_run Cert.ReferenceIdeal.defs _ _).mono (fun r h => ⟨fun c => (h c).2, sem_eq_zero_of_no_sems (by decide) r.2⟩)
    (Cert.ReferenceIdeal.Value.run m g),
  fun m ρ _ => Cert.MlpIn.Gen.frame m ρ,
  fun m ρ _ => Cert.MlpInIdeal.Gen.frame m ρ,
  fun m g _ => (θ_run Cert.MlpInRefIdeal.defs _ _).mono (fun r h => ⟨fun c => (h c).2, sem_eq_zero_of_no_sems (by decide) r.2⟩)
    (Cert.MlpInRefIdeal.Value.run m g),
  fun m ρ _ => Cert.MlpOut.Gen.frame m ρ,
  fun m ρ _ => Cert.MlpOutIdeal.Gen.frame m ρ,
  fun m g _ => (θ_run Cert.MlpOutRefIdeal.defs _ _).mono (fun r h => ⟨fun c => (h c).2, sem_eq_zero_of_no_sems (by decide) r.2⟩)
    (Cert.MlpOutRefIdeal.Value.run m g),
  fun m ρ _ => Cert.OutProj.Gen.frame m ρ,
  fun m ρ _ => Cert.OutProjIdeal.Gen.frame m ρ,
  fun m g _ => (θ_run Cert.OutProjRefIdeal.defs _ _).mono (fun r h => ⟨fun c => (h c).2, sem_eq_zero_of_no_sems (by decide) r.2⟩)
    (Cert.OutProjRefIdeal.Value.run m g),
  fun m ρ _ => Cert.AIn.Gen.frame m ρ,
  fun m ρ _ => Cert.AInIdeal.Gen.frame m ρ,
  fun m g _ => (θ_run Cert.AInRefIdeal.defs _ _).mono (fun r h => ⟨fun c => (h c).2, sem_eq_zero_of_no_sems (by decide) r.2⟩)
    (Cert.AInRefIdeal.Value.run m g),
  fun m ρ _ => Cert.BIn.Gen.frame m ρ,
  fun m ρ _ => Cert.BInIdeal.Gen.frame m ρ,
  fun m g _ => (θ_run Cert.BInRefIdeal.defs _ _).mono (fun r h => ⟨fun c => (h c).2, sem_eq_zero_of_no_sems (by decide) r.2⟩)
    (Cert.BInRefIdeal.Value.run m g),
  fun m ρ _ => Cert.QProj.Gen.frame m ρ,
  fun m ρ _ => Cert.QProjIdeal.Gen.frame m ρ,
  fun m g _ => (θ_run Cert.QProjRefIdeal.defs _ _).mono (fun r h => ⟨fun c => (h c).2, sem_eq_zero_of_no_sems (by decide) r.2⟩)
    (Cert.QProjRefIdeal.Value.run m g),
  fun m ρ _ => Cert.KvUp.Gen.frame m ρ,
  fun m ρ _ => Cert.KvUpIdeal.Gen.frame m ρ,
  fun m g _ => (θ_run Cert.KvUpRefIdeal.defs _ _).mono (fun r h => ⟨fun c => (h c).2.2, sem_eq_zero_of_no_sems (by decide) r.2⟩)
    (Cert.KvUpRefIdeal.Value.run m g),
  fun m ρ _ => Cert.KvDown.Gen.frame m ρ,
  fun m ρ _ => Cert.KvDownIdeal.Gen.frame m ρ,
  fun m g _ => (θ_run Cert.KvDownRefIdeal.defs _ _).mono (fun r h => ⟨fun c => (h c).2.2, sem_eq_zero_of_no_sems (by decide) r.2⟩)
    (Cert.KvDownRefIdeal.Value.run m g),
  fun m ρ _ => Cert.MemKv.Gen.frame m ρ,
  fun m ρ _ => Cert.MemKvIdeal.Gen.frame m ρ,
  fun m g _ => (θ_run Cert.MemKvRefIdeal.defs _ _).mono (fun r h => ⟨fun c => (h c).2, sem_eq_zero_of_no_sems (by decide) r.2⟩)
    (Cert.MemKvRefIdeal.Value.run m g),
  fun m ρ _ => Cert.MemA.Gen.frame m ρ,
  fun m ρ _ => Cert.MemAIdeal.Gen.frame m ρ,
  fun m ρ _ => Cert.MemAIdeal.Gen.frame m ρ,
  fun m g _ => (θ_run Cert.MemARefIdeal.defs _ _).mono (fun r h => ⟨fun c => (h c).2, sem_eq_zero_of_no_sems (by decide) r.2⟩)
    (Cert.MemARefIdeal.Value.run m g),
  fun m g _ => (θ_run Cert.MemARefIdeal.defs _ _).mono (fun r h => ⟨fun c => (h c).2, sem_eq_zero_of_no_sems (by decide) r.2⟩)
    (Cert.MemARefIdeal.Value.run m g),
  fun m ρ _ => Cert.MemB.Gen.frame m ρ,
  fun m ρ _ => Cert.MemBIdeal.Gen.frame m ρ,
  fun m ρ _ => Cert.MemBIdeal.Gen.frame m ρ,
  fun m g _ => (θ_run Cert.MemBRefIdeal.defs _ _).mono (fun r h => ⟨fun c => (h c).2, sem_eq_zero_of_no_sems (by decide) r.2⟩)
    (Cert.MemBRefIdeal.Value.run m g),
  fun m g _ => (θ_run Cert.MemBRefIdeal.defs _ _).mono (fun r h => ⟨fun c => (h c).2, sem_eq_zero_of_no_sems (by decide) r.2⟩)
    (Cert.MemBRefIdeal.Value.run m g),
  fun m ρ _ => Cert.NormOne.Gen.frame m ρ,
  fun m ρ _ => Cert.NormOneIdeal.Gen.frame m ρ,
  fun m g _ => (θ_run Cert.NormOneRefIdeal.defs _ _).mono (fun r h => ⟨fun c => (h c).2, sem_eq_zero_of_no_sems (by decide) r.2⟩)
    (Cert.NormOneRefIdeal.Value.run m g),
  fun m ρ _ => Cert.NormTwo.Gen.frame m ρ,
  fun m ρ _ => Cert.NormTwoIdeal.Gen.frame m ρ,
  fun m g _ => (θ_run Cert.NormTwoRefIdeal.defs _ _).mono (fun r h => ⟨fun c => (h c).2.2, sem_eq_zero_of_no_sems (by decide) r.2⟩)
    (Cert.NormTwoRefIdeal.Value.run m g),
  fun m ρ _ => Cert.Conv.Gen.frame m ρ,
  fun m ρ _ => Cert.ConvIdeal.Gen.frame m ρ,
  fun m g _ => (θ_run Cert.ConvRefIdeal.defs _ _).mono (fun r h => ⟨fun c => (h c).2, sem_eq_zero_of_no_sems (by decide) r.2⟩)
    (Cert.ConvRefIdeal.Value.run m g),
  trivial,
  kernel_value,
  trivial,
  mlpIn_value,
  trivial,
  mlpOut_value,
  trivial,
  outProj_value,
  trivial,
  aIn_value,
  trivial,
  bIn_value,
  trivial,
  qProj_value,
  trivial,
  kvUp_value,
  trivial,
  kvDown_value,
  trivial,
  memKv_value,
  trivial,
  memA_value,
  trivial,
  memB_value,
  trivial,
  normOne_value,
  trivial,
  normTwo_value,
  trivial,
  conv_value⟩

end Cert.Proof

end
